-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  IdealRules.named_const.Statement Cert.Kernel2Ideal.κ "half_sqrt" .f32 0x3F3504F3#32 (((Real.sqrt 2)⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v26) = v0 c
          ∧ r.2.mem ((c.tc : Thread Cert.Reference3Ideal.nD Cert.Reference3Ideal.τ).loc Cert.Reference3Ideal.main_v28) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v17_0)) (v1 : (c : Dev Cert.Kernel4Ideal.nD) → Buf (Elt Ideal) ((c.tc : Thread Cert.Kernel4Ideal.nD Cert.Kernel4Ideal.τ).loc Cert.Kernel4Ideal.main_v17_1)) (v2 : (c : Dev Cert.Kernel4Ideal.nD) → Buf (Elt Ideal) ((c.tc : Thread Cert.Kernel4Ideal.nD Cert.Kernel4Ideal.τ).loc Cert.Kernel4Ideal.main_v17_2)) (v3 : (c : Dev Cert.Kernel4Ideal.nD) → Buf (Elt Ideal) ((c.tc : Thread Cert.Kernel4Ideal.nD Cert.Kernel4Ideal.τ).loc Cert.Kernel4Ideal.main_v17_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v17_0) = v0 c
          ∧ r.2.mem ((c.tc : Thread Cert.Kernel4Ideal.nD Cert.Kernel4Ideal.τ).loc Cert.Kernel4Ideal.main_v17_1) = v1 c
          ∧ r.2.mem ((c.tc : Thread Cert.Kernel4Ideal.nD Cert.Kernel4Ideal.τ).loc Cert.Kernel4Ideal.main_v17_2) = v2 c
          ∧ r.2.mem ((c.tc : Thread Cert.Kernel4Ideal.nD Cert.Kernel4Ideal.τ).loc Cert.Kernel4Ideal.main_v17_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v22) = v0 c
          ∧ r.2.mem ((c.tc : Thread Cert.Reference4Ideal.nD Cert.Reference4Ideal.τ).loc Cert.Reference4Ideal.main_v21) = v1 c
          ∧ r.2.mem ((c.tc : Thread Cert.Reference4Ideal.nD Cert.Reference4Ideal.τ).loc Cert.Reference4Ideal.main_v23) = v2 c
          ∧ r.2.mem ((c.tc : Thread Cert.Reference4Ideal.nD Cert.Reference4Ideal.τ).loc Cert.Reference4Ideal.main_v31) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S8x8x4096x128 : Shape := ⟨4, ![8, 8, 4096, 128]⟩
abbrev S8x8x16x80x256 : Shape := ⟨5, ![8, 8, 16, 80, 256]⟩
abbrev S8x4096x512 : Shape := ⟨3, ![8, 4096, 512]⟩
abbrev S1x8x256x128 : Shape := ⟨4, ![1, 8, 256, 128]⟩
abbrev S1x8x4096x128 : Shape := ⟨4, ![1, 8, 4096, 128]⟩
abbrev S1x8x16x80x256 : Shape := ⟨5, ![1, 8, 16, 80, 256]⟩
abbrev S1x256x512 : Shape := ⟨3, ![1, 256, 512]⟩
abbrev S8x80x256 : Shape := ⟨3, ![8, 80, 256]⟩
abbrev S8x1x256 : Shape := ⟨3, ![8, 1, 256]⟩
abbrev S2x8x256x256 : Shape := ⟨4, ![2, 8, 256, 256]⟩
abbrev S2x8x1x256 : Shape := ⟨4, ![2, 8, 1, 256]⟩
abbrev S1x256 : Shape := ⟨2, ![1, 256]⟩
abbrev S1x1x256 : Shape := ⟨3, ![1, 1, 256]⟩
abbrev S80x256 : Shape := ⟨2, ![80, 256]⟩
abbrev S1x80x256 : Shape := ⟨3, ![1, 80, 256]⟩
abbrev S1x1x256x128 : Shape := ⟨4, ![1, 1, 256, 128]⟩
abbrev S256x128 : Shape := ⟨2, ![256, 128]⟩
abbrev S256x256 : Shape := ⟨2, ![256, 256]⟩
abbrev S1x1x256x256 : Shape := ⟨4, ![1, 1, 256, 256]⟩
abbrev S256 : Shape := ⟨1, ![256]⟩
abbrev S1x1x1x256 : Shape := ⟨4, ![1, 1, 1, 256]⟩
abbrev S1x1x1x80x256 : Shape := ⟨5, ![1, 1, 1, 80, 256]⟩
abbrev S48x256 : Shape := ⟨2, ![48, 256]⟩
abbrev S128x256 : Shape := ⟨2, ![128, 256]⟩
abbrev S1x256x128 : Shape := ⟨3, ![1, 256, 128]⟩

abbrev nBuf : Space → Nat
  | .hbm => 4
  | .vmem => 14
  | .smem => 0
  | _ => 0

abbrev bufTy : (tb : Table) → Fin (tcTables nBuf tb) → BufTy
  | .hbm, ⟨0, _⟩ => ⟨S8x8x4096x128, .bf16⟩
  | .hbm, ⟨1, _⟩ => ⟨S8x8x4096x128, .bf16⟩
  | .hbm, ⟨2, _⟩ => ⟨S8x8x16x80x256, .bf16⟩
  | .hbm, ⟨3, _⟩ => ⟨S8x4096x512, .bf16⟩
  | .local _ .vmem, ⟨0, _⟩ => ⟨S1x8x256x128, .bf16⟩
  | .local _ .vmem, ⟨1, _⟩ => ⟨S1x8x256x128, .bf16⟩
  | .local _ .vmem, ⟨2, _⟩ => ⟨S1x8x4096x128, .bf16⟩
  | .local _ .vmem, ⟨3, _⟩ => ⟨S1x8x4096x128, .bf16⟩
  | .local _ .vmem, ⟨4, _⟩ => ⟨S1x8x16x80x256, .bf16⟩
  | .local _ .vmem, ⟨5, _⟩ => ⟨S1x8x16x80x256, .bf16⟩
  | .local _ .vmem, ⟨6, _⟩ => ⟨S1x256x512, .bf16⟩
  | .local _ .vmem, ⟨7, _⟩ => ⟨S1x256x512, .bf16⟩
  | .local _ .vmem, ⟨8, _⟩ => ⟨S8x80x256, .f32⟩
  | .local _ .vmem, ⟨9, _⟩ => ⟨S8x1x256, .f32⟩
  | .local _ .vmem, ⟨10, _⟩ => ⟨S2x8x256x256, .f32⟩
  | .local _ .vmem, ⟨11, _⟩ => ⟨S2x8x256x256, .bf16⟩
  | .local _ .vmem, ⟨12, _⟩ => ⟨S2x8x1x256, .f32⟩
  | .local _ .vmem, ⟨13, _⟩ => ⟨S2x8x1x256, .f32⟩
  | _, _ => ⟨S8x8x4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 16], ![false, false, false]⟩

def k0_mult1 (i : grid0.Coords) : BitVec 32 :=
  let v_true : BitVec 1 := 1#1
  let arg2 : BitVec 32 := BitVec.ofNat 32 (i 2).val
  let c_m1_i32 : BitVec 32 := 4294967295#32
  let c1_i32_55 : BitVec 32 := 1#32
  let v65 : BitVec 32 := Scalar.subi arg2 c1_i32_55
  let c0_i32 : BitVec 32 := 0#32
  let v66 : BitVec 32 := Scalar.maxsi v65 c0_i32
  let v67 : BitVec 32 := Scalar.minsi c_m1_i32 v66
  let v68 : BitVec 32 := Scalar.select v_true arg2 v67
  let c256_i32 : BitVec 32 := 256#32
  let v69 : BitVec 32 := Scalar.muli v68 c256_i32
  v69
def k0_off1 (i : grid0.Coords) (v_true : BitVec 1) (c_m1_i32 : BitVec 32) : Fin 4 → Nat :=
  let c0_56 : Index := 0#32
  let c0_57 : Index := 0#32
  let arg2 : BitVec 32 := BitVec.ofNat 32 (i 2).val
  let c1_i32_55 : BitVec 32 := 1#32
  let v65 : BitVec 32 := Scalar.subi arg2 c1_i32_55
  let c0_i32 : BitVec 32 := 0#32
  let v66 : BitVec 32 := Scalar.maxsi v65 c0_i32
  let v67 : BitVec 32 := Scalar.minsi c_m1_i32 v66
  let v68 : BitVec 32 := Scalar.select v_true arg2 v67
  let c256_i32 : BitVec 32 := 256#32
  let v69 : BitVec 32 := Scalar.muli v68 c256_i32
  let v70 : BitVec 32 := v69
  let v71 : Index := Scalar.indexCast v70
  let c0_58 : Index := 0#32
  ![0, 0, v71.toNat, 0]
def k0_off1_at (r : Fin 2) : BitVec 1 × BitVec 32 :=
  if r.val < 1 then
    (1#1, 4294967295#32)
  else
    (0#1, 0#32)
def k0_off2 (i : grid0.Coords) (v_true : BitVec 1) (c_m1_i32 : BitVec 32) : Fin 4 → Nat :=
  let c0_74 : Index := 0#32
  let c1_75 : Index := 1#32
  let arg2 : BitVec 32 := BitVec.ofNat 32 (i 2).val
  let c1_i32_55 : BitVec 32 := 1#32
  let v65 : BitVec 32 := Scalar.subi arg2 c1_i32_55
  let c0_i32 : BitVec 32 := 0#32
  let v66 : BitVec 32 := Scalar.maxsi v65 c0_i32
  let v67 : BitVec 32 := Scalar.minsi c_m1_i32 v66
  let v68 : BitVec 32 := Scalar.select v_true arg2 v67
  let c256_i32 : BitVec 32 := 256#32
  let v69 : BitVec 32 := Scalar.muli v68 c256_i32
  let v70 : BitVec 32 := v69
  let v90 : Index := Scalar.indexCast v70
  let c0_76 : Index := 0#32
  ![0, 1, v90.toNat, 0]
def k0_off2_at (r : Fin 2) : BitVec 1 × BitVec 32 :=
  if r.val < 1 then
    (1#1, 4294967295#32)
  else
    (0#1, 0#32)
def k0_off3 (i : grid0.Coords) (v_true : BitVec 1) (c_m1_i32 : BitVec 32) : Fin 4 → Nat :=
  let c0_92 : Index := 0#32
  let c2_93 : Index := 2#32
  let arg2 : BitVec 32 := BitVec.ofNat 32 (i 2).val
  let c1_i32_55 : BitVec 32 := 1#32
  let v65 : BitVec 32 := Scalar.subi arg2 c1_i32_55
  let c0_i32 : BitVec 32 := 0#32
  let v66 : BitVec 32 := Scalar.maxsi v65 c0_i32
  let v67 : BitVec 32 := Scalar.minsi c_m1_i32 v66
  let v68 : BitVec 32 := Scalar.select v_true arg2 v67
  let c256_i32 : BitVec 32 := 256#32
  let v69 : BitVec 32 := Scalar.muli v68 c256_i32
  let v70 : BitVec 32 := v69
  let v109 : Index := Scalar.indexCast v70
  let c0_94 : Index := 0#32
  ![0, 2, v109.toNat, 0]
def k0_off3_at (r : Fin 2) : BitVec 1 × BitVec 32 :=
  if r.val < 1 then
    (1#1, 4294967295#32)
  else
    (0#1, 0#32)
def k0_off4 (i : grid0.Coords) (v_true : BitVec 1) (c_m1_i32 : BitVec 32) : Fin 4 → Nat :=
  let c0_110 : Index := 0#32
  let c3_111 : Index := 3#32
  let arg2 : BitVec 32 := BitVec.ofNat 32 (i 2).val
  let c1_i32_55 : BitVec 32 := 1#32
  let v65 : BitVec 32 := Scalar.subi arg2 c1_i32_55
  let c0_i32 : BitVec 32 := 0#32
  let v66 : BitVec 32 := Scalar.maxsi v65 c0_i32
  let v67 : BitVec 32 := Scalar.minsi c_m1_i32 v66
  let v68 : BitVec 32 := Scalar.select v_true arg2 v67
  let c256_i32 : BitVec 32 := 256#32
  let v69 : BitVec 32 := Scalar.muli v68 c256_i32
  let v70 : BitVec 32 := v69
  let v128 : Index := Scalar.indexCast v70
  let c0_112 : Index := 0#32
  ![0, 3, v128.toNat, 0]
def k0_off4_at (r : Fin 2) : BitVec 1 × BitVec 32 :=
  if r.val < 1 then
    (1#1, 4294967295#32)
  else
    (0#1, 0#32)
def k0_off5 (i : grid0.Coords) (v_true : BitVec 1) (c_m1_i32 : BitVec 32) : Fin 4 → Nat :=
  let c0_128 : Index := 0#32
  let c4_129 : Index := 4#32
  let arg2 : BitVec 32 := BitVec.ofNat 32 (i 2).val
  let c1_i32_55 : BitVec 32 := 1#32
  let v65 : BitVec 32 := Scalar.subi arg2 c1_i32_55
  let c0_i32 : BitVec 32 := 0#32
  let v66 : BitVec 32 := Scalar.maxsi v65 c0_i32
  let v67 : BitVec 32 := Scalar.minsi c_m1_i32 v66
  let v68 : BitVec 32 := Scalar.select v_true arg2 v67
  let c256_i32 : BitVec 32 := 256#32
  let v69 : BitVec 32 := Scalar.muli v68 c256_i32
  let v70 : BitVec 32 := v69
  let v147 : Index := Scalar.indexCast v70
  let c0_130 : Index := 0#32
  ![0, 4, v147.toNat, 0]
def k0_off5_at (r : Fin 2) : BitVec 1 × BitVec 32 :=
  if r.val < 1 then
    (1#1, 4294967295#32)
  else
    (0#1, 0#32)
def k0_off6 (i : grid0.Coords) (v_true : BitVec 1) (c_m1_i32 : BitVec 32) : Fin 4 → Nat :=
  let c0_146 : Index := 0#32
  let c5_147 : Index := 5#32
  let arg2 : BitVec 32 := BitVec.ofNat 32 (i 2).val
  let c1_i32_55 : BitVec 32 := 1#32
  let v65 : BitVec 32 := Scalar.subi arg2 c1_i32_55
  let c0_i32 : BitVec 32 := 0#32
  let v66 : BitVec 32 := Scalar.maxsi v65 c0_i32
  let v67 : BitVec 32 := Scalar.minsi c_m1_i32 v66
  let v68 : BitVec 32 := Scalar.select v_true arg2 v67
  let c256_i32 : BitVec 32 := 256#32
  let v69 : BitVec 32 := Scalar.muli v68 c256_i32
  let v70 : BitVec 32 := v69
  let v166 : Index := Scalar.indexCast v70
  let c0_148 : Index := 0#32
  ![0, 5, v166.toNat, 0]
def k0_off6_at (r : Fin 2) : BitVec 1 × BitVec 32 :=
  if r.val < 1 then
    (1#1, 4294967295#32)
  else
    (0#1, 0#32)
def k0_off7 (i : grid0.Coords) (v_true : BitVec 1) (c_m1_i32 : BitVec 32) : Fin 4 → Nat :=
  let c0_164 : Index := 0#32
  let c6_165 : Index := 6#32
  let arg2 : BitVec 32 := BitVec.ofNat 32 (i 2).val
  let c1_i32_55 : BitVec 32 := 1#32
  let v65 : BitVec 32 := Scalar.subi arg2 c1_i32_55
  let c0_i32 : BitVec 32 := 0#32
  let v66 : BitVec 32 := Scalar.maxsi v65 c0_i32
  let v67 : BitVec 32 := Scalar.minsi c_m1_i32 v66
  let v68 : BitVec 32 := Scalar.select v_true arg2 v67
  let c256_i32 : BitVec 32 := 256#32
  let v69 : BitVec 32 := Scalar.muli v68 c256_i32
  let v70 : BitVec 32 := v69
  let v185 : Index := Scalar.indexCast v70
  let c0_166 : Index := 0#32
  ![0, 6, v185.toNat, 0]
def k0_off7_at (r : Fin 2) : BitVec 1 × BitVec 32 :=
  if r.val < 1 then
    (1#1, 4294967295#32)
  else
    (0#1, 0#32)
def k0_off8 (i : grid0.Coords) (v_true : BitVec 1) (c_m1_i32 : BitVec 32) : Fin 4 → Nat :=
  let c0_182 : Index := 0#32
  let c7_183 : Index := 7#32
  let arg2 : BitVec 32 := BitVec.ofNat 32 (i 2).val
  let c1_i32_55 : BitVec 32 := 1#32
  let v65 : BitVec 32 := Scalar.subi arg2 c1_i32_55
  let c0_i32 : BitVec 32 := 0#32
  let v66 : BitVec 32 := Scalar.maxsi v65 c0_i32
  let v67 : BitVec 32 := Scalar.minsi c_m1_i32 v66
  let v68 : BitVec 32 := Scalar.select v_true arg2 v67
  let c256_i32 : BitVec 32 := 256#32
  let v69 : BitVec 32 := Scalar.muli v68 c256_i32
  let v70 : BitVec 32 := v69
  let v204 : Index := Scalar.indexCast v70
  let c0_184 : Index := 0#32
  ![0, 7, v204.toNat, 0]
def k0_off8_at (r : Fin 2) : BitVec 1 × BitVec 32 :=
  if r.val < 1 then
    (1#1, 4294967295#32)
  else
    (0#1, 0#32)
def k0_mult2 (i : grid0.Coords) : BitVec 32 :=
  let v_false : BitVec 1 := 0#1
  let arg2 : BitVec 32 := BitVec.ofNat 32 (i 2).val
  let c0_i32_202 : BitVec 32 := 0#32
  let c1_i32_200 : BitVec 32 := 1#32
  let v223 : BitVec 32 := Scalar.subi arg2 c1_i32_200
  let c0_i32_201 : BitVec 32 := 0#32
  let v224 : BitVec 32 := Scalar.maxsi v223 c0_i32_201
  let v225 : BitVec 32 := Scalar.minsi c0_i32_202 v224
  let v226 : BitVec 32 := Scalar.select v_false arg2 v225
  let c256_i32_203 : BitVec 32 := 256#32
  let v227 : BitVec 32 := Scalar.muli v226 c256_i32_203
  v227
@[reducible] def k0_t1_loop (i : grid0.Coords) : Scf.Loop 32 :=
  let c0_i32_525 : BitVec 32 := 0#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v536 : BitVec 32 := Scalar.subi v535 c0_i32_525
  let c1_i32_526 : BitVec 32 := 1#32
  let v538 : BitVec 32 := Scalar.divsi v536 c1_i32_526
  let v539 : BitVec 32 := Scalar.muli v538 c1_i32_526
  let v540 : BitVec 32 := Scalar.addi c0_i32_525 v539
  let c1_i32_527 : BitVec 32 := 1#32
  ⟨c0_i32_525, v540, c1_i32_527⟩
def k0_mult3 (i : grid0.Coords) (k0_t1 : Fin (k0_t1_loop i).trips) : BitVec 32 :=
  let c2_i32_583 : BitVec 32 := 2#32
  let c0_i32_525 : BitVec 32 := 0#32
  let c1_i32_527 : BitVec 32 := 1#32
  let arg13 : BitVec 32 := Scf.iv c0_i32_525 c1_i32_527 k0_t1
  let v649 : BitVec 32 := Scalar.muli c2_i32_583 arg13
  let c2_i32_584 : BitVec 32 := 2#32
  let v650 : BitVec 32 := Scalar.addi v649 c2_i32_584
  let c0_i32_585 : BitVec 32 := 0#32
  let v651 : BitVec 1 := Scalar.cmpi .eq v650 c0_i32_585
  let arg2 : BitVec 32 := BitVec.ofNat 32 (i 2).val
  let c1_i32_586 : BitVec 32 := 1#32
  let v652 : BitVec 32 := Scalar.subi v650 c1_i32_586
  let c1_i32_587 : BitVec 32 := 1#32
  let v653 : BitVec 32 := Scalar.subi arg2 c1_i32_587
  let c0_i32_588 : BitVec 32 := 0#32
  let v654 : BitVec 32 := Scalar.maxsi v653 c0_i32_588
  let v655 : BitVec 32 := Scalar.minsi v652 v654
  let v656 : BitVec 32 := Scalar.select v651 arg2 v655
  let c256_i32_589 : BitVec 32 := 256#32
  let v657 : BitVec 32 := Scalar.muli v656 c256_i32_589
  v657
def k0_off9 (i : grid0.Coords) (k0_t1 : Fin (k0_t1_loop i).trips) (c2_i32_584 : BitVec 32) : Fin 4 → Nat :=
  let c0_590 : Index := 0#32
  let c0_591 : Index := 0#32
  let c2_i32_583 : BitVec 32 := 2#32
  let c0_i32_525 : BitVec 32 := 0#32
  let c1_i32_527 : BitVec 32 := 1#32
  let arg13 : BitVec 32 := Scf.iv c0_i32_525 c1_i32_527 k0_t1
  let v649 : BitVec 32 := Scalar.muli c2_i32_583 arg13
  let v650 : BitVec 32 := Scalar.addi v649 c2_i32_584
  let c0_i32_585 : BitVec 32 := 0#32
  let v651 : BitVec 1 := Scalar.cmpi .eq v650 c0_i32_585
  let arg2 : BitVec 32 := BitVec.ofNat 32 (i 2).val
  let c1_i32_586 : BitVec 32 := 1#32
  let v652 : BitVec 32 := Scalar.subi v650 c1_i32_586
  let c1_i32_587 : BitVec 32 := 1#32
  let v653 : BitVec 32 := Scalar.subi arg2 c1_i32_587
  let c0_i32_588 : BitVec 32 := 0#32
  let v654 : BitVec 32 := Scalar.maxsi v653 c0_i32_588
  let v655 : BitVec 32 := Scalar.minsi v652 v654
  let v656 : BitVec 32 := Scalar.select v651 arg2 v655
  let c256_i32_589 : BitVec 32 := 256#32
  let v657 : BitVec 32 := Scalar.muli v656 c256_i32_589
  let v658 : BitVec 32 := v657
  let v659 : Index := Scalar.indexCast v658
  let c0_592 : Index := 0#32
  ![0, 0, v659.toNat, 0]
def k0_off10 (i : grid0.Coords) (k0_t1 : Fin (k0_t1_loop i).trips) (c2_i32_584 : BitVec 32) : Fin 4 → Nat :=
  let c0_607 : Index := 0#32
  let c1_608 : Index := 1#32
  let c2_i32_583 : BitVec 32 := 2#32
  let c0_i32_525 : BitVec 32 := 0#32
  let c1_i32_527 : BitVec 32 := 1#32
  let arg13 : BitVec 32 := Scf.iv c0_i32_525 c1_i32_527 k0_t1
  let v649 : BitVec 32 := Scalar.muli c2_i32_583 arg13
  let v650 : BitVec 32 := Scalar.addi v649 c2_i32_584
  let c0_i32_585 : BitVec 32 := 0#32
  let v651 : BitVec 1 := Scalar.cmpi .eq v650 c0_i32_585
  let arg2 : BitVec 32 := BitVec.ofNat 32 (i 2).val
  let c1_i32_586 : BitVec 32 := 1#32
  let v652 : BitVec 32 := Scalar.subi v650 c1_i32_586
  let c1_i32_587 : BitVec 32 := 1#32
  let v653 : BitVec 32 := Scalar.subi arg2 c1_i32_587
  let c0_i32_588 : BitVec 32 := 0#32
  let v654 : BitVec 32 := Scalar.maxsi v653 c0_i32_588
  let v655 : BitVec 32 := Scalar.minsi v652 v654
  let v656 : BitVec 32 := Scalar.select v651 arg2 v655
  let c256_i32_589 : BitVec 32 := 256#32
  let v657 : BitVec 32 := Scalar.muli v656 c256_i32_589
  let v658 : BitVec 32 := v657
  let v673 : Index := Scalar.indexCast v658
  let c0_609 : Index := 0#32
  ![0, 1, v673.toNat, 0]
def k0_off11 (i : grid0.Coords) (k0_t1 : Fin (k0_t1_loop i).trips) (c2_i32_584 : BitVec 32) : Fin 4 → Nat :=
  let c0_624 : Index := 0#32
  let c2_625 : Index := 2#32
  let c2_i32_583 : BitVec 32 := 2#32
  let c0_i32_525 : BitVec 32 := 0#32
  let c1_i32_527 : BitVec 32 := 1#32
  let arg13 : BitVec 32 := Scf.iv c0_i32_525 c1_i32_527 k0_t1
  let v649 : BitVec 32 := Scalar.muli c2_i32_583 arg13
  let v650 : BitVec 32 := Scalar.addi v649 c2_i32_584
  let c0_i32_585 : BitVec 32 := 0#32
  let v651 : BitVec 1 := Scalar.cmpi .eq v650 c0_i32_585
  let arg2 : BitVec 32 := BitVec.ofNat 32 (i 2).val
  let c1_i32_586 : BitVec 32 := 1#32
  let v652 : BitVec 32 := Scalar.subi v650 c1_i32_586
  let c1_i32_587 : BitVec 32 := 1#32
  let v653 : BitVec 32 := Scalar.subi arg2 c1_i32_587
  let c0_i32_588 : BitVec 32 := 0#32
  let v654 : BitVec 32 := Scalar.maxsi v653 c0_i32_588
  let v655 : BitVec 32 := Scalar.minsi v652 v654
  let v656 : BitVec 32 := Scalar.select v651 arg2 v655
  let c256_i32_589 : BitVec 32 := 256#32
  let v657 : BitVec 32 := Scalar.muli v656 c256_i32_589
  let v658 : BitVec 32 := v657
  let v687 : Index := Scalar.indexCast v658
  let c0_626 : Index := 0#32
  ![0, 2, v687.toNat, 0]
def k0_off12 (i : grid0.Coords) (k0_t1 : Fin (k0_t1_loop i).trips) (c2_i32_584 : BitVec 32) : Fin 4 → Nat :=
  let c0_641 : Index := 0#32
  let c3_642 : Index := 3#32
  let c2_i32_583 : BitVec 32 := 2#32
  let c0_i32_525 : BitVec 32 := 0#32
  let c1_i32_527 : BitVec 32 := 1#32
  let arg13 : BitVec 32 := Scf.iv c0_i32_525 c1_i32_527 k0_t1
  let v649 : BitVec 32 := Scalar.muli c2_i32_583 arg13
  let v650 : BitVec 32 := Scalar.addi v649 c2_i32_584
  let c0_i32_585 : BitVec 32 := 0#32
  let v651 : BitVec 1 := Scalar.cmpi .eq v650 c0_i32_585
  let arg2 : BitVec 32 := BitVec.ofNat 32 (i 2).val
  let c1_i32_586 : BitVec 32 := 1#32
  let v652 : BitVec 32 := Scalar.subi v650 c1_i32_586
  let c1_i32_587 : BitVec 32 := 1#32
  let v653 : BitVec 32 := Scalar.subi arg2 c1_i32_587
  let c0_i32_588 : BitVec 32 := 0#32
  let v654 : BitVec 32 := Scalar.maxsi v653 c0_i32_588
  let v655 : BitVec 32 := Scalar.minsi v652 v654
  let v656 : BitVec 32 := Scalar.select v651 arg2 v655
  let c256_i32_589 : BitVec 32 := 256#32
  let v657 : BitVec 32 := Scalar.muli v656 c256_i32_589
  let v658 : BitVec 32 := v657
  let v701 : Index := Scalar.indexCast v658
  let c0_643 : Index := 0#32
  ![0, 3, v701.toNat, 0]
def k0_off13 (i : grid0.Coords) (k0_t1 : Fin (k0_t1_loop i).trips) (c2_i32_584 : BitVec 32) : Fin 4 → Nat :=
  let c0_658 : Index := 0#32
  let c4_659 : Index := 4#32
  let c2_i32_583 : BitVec 32 := 2#32
  let c0_i32_525 : BitVec 32 := 0#32
  let c1_i32_527 : BitVec 32 := 1#32
  let arg13 : BitVec 32 := Scf.iv c0_i32_525 c1_i32_527 k0_t1
  let v649 : BitVec 32 := Scalar.muli c2_i32_583 arg13
  let v650 : BitVec 32 := Scalar.addi v649 c2_i32_584
  let c0_i32_585 : BitVec 32 := 0#32
  let v651 : BitVec 1 := Scalar.cmpi .eq v650 c0_i32_585
  let arg2 : BitVec 32 := BitVec.ofNat 32 (i 2).val
  let c1_i32_586 : BitVec 32 := 1#32
  let v652 : BitVec 32 := Scalar.subi v650 c1_i32_586
  let c1_i32_587 : BitVec 32 := 1#32
  let v653 : BitVec 32 := Scalar.subi arg2 c1_i32_587
  let c0_i32_588 : BitVec 32 := 0#32
  let v654 : BitVec 32 := Scalar.maxsi v653 c0_i32_588
  let v655 : BitVec 32 := Scalar.minsi v652 v654
  let v656 : BitVec 32 := Scalar.select v651 arg2 v655
  let c256_i32_589 : BitVec 32 := 256#32
  let v657 : BitVec 32 := Scalar.muli v656 c256_i32_589
  let v658 : BitVec 32 := v657
  let v715 : Index := Scalar.indexCast v658
  let c0_660 : Index := 0#32
  ![0, 4, v715.toNat, 0]
def k0_off14 (i : grid0.Coords) (k0_t1 : Fin (k0_t1_loop i).trips) (c2_i32_584 : BitVec 32) : Fin 4 → Nat :=
  let c0_675 : Index := 0#32
  let c5_676 : Index := 5#32
  let c2_i32_583 : BitVec 32 := 2#32
  let c0_i32_525 : BitVec 32 := 0#32
  let c1_i32_527 : BitVec 32 := 1#32
  let arg13 : BitVec 32 := Scf.iv c0_i32_525 c1_i32_527 k0_t1
  let v649 : BitVec 32 := Scalar.muli c2_i32_583 arg13
  let v650 : BitVec 32 := Scalar.addi v649 c2_i32_584
  let c0_i32_585 : BitVec 32 := 0#32
  let v651 : BitVec 1 := Scalar.cmpi .eq v650 c0_i32_585
  let arg2 : BitVec 32 := BitVec.ofNat 32 (i 2).val
  let c1_i32_586 : BitVec 32 := 1#32
  let v652 : BitVec 32 := Scalar.subi v650 c1_i32_586
  let c1_i32_587 : BitVec 32 := 1#32
  let v653 : BitVec 32 := Scalar.subi arg2 c1_i32_587
  let c0_i32_588 : BitVec 32 := 0#32
  let v654 : BitVec 32 := Scalar.maxsi v653 c0_i32_588
  let v655 : BitVec 32 := Scalar.minsi v652 v654
  let v656 : BitVec 32 := Scalar.select v651 arg2 v655
  let c256_i32_589 : BitVec 32 := 256#32
  let v657 : BitVec 32 := Scalar.muli v656 c256_i32_589
  let v658 : BitVec 32 := v657
  let v729 : Index := Scalar.indexCast v658
  let c0_677 : Index := 0#32
  ![0, 5, v729.toNat, 0]
def k0_off15 (i : grid0.Coords) (k0_t1 : Fin (k0_t1_loop i).trips) (c2_i32_584 : BitVec 32) : Fin 4 → Nat :=
  let c0_692 : Index := 0#32
  let c6_693 : Index := 6#32
  let c2_i32_583 : BitVec 32 := 2#32
  let c0_i32_525 : BitVec 32 := 0#32
  let c1_i32_527 : BitVec 32 := 1#32
  let arg13 : BitVec 32 := Scf.iv c0_i32_525 c1_i32_527 k0_t1
  let v649 : BitVec 32 := Scalar.muli c2_i32_583 arg13
  let v650 : BitVec 32 := Scalar.addi v649 c2_i32_584
  let c0_i32_585 : BitVec 32 := 0#32
  let v651 : BitVec 1 := Scalar.cmpi .eq v650 c0_i32_585
  let arg2 : BitVec 32 := BitVec.ofNat 32 (i 2).val
  let c1_i32_586 : BitVec 32 := 1#32
  let v652 : BitVec 32 := Scalar.subi v650 c1_i32_586
  let c1_i32_587 : BitVec 32 := 1#32
  let v653 : BitVec 32 := Scalar.subi arg2 c1_i32_587
  let c0_i32_588 : BitVec 32 := 0#32
  let v654 : BitVec 32 := Scalar.maxsi v653 c0_i32_588
  let v655 : BitVec 32 := Scalar.minsi v652 v654
  let v656 : BitVec 32 := Scalar.select v651 arg2 v655
  let c256_i32_589 : BitVec 32 := 256#32
  let v657 : BitVec 32 := Scalar.muli v656 c256_i32_589
  let v658 : BitVec 32 := v657
  let v743 : Index := Scalar.indexCast v658
  let c0_694 : Index := 0#32
  ![0, 6, v743.toNat, 0]
def k0_off16 (i : grid0.Coords) (k0_t1 : Fin (k0_t1_loop i).trips) (c2_i32_584 : BitVec 32) : Fin 4 → Nat :=
  let c0_709 : Index := 0#32
  let c7_710 : Index := 7#32
  let c2_i32_583 : BitVec 32 := 2#32
  let c0_i32_525 : BitVec 32 := 0#32
  let c1_i32_527 : BitVec 32 := 1#32
  let arg13 : BitVec 32 := Scf.iv c0_i32_525 c1_i32_527 k0_t1
  let v649 : BitVec 32 := Scalar.muli c2_i32_583 arg13
  let v650 : BitVec 32 := Scalar.addi v649 c2_i32_584
  let c0_i32_585 : BitVec 32 := 0#32
  let v651 : BitVec 1 := Scalar.cmpi .eq v650 c0_i32_585
  let arg2 : BitVec 32 := BitVec.ofNat 32 (i 2).val
  let c1_i32_586 : BitVec 32 := 1#32
  let v652 : BitVec 32 := Scalar.subi v650 c1_i32_586
  let c1_i32_587 : BitVec 32 := 1#32
  let v653 : BitVec 32 := Scalar.subi arg2 c1_i32_587
  let c0_i32_588 : BitVec 32 := 0#32
  let v654 : BitVec 32 := Scalar.maxsi v653 c0_i32_588
  let v655 : BitVec 32 := Scalar.minsi v652 v654
  let v656 : BitVec 32 := Scalar.select v651 arg2 v655
  let c256_i32_589 : BitVec 32 := 256#32
  let v657 : BitVec 32 := Scalar.muli v656 c256_i32_589
  let v658 : BitVec 32 := v657
  let v757 : Index := Scalar.indexCast v658
  let c0_711 : Index := 0#32
  ![0, 7, v757.toNat, 0]
def k0_off17 (i : grid0.Coords) (k0_t1 : Fin (k0_t1_loop i).trips) : Fin 5 → Nat :=
  let c0_737 : Index := 0#32
  let c0_738 : Index := 0#32
  let c2_i32_583 : BitVec 32 := 2#32
  let c0_i32_525 : BitVec 32 := 0#32
  let c1_i32_527 : BitVec 32 := 1#32
  let arg13 : BitVec 32 := Scf.iv c0_i32_525 c1_i32_527 k0_t1
  let v649 : BitVec 32 := Scalar.muli c2_i32_583 arg13
  let c0_i32_726 : BitVec 32 := 0#32
  let v771 : BitVec 1 := Scalar.cmpi .eq v649 c0_i32_726
  let arg2 : BitVec 32 := BitVec.ofNat 32 (i 2).val
  let c1_i32_727 : BitVec 32 := 1#32
  let v772 : BitVec 32 := Scalar.subi v649 c1_i32_727
  let c1_i32_728 : BitVec 32 := 1#32
  let v773 : BitVec 32 := Scalar.subi arg2 c1_i32_728
  let c0_i32_729 : BitVec 32 := 0#32
  let v774 : BitVec 32 := Scalar.maxsi v773 c0_i32_729
  let v775 : BitVec 32 := Scalar.minsi v772 v774
  let v776 : BitVec 32 := Scalar.select v771 arg2 v775
  let v783 : Index := Scalar.indexCast v776
  let c0_739 : Index := 0#32
  let c0_740 : Index := 0#32
  ![0, 0, v783.toNat, 0, 0]
def k0_off18 (i : grid0.Coords) (k0_t1 : Fin (k0_t1_loop i).trips) : Fin 5 → Nat :=
  let c0_756 : Index := 0#32
  let c1_757 : Index := 1#32
  let c2_i32_583 : BitVec 32 := 2#32
  let c0_i32_525 : BitVec 32 := 0#32
  let c1_i32_527 : BitVec 32 := 1#32
  let arg13 : BitVec 32 := Scf.iv c0_i32_525 c1_i32_527 k0_t1
  let v649 : BitVec 32 := Scalar.muli c2_i32_583 arg13
  let c0_i32_726 : BitVec 32 := 0#32
  let v771 : BitVec 1 := Scalar.cmpi .eq v649 c0_i32_726
  let arg2 : BitVec 32 := BitVec.ofNat 32 (i 2).val
  let c1_i32_727 : BitVec 32 := 1#32
  let v772 : BitVec 32 := Scalar.subi v649 c1_i32_727
  let c1_i32_728 : BitVec 32 := 1#32
  let v773 : BitVec 32 := Scalar.subi arg2 c1_i32_728
  let c0_i32_729 : BitVec 32 := 0#32
  let v774 : BitVec 32 := Scalar.maxsi v773 c0_i32_729
  let v775 : BitVec 32 := Scalar.minsi v772 v774
  let v776 : BitVec 32 := Scalar.select v771 arg2 v775
  let v799 : Index := Scalar.indexCast v776
  let c0_758 : Index := 0#32
  let c0_759 : Index := 0#32
  ![0, 1, v799.toNat, 0, 0]
def k0_off19 (i : grid0.Coords) (k0_t1 : Fin (k0_t1_loop i).trips) : Fin 5 → Nat :=
  let c0_775 : Index := 0#32
  let c2_776 : Index := 2#32
  let c2_i32_583 : BitVec 32 := 2#32
  let c0_i32_525 : BitVec 32 := 0#32
  let c1_i32_527 : BitVec 32 := 1#32
  let arg13 : BitVec 32 := Scf.iv c0_i32_525 c1_i32_527 k0_t1
  let v649 : BitVec 32 := Scalar.muli c2_i32_583 arg13
  let c0_i32_726 : BitVec 32 := 0#32
  let v771 : BitVec 1 := Scalar.cmpi .eq v649 c0_i32_726
  let arg2 : BitVec 32 := BitVec.ofNat 32 (i 2).val
  let c1_i32_727 : BitVec 32 := 1#32
  let v772 : BitVec 32 := Scalar.subi v649 c1_i32_727
  let c1_i32_728 : BitVec 32 := 1#32
  let v773 : BitVec 32 := Scalar.subi arg2 c1_i32_728
  let c0_i32_729 : BitVec 32 := 0#32
  let v774 : BitVec 32 := Scalar.maxsi v773 c0_i32_729
  let v775 : BitVec 32 := Scalar.minsi v772 v774
  let v776 : BitVec 32 := Scalar.select v771 arg2 v775
  let v815 : Index := Scalar.indexCast v776
  let c0_777 : Index := 0#32
  let c0_778 : Index := 0#32
  ![0, 2, v815.toNat, 0, 0]
def k0_off20 (i : grid0.Coords) (k0_t1 : Fin (k0_t1_loop i).trips) : Fin 5 → Nat :=
  let c0_794 : Index := 0#32
  let c3_795 : Index := 3#32
  let c2_i32_583 : BitVec 32 := 2#32
  let c0_i32_525 : BitVec 32 := 0#32
  let c1_i32_527 : BitVec 32 := 1#32
  let arg13 : BitVec 32 := Scf.iv c0_i32_525 c1_i32_527 k0_t1
  let v649 : BitVec 32 := Scalar.muli c2_i32_583 arg13
  let c0_i32_726 : BitVec 32 := 0#32
  let v771 : BitVec 1 := Scalar.cmpi .eq v649 c0_i32_726
  let arg2 : BitVec 32 := BitVec.ofNat 32 (i 2).val
  let c1_i32_727 : BitVec 32 := 1#32
  let v772 : BitVec 32 := Scalar.subi v649 c1_i32_727
  let c1_i32_728 : BitVec 32 := 1#32
  let v773 : BitVec 32 := Scalar.subi arg2 c1_i32_728
  let c0_i32_729 : BitVec 32 := 0#32
  let v774 : BitVec 32 := Scalar.maxsi v773 c0_i32_729
  let v775 : BitVec 32 := Scalar.minsi v772 v774
  let v776 : BitVec 32 := Scalar.select v771 arg2 v775
  let v831 : Index := Scalar.indexCast v776
  let c0_796 : Index := 0#32
  let c0_797 : Index := 0#32
  ![0, 3, v831.toNat, 0, 0]
def k0_off21 (i : grid0.Coords) (k0_t1 : Fin (k0_t1_loop i).trips) : Fin 5 → Nat :=
  let c0_813 : Index := 0#32
  let c4_814 : Index := 4#32
  let c2_i32_583 : BitVec 32 := 2#32
  let c0_i32_525 : BitVec 32 := 0#32
  let c1_i32_527 : BitVec 32 := 1#32
  let arg13 : BitVec 32 := Scf.iv c0_i32_525 c1_i32_527 k0_t1
  let v649 : BitVec 32 := Scalar.muli c2_i32_583 arg13
  let c0_i32_726 : BitVec 32 := 0#32
  let v771 : BitVec 1 := Scalar.cmpi .eq v649 c0_i32_726
  let arg2 : BitVec 32 := BitVec.ofNat 32 (i 2).val
  let c1_i32_727 : BitVec 32 := 1#32
  let v772 : BitVec 32 := Scalar.subi v649 c1_i32_727
  let c1_i32_728 : BitVec 32 := 1#32
  let v773 : BitVec 32 := Scalar.subi arg2 c1_i32_728
  let c0_i32_729 : BitVec 32 := 0#32
  let v774 : BitVec 32 := Scalar.maxsi v773 c0_i32_729
  let v775 : BitVec 32 := Scalar.minsi v772 v774
  let v776 : BitVec 32 := Scalar.select v771 arg2 v775
  let v847 : Index := Scalar.indexCast v776
  let c0_815 : Index := 0#32
  let c0_816 : Index := 0#32
  ![0, 4, v847.toNat, 0, 0]
def k0_off22 (i : grid0.Coords) (k0_t1 : Fin (k0_t1_loop i).trips) : Fin 5 → Nat :=
  let c0_832 : Index := 0#32
  let c5_833 : Index := 5#32
  let c2_i32_583 : BitVec 32 := 2#32
  let c0_i32_525 : BitVec 32 := 0#32
  let c1_i32_527 : BitVec 32 := 1#32
  let arg13 : BitVec 32 := Scf.iv c0_i32_525 c1_i32_527 k0_t1
  let v649 : BitVec 32 := Scalar.muli c2_i32_583 arg13
  let c0_i32_726 : BitVec 32 := 0#32
  let v771 : BitVec 1 := Scalar.cmpi .eq v649 c0_i32_726
  let arg2 : BitVec 32 := BitVec.ofNat 32 (i 2).val
  let c1_i32_727 : BitVec 32 := 1#32
  let v772 : BitVec 32 := Scalar.subi v649 c1_i32_727
  let c1_i32_728 : BitVec 32 := 1#32
  let v773 : BitVec 32 := Scalar.subi arg2 c1_i32_728
  let c0_i32_729 : BitVec 32 := 0#32
  let v774 : BitVec 32 := Scalar.maxsi v773 c0_i32_729
  let v775 : BitVec 32 := Scalar.minsi v772 v774
  let v776 : BitVec 32 := Scalar.select v771 arg2 v775
  let v863 : Index := Scalar.indexCast v776
  let c0_834 : Index := 0#32
  let c0_835 : Index := 0#32
  ![0, 5, v863.toNat, 0, 0]
def k0_off23 (i : grid0.Coords) (k0_t1 : Fin (k0_t1_loop i).trips) : Fin 5 → Nat :=
  let c0_851 : Index := 0#32
  let c6_852 : Index := 6#32
  let c2_i32_583 : BitVec 32 := 2#32
  let c0_i32_525 : BitVec 32 := 0#32
  let c1_i32_527 : BitVec 32 := 1#32
  let arg13 : BitVec 32 := Scf.iv c0_i32_525 c1_i32_527 k0_t1
  let v649 : BitVec 32 := Scalar.muli c2_i32_583 arg13
  let c0_i32_726 : BitVec 32 := 0#32
  let v771 : BitVec 1 := Scalar.cmpi .eq v649 c0_i32_726
  let arg2 : BitVec 32 := BitVec.ofNat 32 (i 2).val
  let c1_i32_727 : BitVec 32 := 1#32
  let v772 : BitVec 32 := Scalar.subi v649 c1_i32_727
  let c1_i32_728 : BitVec 32 := 1#32
  let v773 : BitVec 32 := Scalar.subi arg2 c1_i32_728
  let c0_i32_729 : BitVec 32 := 0#32
  let v774 : BitVec 32 := Scalar.maxsi v773 c0_i32_729
  let v775 : BitVec 32 := Scalar.minsi v772 v774
  let v776 : BitVec 32 := Scalar.select v771 arg2 v775
  let v879 : Index := Scalar.indexCast v776
  let c0_853 : Index := 0#32
  let c0_854 : Index := 0#32
  ![0, 6, v879.toNat, 0, 0]
def k0_off24 (i : grid0.Coords) (k0_t1 : Fin (k0_t1_loop i).trips) : Fin 5 → Nat :=
  let c0_870 : Index := 0#32
  let c7_871 : Index := 7#32
  let c2_i32_583 : BitVec 32 := 2#32
  let c0_i32_525 : BitVec 32 := 0#32
  let c1_i32_527 : BitVec 32 := 1#32
  let arg13 : BitVec 32 := Scf.iv c0_i32_525 c1_i32_527 k0_t1
  let v649 : BitVec 32 := Scalar.muli c2_i32_583 arg13
  let c0_i32_726 : BitVec 32 := 0#32
  let v771 : BitVec 1 := Scalar.cmpi .eq v649 c0_i32_726
  let arg2 : BitVec 32 := BitVec.ofNat 32 (i 2).val
  let c1_i32_727 : BitVec 32 := 1#32
  let v772 : BitVec 32 := Scalar.subi v649 c1_i32_727
  let c1_i32_728 : BitVec 32 := 1#32
  let v773 : BitVec 32 := Scalar.subi arg2 c1_i32_728
  let c0_i32_729 : BitVec 32 := 0#32
  let v774 : BitVec 32 := Scalar.maxsi v773 c0_i32_729
  let v775 : BitVec 32 := Scalar.minsi v772 v774
  let v776 : BitVec 32 := Scalar.select v771 arg2 v775
  let v895 : Index := Scalar.indexCast v776
  let c0_872 : Index := 0#32
  let c0_873 : Index := 0#32
  ![0, 7, v895.toNat, 0, 0]
def k0_mult4 (i : grid0.Coords) (k0_t1 : Fin (k0_t1_loop i).trips) : BitVec 32 :=
  let c2_i32_583 : BitVec 32 := 2#32
  let c0_i32_525 : BitVec 32 := 0#32
  let c1_i32_527 : BitVec 32 := 1#32
  let arg13 : BitVec 32 := Scf.iv c0_i32_525 c1_i32_527 k0_t1
  let v649 : BitVec 32 := Scalar.muli c2_i32_583 arg13
  let c3_i32_1058 : BitVec 32 := 3#32
  let v1081 : BitVec 32 := Scalar.addi v649 c3_i32_1058
  let c0_i32_1059 : BitVec 32 := 0#32
  let v1082 : BitVec 1 := Scalar.cmpi .eq v1081 c0_i32_1059
  let arg2 : BitVec 32 := BitVec.ofNat 32 (i 2).val
  let c1_i32_1060 : BitVec 32 := 1#32
  let v1083 : BitVec 32 := Scalar.subi v1081 c1_i32_1060
  let c1_i32_1061 : BitVec 32 := 1#32
  let v1084 : BitVec 32 := Scalar.subi arg2 c1_i32_1061
  let c0_i32_1062 : BitVec 32 := 0#32
  let v1085 : BitVec 32 := Scalar.maxsi v1084 c0_i32_1062
  let v1086 : BitVec 32 := Scalar.minsi v1083 v1085
  let v1087 : BitVec 32 := Scalar.select v1082 arg2 v1086
  let c256_i32_1063 : BitVec 32 := 256#32
  let v1088 : BitVec 32 := Scalar.muli v1087 c256_i32_1063
  v1088
def k0_off25 (i : grid0.Coords) (k0_t1 : Fin (k0_t1_loop i).trips) : Fin 5 → Nat :=
  let c0_1212 : Index := 0#32
  let c0_1213 : Index := 0#32
  let c2_i32_583 : BitVec 32 := 2#32
  let c0_i32_525 : BitVec 32 := 0#32
  let c1_i32_527 : BitVec 32 := 1#32
  let arg13 : BitVec 32 := Scf.iv c0_i32_525 c1_i32_527 k0_t1
  let v649 : BitVec 32 := Scalar.muli c2_i32_583 arg13
  let c1_i32_1200 : BitVec 32 := 1#32
  let v1202 : BitVec 32 := Scalar.addi v649 c1_i32_1200
  let c0_i32_1201 : BitVec 32 := 0#32
  let v1203 : BitVec 1 := Scalar.cmpi .eq v1202 c0_i32_1201
  let arg2 : BitVec 32 := BitVec.ofNat 32 (i 2).val
  let c1_i32_1202 : BitVec 32 := 1#32
  let v1204 : BitVec 32 := Scalar.subi v1202 c1_i32_1202
  let c1_i32_1203 : BitVec 32 := 1#32
  let v1205 : BitVec 32 := Scalar.subi arg2 c1_i32_1203
  let c0_i32_1204 : BitVec 32 := 0#32
  let v1206 : BitVec 32 := Scalar.maxsi v1205 c0_i32_1204
  let v1207 : BitVec 32 := Scalar.minsi v1204 v1206
  let v1208 : BitVec 32 := Scalar.select v1203 arg2 v1207
  let v1215 : Index := Scalar.indexCast v1208
  let c0_1214 : Index := 0#32
  let c0_1215 : Index := 0#32
  ![0, 0, v1215.toNat, 0, 0]
def k0_off26 (i : grid0.Coords) (k0_t1 : Fin (k0_t1_loop i).trips) : Fin 5 → Nat :=
  let c0_1231 : Index := 0#32
  let c1_1232 : Index := 1#32
  let c2_i32_583 : BitVec 32 := 2#32
  let c0_i32_525 : BitVec 32 := 0#32
  let c1_i32_527 : BitVec 32 := 1#32
  let arg13 : BitVec 32 := Scf.iv c0_i32_525 c1_i32_527 k0_t1
  let v649 : BitVec 32 := Scalar.muli c2_i32_583 arg13
  let c1_i32_1200 : BitVec 32 := 1#32
  let v1202 : BitVec 32 := Scalar.addi v649 c1_i32_1200
  let c0_i32_1201 : BitVec 32 := 0#32
  let v1203 : BitVec 1 := Scalar.cmpi .eq v1202 c0_i32_1201
  let arg2 : BitVec 32 := BitVec.ofNat 32 (i 2).val
  let c1_i32_1202 : BitVec 32 := 1#32
  let v1204 : BitVec 32 := Scalar.subi v1202 c1_i32_1202
  let c1_i32_1203 : BitVec 32 := 1#32
  let v1205 : BitVec 32 := Scalar.subi arg2 c1_i32_1203
  let c0_i32_1204 : BitVec 32 := 0#32
  let v1206 : BitVec 32 := Scalar.maxsi v1205 c0_i32_1204
  let v1207 : BitVec 32 := Scalar.minsi v1204 v1206
  let v1208 : BitVec 32 := Scalar.select v1203 arg2 v1207
  let v1231 : Index := Scalar.indexCast v1208
  let c0_1233 : Index := 0#32
  let c0_1234 : Index := 0#32
  ![0, 1, v1231.toNat, 0, 0]
def k0_off27 (i : grid0.Coords) (k0_t1 : Fin (k0_t1_loop i).trips) : Fin 5 → Nat :=
  let c0_1250 : Index := 0#32
  let c2_1251 : Index := 2#32
  let c2_i32_583 : BitVec 32 := 2#32
  let c0_i32_525 : BitVec 32 := 0#32
  let c1_i32_527 : BitVec 32 := 1#32
  let arg13 : BitVec 32 := Scf.iv c0_i32_525 c1_i32_527 k0_t1
  let v649 : BitVec 32 := Scalar.muli c2_i32_583 arg13
  let c1_i32_1200 : BitVec 32 := 1#32
  let v1202 : BitVec 32 := Scalar.addi v649 c1_i32_1200
  let c0_i32_1201 : BitVec 32 := 0#32
  let v1203 : BitVec 1 := Scalar.cmpi .eq v1202 c0_i32_1201
  let arg2 : BitVec 32 := BitVec.ofNat 32 (i 2).val
  let c1_i32_1202 : BitVec 32 := 1#32
  let v1204 : BitVec 32 := Scalar.subi v1202 c1_i32_1202
  let c1_i32_1203 : BitVec 32 := 1#32
  let v1205 : BitVec 32 := Scalar.subi arg2 c1_i32_1203
  let c0_i32_1204 : BitVec 32 := 0#32
  let v1206 : BitVec 32 := Scalar.maxsi v1205 c0_i32_1204
  let v1207 : BitVec 32 := Scalar.minsi v1204 v1206
  let v1208 : BitVec 32 := Scalar.select v1203 arg2 v1207
  let v1247 : Index := Scalar.indexCast v1208
  let c0_1252 : Index := 0#32
  let c0_1253 : Index := 0#32
  ![0, 2, v1247.toNat, 0, 0]
def k0_off28 (i : grid0.Coords) (k0_t1 : Fin (k0_t1_loop i).trips) : Fin 5 → Nat :=
  let c0_1269 : Index := 0#32
  let c3_1270 : Index := 3#32
  let c2_i32_583 : BitVec 32 := 2#32
  let c0_i32_525 : BitVec 32 := 0#32
  let c1_i32_527 : BitVec 32 := 1#32
  let arg13 : BitVec 32 := Scf.iv c0_i32_525 c1_i32_527 k0_t1
  let v649 : BitVec 32 := Scalar.muli c2_i32_583 arg13
  let c1_i32_1200 : BitVec 32 := 1#32
  let v1202 : BitVec 32 := Scalar.addi v649 c1_i32_1200
  let c0_i32_1201 : BitVec 32 := 0#32
  let v1203 : BitVec 1 := Scalar.cmpi .eq v1202 c0_i32_1201
  let arg2 : BitVec 32 := BitVec.ofNat 32 (i 2).val
  let c1_i32_1202 : BitVec 32 := 1#32
  let v1204 : BitVec 32 := Scalar.subi v1202 c1_i32_1202
  let c1_i32_1203 : BitVec 32 := 1#32
  let v1205 : BitVec 32 := Scalar.subi arg2 c1_i32_1203
  let c0_i32_1204 : BitVec 32 := 0#32
  let v1206 : BitVec 32 := Scalar.maxsi v1205 c0_i32_1204
  let v1207 : BitVec 32 := Scalar.minsi v1204 v1206
  let v1208 : BitVec 32 := Scalar.select v1203 arg2 v1207
  let v1263 : Index := Scalar.indexCast v1208
  let c0_1271 : Index := 0#32
  let c0_1272 : Index := 0#32
  ![0, 3, v1263.toNat, 0, 0]
def k0_off29 (i : grid0.Coords) (k0_t1 : Fin (k0_t1_loop i).trips) : Fin 5 → Nat :=
  let c0_1288 : Index := 0#32
  let c4_1289 : Index := 4#32
  let c2_i32_583 : BitVec 32 := 2#32
  let c0_i32_525 : BitVec 32 := 0#32
  let c1_i32_527 : BitVec 32 := 1#32
  let arg13 : BitVec 32 := Scf.iv c0_i32_525 c1_i32_527 k0_t1
  let v649 : BitVec 32 := Scalar.muli c2_i32_583 arg13
  let c1_i32_1200 : BitVec 32 := 1#32
  let v1202 : BitVec 32 := Scalar.addi v649 c1_i32_1200
  let c0_i32_1201 : BitVec 32 := 0#32
  let v1203 : BitVec 1 := Scalar.cmpi .eq v1202 c0_i32_1201
  let arg2 : BitVec 32 := BitVec.ofNat 32 (i 2).val
  let c1_i32_1202 : BitVec 32 := 1#32
  let v1204 : BitVec 32 := Scalar.subi v1202 c1_i32_1202
  let c1_i32_1203 : BitVec 32 := 1#32
  let v1205 : BitVec 32 := Scalar.subi arg2 c1_i32_1203
  let c0_i32_1204 : BitVec 32 := 0#32
  let v1206 : BitVec 32 := Scalar.maxsi v1205 c0_i32_1204
  let v1207 : BitVec 32 := Scalar.minsi v1204 v1206
  let v1208 : BitVec 32 := Scalar.select v1203 arg2 v1207
  let v1279 : Index := Scalar.indexCast v1208
  let c0_1290 : Index := 0#32
  let c0_1291 : Index := 0#32
  ![0, 4, v1279.toNat, 0, 0]
def k0_off30 (i : grid0.Coords) (k0_t1 : Fin (k0_t1_loop i).trips) : Fin 5 → Nat :=
  let c0_1307 : Index := 0#32
  let c5_1308 : Index := 5#32
  let c2_i32_583 : BitVec 32 := 2#32
  let c0_i32_525 : BitVec 32 := 0#32
  let c1_i32_527 : BitVec 32 := 1#32
  let arg13 : BitVec 32 := Scf.iv c0_i32_525 c1_i32_527 k0_t1
  let v649 : BitVec 32 := Scalar.muli c2_i32_583 arg13
  let c1_i32_1200 : BitVec 32 := 1#32
  let v1202 : BitVec 32 := Scalar.addi v649 c1_i32_1200
  let c0_i32_1201 : BitVec 32 := 0#32
  let v1203 : BitVec 1 := Scalar.cmpi .eq v1202 c0_i32_1201
  let arg2 : BitVec 32 := BitVec.ofNat 32 (i 2).val
  let c1_i32_1202 : BitVec 32 := 1#32
  let v1204 : BitVec 32 := Scalar.subi v1202 c1_i32_1202
  let c1_i32_1203 : BitVec 32 := 1#32
  let v1205 : BitVec 32 := Scalar.subi arg2 c1_i32_1203
  let c0_i32_1204 : BitVec 32 := 0#32
  let v1206 : BitVec 32 := Scalar.maxsi v1205 c0_i32_1204
  let v1207 : BitVec 32 := Scalar.minsi v1204 v1206
  let v1208 : BitVec 32 := Scalar.select v1203 arg2 v1207
  let v1295 : Index := Scalar.indexCast v1208
  let c0_1309 : Index := 0#32
  let c0_1310 : Index := 0#32
  ![0, 5, v1295.toNat, 0, 0]
def k0_off31 (i : grid0.Coords) (k0_t1 : Fin (k0_t1_loop i).trips) : Fin 5 → Nat :=
  let c0_1326 : Index := 0#32
  let c6_1327 : Index := 6#32
  let c2_i32_583 : BitVec 32 := 2#32
  let c0_i32_525 : BitVec 32 := 0#32
  let c1_i32_527 : BitVec 32 := 1#32
  let arg13 : BitVec 32 := Scf.iv c0_i32_525 c1_i32_527 k0_t1
  let v649 : BitVec 32 := Scalar.muli c2_i32_583 arg13
  let c1_i32_1200 : BitVec 32 := 1#32
  let v1202 : BitVec 32 := Scalar.addi v649 c1_i32_1200
  let c0_i32_1201 : BitVec 32 := 0#32
  let v1203 : BitVec 1 := Scalar.cmpi .eq v1202 c0_i32_1201
  let arg2 : BitVec 32 := BitVec.ofNat 32 (i 2).val
  let c1_i32_1202 : BitVec 32 := 1#32
  let v1204 : BitVec 32 := Scalar.subi v1202 c1_i32_1202
  let c1_i32_1203 : BitVec 32 := 1#32
  let v1205 : BitVec 32 := Scalar.subi arg2 c1_i32_1203
  let c0_i32_1204 : BitVec 32 := 0#32
  let v1206 : BitVec 32 := Scalar.maxsi v1205 c0_i32_1204
  let v1207 : BitVec 32 := Scalar.minsi v1204 v1206
  let v1208 : BitVec 32 := Scalar.select v1203 arg2 v1207
  let v1311 : Index := Scalar.indexCast v1208
  let c0_1328 : Index := 0#32
  let c0_1329 : Index := 0#32
  ![0, 6, v1311.toNat, 0, 0]
def k0_off32 (i : grid0.Coords) (k0_t1 : Fin (k0_t1_loop i).trips) : Fin 5 → Nat :=
  let c0_1345 : Index := 0#32
  let c7_1346 : Index := 7#32
  let c2_i32_583 : BitVec 32 := 2#32
  let c0_i32_525 : BitVec 32 := 0#32
  let c1_i32_527 : BitVec 32 := 1#32
  let arg13 : BitVec 32 := Scf.iv c0_i32_525 c1_i32_527 k0_t1
  let v649 : BitVec 32 := Scalar.muli c2_i32_583 arg13
  let c1_i32_1200 : BitVec 32 := 1#32
  let v1202 : BitVec 32 := Scalar.addi v649 c1_i32_1200
  let c0_i32_1201 : BitVec 32 := 0#32
  let v1203 : BitVec 1 := Scalar.cmpi .eq v1202 c0_i32_1201
  let arg2 : BitVec 32 := BitVec.ofNat 32 (i 2).val
  let c1_i32_1202 : BitVec 32 := 1#32
  let v1204 : BitVec 32 := Scalar.subi v1202 c1_i32_1202
  let c1_i32_1203 : BitVec 32 := 1#32
  let v1205 : BitVec 32 := Scalar.subi arg2 c1_i32_1203
  let c0_i32_1204 : BitVec 32 := 0#32
  let v1206 : BitVec 32 := Scalar.maxsi v1205 c0_i32_1204
  let v1207 : BitVec 32 := Scalar.minsi v1204 v1206
  let v1208 : BitVec 32 := Scalar.select v1203 arg2 v1207
  let v1327 : Index := Scalar.indexCast v1208
  let c0_1347 : Index := 0#32
  let c0_1348 : Index := 0#32
  ![0, 7, v1327.toNat, 0, 0]
@[reducible] def k0_t2_loop (i : grid0.Coords) : Scf.Loop 32 :=
  let c0_i32_525 : BitVec 32 := 0#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v536 : BitVec 32 := Scalar.subi v535 c0_i32_525
  let c1_i32_526 : BitVec 32 := 1#32
  let v538 : BitVec 32 := Scalar.divsi v536 c1_i32_526
  let v539 : BitVec 32 := Scalar.muli v538 c1_i32_526
  let v540 : BitVec 32 := Scalar.addi c0_i32_525 v539
  let v537 : BitVec 32 := Scalar.addi c0_i32_525 v536
  let c1_i32_528 : BitVec 32 := 1#32
  ⟨v540, v537, c1_i32_528⟩
def k0_mult5 (i : grid0.Coords) (k0_t2 : Fin (k0_t2_loop i).trips) : BitVec 32 :=
  let c2_i32_583 : BitVec 32 := 2#32
  let c0_i32_525 : BitVec 32 := 0#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v536 : BitVec 32 := Scalar.subi v535 c0_i32_525
  let c1_i32_526 : BitVec 32 := 1#32
  let v538 : BitVec 32 := Scalar.divsi v536 c1_i32_526
  let v539 : BitVec 32 := Scalar.muli v538 c1_i32_526
  let v540 : BitVec 32 := Scalar.addi c0_i32_525 v539
  let c1_i32_528 : BitVec 32 := 1#32
  let arg13 : BitVec 32 := Scf.iv v540 c1_i32_528 k0_t2
  let v649 : BitVec 32 := Scalar.muli c2_i32_583 arg13
  let c2_i32_584 : BitVec 32 := 2#32
  let v650 : BitVec 32 := Scalar.addi v649 c2_i32_584
  let c0_i32_585 : BitVec 32 := 0#32
  let v651 : BitVec 1 := Scalar.cmpi .eq v650 c0_i32_585
  let c1_i32_586 : BitVec 32 := 1#32
  let v652 : BitVec 32 := Scalar.subi v650 c1_i32_586
  let c1_i32_587 : BitVec 32 := 1#32
  let v653 : BitVec 32 := Scalar.subi arg2 c1_i32_587
  let c0_i32_588 : BitVec 32 := 0#32
  let v654 : BitVec 32 := Scalar.maxsi v653 c0_i32_588
  let v655 : BitVec 32 := Scalar.minsi v652 v654
  let v656 : BitVec 32 := Scalar.select v651 arg2 v655
  let c256_i32_589 : BitVec 32 := 256#32
  let v657 : BitVec 32 := Scalar.muli v656 c256_i32_589
  v657
def k0_off33 (i : grid0.Coords) (k0_t2 : Fin (k0_t2_loop i).trips) (c2_i32_584 : BitVec 32) : Fin 4 → Nat :=
  let c0_590 : Index := 0#32
  let c0_591 : Index := 0#32
  let c2_i32_583 : BitVec 32 := 2#32
  let c0_i32_525 : BitVec 32 := 0#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v536 : BitVec 32 := Scalar.subi v535 c0_i32_525
  let c1_i32_526 : BitVec 32 := 1#32
  let v538 : BitVec 32 := Scalar.divsi v536 c1_i32_526
  let v539 : BitVec 32 := Scalar.muli v538 c1_i32_526
  let v540 : BitVec 32 := Scalar.addi c0_i32_525 v539
  let c1_i32_528 : BitVec 32 := 1#32
  let arg13 : BitVec 32 := Scf.iv v540 c1_i32_528 k0_t2
  let v649 : BitVec 32 := Scalar.muli c2_i32_583 arg13
  let v650 : BitVec 32 := Scalar.addi v649 c2_i32_584
  let c0_i32_585 : BitVec 32 := 0#32
  let v651 : BitVec 1 := Scalar.cmpi .eq v650 c0_i32_585
  let c1_i32_586 : BitVec 32 := 1#32
  let v652 : BitVec 32 := Scalar.subi v650 c1_i32_586
  let c1_i32_587 : BitVec 32 := 1#32
  let v653 : BitVec 32 := Scalar.subi arg2 c1_i32_587
  let c0_i32_588 : BitVec 32 := 0#32
  let v654 : BitVec 32 := Scalar.maxsi v653 c0_i32_588
  let v655 : BitVec 32 := Scalar.minsi v652 v654
  let v656 : BitVec 32 := Scalar.select v651 arg2 v655
  let c256_i32_589 : BitVec 32 := 256#32
  let v657 : BitVec 32 := Scalar.muli v656 c256_i32_589
  let v658 : BitVec 32 := v657
  let v659 : Index := Scalar.indexCast v658
  let c0_592 : Index := 0#32
  ![0, 0, v659.toNat, 0]
def k0_off34 (i : grid0.Coords) (k0_t2 : Fin (k0_t2_loop i).trips) (c2_i32_584 : BitVec 32) : Fin 4 → Nat :=
  let c0_607 : Index := 0#32
  let c1_608 : Index := 1#32
  let c2_i32_583 : BitVec 32 := 2#32
  let c0_i32_525 : BitVec 32 := 0#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v536 : BitVec 32 := Scalar.subi v535 c0_i32_525
  let c1_i32_526 : BitVec 32 := 1#32
  let v538 : BitVec 32 := Scalar.divsi v536 c1_i32_526
  let v539 : BitVec 32 := Scalar.muli v538 c1_i32_526
  let v540 : BitVec 32 := Scalar.addi c0_i32_525 v539
  let c1_i32_528 : BitVec 32 := 1#32
  let arg13 : BitVec 32 := Scf.iv v540 c1_i32_528 k0_t2
  let v649 : BitVec 32 := Scalar.muli c2_i32_583 arg13
  let v650 : BitVec 32 := Scalar.addi v649 c2_i32_584
  let c0_i32_585 : BitVec 32 := 0#32
  let v651 : BitVec 1 := Scalar.cmpi .eq v650 c0_i32_585
  let c1_i32_586 : BitVec 32 := 1#32
  let v652 : BitVec 32 := Scalar.subi v650 c1_i32_586
  let c1_i32_587 : BitVec 32 := 1#32
  let v653 : BitVec 32 := Scalar.subi arg2 c1_i32_587
  let c0_i32_588 : BitVec 32 := 0#32
  let v654 : BitVec 32 := Scalar.maxsi v653 c0_i32_588
  let v655 : BitVec 32 := Scalar.minsi v652 v654
  let v656 : BitVec 32 := Scalar.select v651 arg2 v655
  let c256_i32_589 : BitVec 32 := 256#32
  let v657 : BitVec 32 := Scalar.muli v656 c256_i32_589
  let v658 : BitVec 32 := v657
  let v673 : Index := Scalar.indexCast v658
  let c0_609 : Index := 0#32
  ![0, 1, v673.toNat, 0]
def k0_off35 (i : grid0.Coords) (k0_t2 : Fin (k0_t2_loop i).trips) (c2_i32_584 : BitVec 32) : Fin 4 → Nat :=
  let c0_624 : Index := 0#32
  let c2_625 : Index := 2#32
  let c2_i32_583 : BitVec 32 := 2#32
  let c0_i32_525 : BitVec 32 := 0#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v536 : BitVec 32 := Scalar.subi v535 c0_i32_525
  let c1_i32_526 : BitVec 32 := 1#32
  let v538 : BitVec 32 := Scalar.divsi v536 c1_i32_526
  let v539 : BitVec 32 := Scalar.muli v538 c1_i32_526
  let v540 : BitVec 32 := Scalar.addi c0_i32_525 v539
  let c1_i32_528 : BitVec 32 := 1#32
  let arg13 : BitVec 32 := Scf.iv v540 c1_i32_528 k0_t2
  let v649 : BitVec 32 := Scalar.muli c2_i32_583 arg13
  let v650 : BitVec 32 := Scalar.addi v649 c2_i32_584
  let c0_i32_585 : BitVec 32 := 0#32
  let v651 : BitVec 1 := Scalar.cmpi .eq v650 c0_i32_585
  let c1_i32_586 : BitVec 32 := 1#32
  let v652 : BitVec 32 := Scalar.subi v650 c1_i32_586
  let c1_i32_587 : BitVec 32 := 1#32
  let v653 : BitVec 32 := Scalar.subi arg2 c1_i32_587
  let c0_i32_588 : BitVec 32 := 0#32
  let v654 : BitVec 32 := Scalar.maxsi v653 c0_i32_588
  let v655 : BitVec 32 := Scalar.minsi v652 v654
  let v656 : BitVec 32 := Scalar.select v651 arg2 v655
  let c256_i32_589 : BitVec 32 := 256#32
  let v657 : BitVec 32 := Scalar.muli v656 c256_i32_589
  let v658 : BitVec 32 := v657
  let v687 : Index := Scalar.indexCast v658
  let c0_626 : Index := 0#32
  ![0, 2, v687.toNat, 0]
def k0_off36 (i : grid0.Coords) (k0_t2 : Fin (k0_t2_loop i).trips) (c2_i32_584 : BitVec 32) : Fin 4 → Nat :=
  let c0_641 : Index := 0#32
  let c3_642 : Index := 3#32
  let c2_i32_583 : BitVec 32 := 2#32
  let c0_i32_525 : BitVec 32 := 0#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v536 : BitVec 32 := Scalar.subi v535 c0_i32_525
  let c1_i32_526 : BitVec 32 := 1#32
  let v538 : BitVec 32 := Scalar.divsi v536 c1_i32_526
  let v539 : BitVec 32 := Scalar.muli v538 c1_i32_526
  let v540 : BitVec 32 := Scalar.addi c0_i32_525 v539
  let c1_i32_528 : BitVec 32 := 1#32
  let arg13 : BitVec 32 := Scf.iv v540 c1_i32_528 k0_t2
  let v649 : BitVec 32 := Scalar.muli c2_i32_583 arg13
  let v650 : BitVec 32 := Scalar.addi v649 c2_i32_584
  let c0_i32_585 : BitVec 32 := 0#32
  let v651 : BitVec 1 := Scalar.cmpi .eq v650 c0_i32_585
  let c1_i32_586 : BitVec 32 := 1#32
  let v652 : BitVec 32 := Scalar.subi v650 c1_i32_586
  let c1_i32_587 : BitVec 32 := 1#32
  let v653 : BitVec 32 := Scalar.subi arg2 c1_i32_587
  let c0_i32_588 : BitVec 32 := 0#32
  let v654 : BitVec 32 := Scalar.maxsi v653 c0_i32_588
  let v655 : BitVec 32 := Scalar.minsi v652 v654
  let v656 : BitVec 32 := Scalar.select v651 arg2 v655
  let c256_i32_589 : BitVec 32 := 256#32
  let v657 : BitVec 32 := Scalar.muli v656 c256_i32_589
  let v658 : BitVec 32 := v657
  let v701 : Index := Scalar.indexCast v658
  let c0_643 : Index := 0#32
  ![0, 3, v701.toNat, 0]
def k0_off37 (i : grid0.Coords) (k0_t2 : Fin (k0_t2_loop i).trips) (c2_i32_584 : BitVec 32) : Fin 4 → Nat :=
  let c0_658 : Index := 0#32
  let c4_659 : Index := 4#32
  let c2_i32_583 : BitVec 32 := 2#32
  let c0_i32_525 : BitVec 32 := 0#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v536 : BitVec 32 := Scalar.subi v535 c0_i32_525
  let c1_i32_526 : BitVec 32 := 1#32
  let v538 : BitVec 32 := Scalar.divsi v536 c1_i32_526
  let v539 : BitVec 32 := Scalar.muli v538 c1_i32_526
  let v540 : BitVec 32 := Scalar.addi c0_i32_525 v539
  let c1_i32_528 : BitVec 32 := 1#32
  let arg13 : BitVec 32 := Scf.iv v540 c1_i32_528 k0_t2
  let v649 : BitVec 32 := Scalar.muli c2_i32_583 arg13
  let v650 : BitVec 32 := Scalar.addi v649 c2_i32_584
  let c0_i32_585 : BitVec 32 := 0#32
  let v651 : BitVec 1 := Scalar.cmpi .eq v650 c0_i32_585
  let c1_i32_586 : BitVec 32 := 1#32
  let v652 : BitVec 32 := Scalar.subi v650 c1_i32_586
  let c1_i32_587 : BitVec 32 := 1#32
  let v653 : BitVec 32 := Scalar.subi arg2 c1_i32_587
  let c0_i32_588 : BitVec 32 := 0#32
  let v654 : BitVec 32 := Scalar.maxsi v653 c0_i32_588
  let v655 : BitVec 32 := Scalar.minsi v652 v654
  let v656 : BitVec 32 := Scalar.select v651 arg2 v655
  let c256_i32_589 : BitVec 32 := 256#32
  let v657 : BitVec 32 := Scalar.muli v656 c256_i32_589
  let v658 : BitVec 32 := v657
  let v715 : Index := Scalar.indexCast v658
  let c0_660 : Index := 0#32
  ![0, 4, v715.toNat, 0]
def k0_off38 (i : grid0.Coords) (k0_t2 : Fin (k0_t2_loop i).trips) (c2_i32_584 : BitVec 32) : Fin 4 → Nat :=
  let c0_675 : Index := 0#32
  let c5_676 : Index := 5#32
  let c2_i32_583 : BitVec 32 := 2#32
  let c0_i32_525 : BitVec 32 := 0#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v536 : BitVec 32 := Scalar.subi v535 c0_i32_525
  let c1_i32_526 : BitVec 32 := 1#32
  let v538 : BitVec 32 := Scalar.divsi v536 c1_i32_526
  let v539 : BitVec 32 := Scalar.muli v538 c1_i32_526
  let v540 : BitVec 32 := Scalar.addi c0_i32_525 v539
  let c1_i32_528 : BitVec 32 := 1#32
  let arg13 : BitVec 32 := Scf.iv v540 c1_i32_528 k0_t2
  let v649 : BitVec 32 := Scalar.muli c2_i32_583 arg13
  let v650 : BitVec 32 := Scalar.addi v649 c2_i32_584
  let c0_i32_585 : BitVec 32 := 0#32
  let v651 : BitVec 1 := Scalar.cmpi .eq v650 c0_i32_585
  let c1_i32_586 : BitVec 32 := 1#32
  let v652 : BitVec 32 := Scalar.subi v650 c1_i32_586
  let c1_i32_587 : BitVec 32 := 1#32
  let v653 : BitVec 32 := Scalar.subi arg2 c1_i32_587
  let c0_i32_588 : BitVec 32 := 0#32
  let v654 : BitVec 32 := Scalar.maxsi v653 c0_i32_588
  let v655 : BitVec 32 := Scalar.minsi v652 v654
  let v656 : BitVec 32 := Scalar.select v651 arg2 v655
  let c256_i32_589 : BitVec 32 := 256#32
  let v657 : BitVec 32 := Scalar.muli v656 c256_i32_589
  let v658 : BitVec 32 := v657
  let v729 : Index := Scalar.indexCast v658
  let c0_677 : Index := 0#32
  ![0, 5, v729.toNat, 0]
def k0_off39 (i : grid0.Coords) (k0_t2 : Fin (k0_t2_loop i).trips) (c2_i32_584 : BitVec 32) : Fin 4 → Nat :=
  let c0_692 : Index := 0#32
  let c6_693 : Index := 6#32
  let c2_i32_583 : BitVec 32 := 2#32
  let c0_i32_525 : BitVec 32 := 0#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v536 : BitVec 32 := Scalar.subi v535 c0_i32_525
  let c1_i32_526 : BitVec 32 := 1#32
  let v538 : BitVec 32 := Scalar.divsi v536 c1_i32_526
  let v539 : BitVec 32 := Scalar.muli v538 c1_i32_526
  let v540 : BitVec 32 := Scalar.addi c0_i32_525 v539
  let c1_i32_528 : BitVec 32 := 1#32
  let arg13 : BitVec 32 := Scf.iv v540 c1_i32_528 k0_t2
  let v649 : BitVec 32 := Scalar.muli c2_i32_583 arg13
  let v650 : BitVec 32 := Scalar.addi v649 c2_i32_584
  let c0_i32_585 : BitVec 32 := 0#32
  let v651 : BitVec 1 := Scalar.cmpi .eq v650 c0_i32_585
  let c1_i32_586 : BitVec 32 := 1#32
  let v652 : BitVec 32 := Scalar.subi v650 c1_i32_586
  let c1_i32_587 : BitVec 32 := 1#32
  let v653 : BitVec 32 := Scalar.subi arg2 c1_i32_587
  let c0_i32_588 : BitVec 32 := 0#32
  let v654 : BitVec 32 := Scalar.maxsi v653 c0_i32_588
  let v655 : BitVec 32 := Scalar.minsi v652 v654
  let v656 : BitVec 32 := Scalar.select v651 arg2 v655
  let c256_i32_589 : BitVec 32 := 256#32
  let v657 : BitVec 32 := Scalar.muli v656 c256_i32_589
  let v658 : BitVec 32 := v657
  let v743 : Index := Scalar.indexCast v658
  let c0_694 : Index := 0#32
  ![0, 6, v743.toNat, 0]
def k0_off40 (i : grid0.Coords) (k0_t2 : Fin (k0_t2_loop i).trips) (c2_i32_584 : BitVec 32) : Fin 4 → Nat :=
  let c0_709 : Index := 0#32
  let c7_710 : Index := 7#32
  let c2_i32_583 : BitVec 32 := 2#32
  let c0_i32_525 : BitVec 32 := 0#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v536 : BitVec 32 := Scalar.subi v535 c0_i32_525
  let c1_i32_526 : BitVec 32 := 1#32
  let v538 : BitVec 32 := Scalar.divsi v536 c1_i32_526
  let v539 : BitVec 32 := Scalar.muli v538 c1_i32_526
  let v540 : BitVec 32 := Scalar.addi c0_i32_525 v539
  let c1_i32_528 : BitVec 32 := 1#32
  let arg13 : BitVec 32 := Scf.iv v540 c1_i32_528 k0_t2
  let v649 : BitVec 32 := Scalar.muli c2_i32_583 arg13
  let v650 : BitVec 32 := Scalar.addi v649 c2_i32_584
  let c0_i32_585 : BitVec 32 := 0#32
  let v651 : BitVec 1 := Scalar.cmpi .eq v650 c0_i32_585
  let c1_i32_586 : BitVec 32 := 1#32
  let v652 : BitVec 32 := Scalar.subi v650 c1_i32_586
  let c1_i32_587 : BitVec 32 := 1#32
  let v653 : BitVec 32 := Scalar.subi arg2 c1_i32_587
  let c0_i32_588 : BitVec 32 := 0#32
  let v654 : BitVec 32 := Scalar.maxsi v653 c0_i32_588
  let v655 : BitVec 32 := Scalar.minsi v652 v654
  let v656 : BitVec 32 := Scalar.select v651 arg2 v655
  let c256_i32_589 : BitVec 32 := 256#32
  let v657 : BitVec 32 := Scalar.muli v656 c256_i32_589
  let v658 : BitVec 32 := v657
  let v757 : Index := Scalar.indexCast v658
  let c0_711 : Index := 0#32
  ![0, 7, v757.toNat, 0]
def k0_off41 (i : grid0.Coords) (k0_t2 : Fin (k0_t2_loop i).trips) : Fin 5 → Nat :=
  let c0_737 : Index := 0#32
  let c0_738 : Index := 0#32
  let c2_i32_583 : BitVec 32 := 2#32
  let c0_i32_525 : BitVec 32 := 0#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v536 : BitVec 32 := Scalar.subi v535 c0_i32_525
  let c1_i32_526 : BitVec 32 := 1#32
  let v538 : BitVec 32 := Scalar.divsi v536 c1_i32_526
  let v539 : BitVec 32 := Scalar.muli v538 c1_i32_526
  let v540 : BitVec 32 := Scalar.addi c0_i32_525 v539
  let c1_i32_528 : BitVec 32 := 1#32
  let arg13 : BitVec 32 := Scf.iv v540 c1_i32_528 k0_t2
  let v649 : BitVec 32 := Scalar.muli c2_i32_583 arg13
  let c0_i32_726 : BitVec 32 := 0#32
  let v771 : BitVec 1 := Scalar.cmpi .eq v649 c0_i32_726
  let c1_i32_727 : BitVec 32 := 1#32
  let v772 : BitVec 32 := Scalar.subi v649 c1_i32_727
  let c1_i32_728 : BitVec 32 := 1#32
  let v773 : BitVec 32 := Scalar.subi arg2 c1_i32_728
  let c0_i32_729 : BitVec 32 := 0#32
  let v774 : BitVec 32 := Scalar.maxsi v773 c0_i32_729
  let v775 : BitVec 32 := Scalar.minsi v772 v774
  let v776 : BitVec 32 := Scalar.select v771 arg2 v775
  let v783 : Index := Scalar.indexCast v776
  let c0_739 : Index := 0#32
  let c0_740 : Index := 0#32
  ![0, 0, v783.toNat, 0, 0]
def k0_off42 (i : grid0.Coords) (k0_t2 : Fin (k0_t2_loop i).trips) : Fin 5 → Nat :=
  let c0_756 : Index := 0#32
  let c1_757 : Index := 1#32
  let c2_i32_583 : BitVec 32 := 2#32
  let c0_i32_525 : BitVec 32 := 0#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v536 : BitVec 32 := Scalar.subi v535 c0_i32_525
  let c1_i32_526 : BitVec 32 := 1#32
  let v538 : BitVec 32 := Scalar.divsi v536 c1_i32_526
  let v539 : BitVec 32 := Scalar.muli v538 c1_i32_526
  let v540 : BitVec 32 := Scalar.addi c0_i32_525 v539
  let c1_i32_528 : BitVec 32 := 1#32
  let arg13 : BitVec 32 := Scf.iv v540 c1_i32_528 k0_t2
  let v649 : BitVec 32 := Scalar.muli c2_i32_583 arg13
  let c0_i32_726 : BitVec 32 := 0#32
  let v771 : BitVec 1 := Scalar.cmpi .eq v649 c0_i32_726
  let c1_i32_727 : BitVec 32 := 1#32
  let v772 : BitVec 32 := Scalar.subi v649 c1_i32_727
  let c1_i32_728 : BitVec 32 := 1#32
  let v773 : BitVec 32 := Scalar.subi arg2 c1_i32_728
  let c0_i32_729 : BitVec 32 := 0#32
  let v774 : BitVec 32 := Scalar.maxsi v773 c0_i32_729
  let v775 : BitVec 32 := Scalar.minsi v772 v774
  let v776 : BitVec 32 := Scalar.select v771 arg2 v775
  let v799 : Index := Scalar.indexCast v776
  let c0_758 : Index := 0#32
  let c0_759 : Index := 0#32
  ![0, 1, v799.toNat, 0, 0]
def k0_off43 (i : grid0.Coords) (k0_t2 : Fin (k0_t2_loop i).trips) : Fin 5 → Nat :=
  let c0_775 : Index := 0#32
  let c2_776 : Index := 2#32
  let c2_i32_583 : BitVec 32 := 2#32
  let c0_i32_525 : BitVec 32 := 0#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v536 : BitVec 32 := Scalar.subi v535 c0_i32_525
  let c1_i32_526 : BitVec 32 := 1#32
  let v538 : BitVec 32 := Scalar.divsi v536 c1_i32_526
  let v539 : BitVec 32 := Scalar.muli v538 c1_i32_526
  let v540 : BitVec 32 := Scalar.addi c0_i32_525 v539
  let c1_i32_528 : BitVec 32 := 1#32
  let arg13 : BitVec 32 := Scf.iv v540 c1_i32_528 k0_t2
  let v649 : BitVec 32 := Scalar.muli c2_i32_583 arg13
  let c0_i32_726 : BitVec 32 := 0#32
  let v771 : BitVec 1 := Scalar.cmpi .eq v649 c0_i32_726
  let c1_i32_727 : BitVec 32 := 1#32
  let v772 : BitVec 32 := Scalar.subi v649 c1_i32_727
  let c1_i32_728 : BitVec 32 := 1#32
  let v773 : BitVec 32 := Scalar.subi arg2 c1_i32_728
  let c0_i32_729 : BitVec 32 := 0#32
  let v774 : BitVec 32 := Scalar.maxsi v773 c0_i32_729
  let v775 : BitVec 32 := Scalar.minsi v772 v774
  let v776 : BitVec 32 := Scalar.select v771 arg2 v775
  let v815 : Index := Scalar.indexCast v776
  let c0_777 : Index := 0#32
  let c0_778 : Index := 0#32
  ![0, 2, v815.toNat, 0, 0]
def k0_off44 (i : grid0.Coords) (k0_t2 : Fin (k0_t2_loop i).trips) : Fin 5 → Nat :=
  let c0_794 : Index := 0#32
  let c3_795 : Index := 3#32
  let c2_i32_583 : BitVec 32 := 2#32
  let c0_i32_525 : BitVec 32 := 0#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v536 : BitVec 32 := Scalar.subi v535 c0_i32_525
  let c1_i32_526 : BitVec 32 := 1#32
  let v538 : BitVec 32 := Scalar.divsi v536 c1_i32_526
  let v539 : BitVec 32 := Scalar.muli v538 c1_i32_526
  let v540 : BitVec 32 := Scalar.addi c0_i32_525 v539
  let c1_i32_528 : BitVec 32 := 1#32
  let arg13 : BitVec 32 := Scf.iv v540 c1_i32_528 k0_t2
  let v649 : BitVec 32 := Scalar.muli c2_i32_583 arg13
  let c0_i32_726 : BitVec 32 := 0#32
  let v771 : BitVec 1 := Scalar.cmpi .eq v649 c0_i32_726
  let c1_i32_727 : BitVec 32 := 1#32
  let v772 : BitVec 32 := Scalar.subi v649 c1_i32_727
  let c1_i32_728 : BitVec 32 := 1#32
  let v773 : BitVec 32 := Scalar.subi arg2 c1_i32_728
  let c0_i32_729 : BitVec 32 := 0#32
  let v774 : BitVec 32 := Scalar.maxsi v773 c0_i32_729
  let v775 : BitVec 32 := Scalar.minsi v772 v774
  let v776 : BitVec 32 := Scalar.select v771 arg2 v775
  let v831 : Index := Scalar.indexCast v776
  let c0_796 : Index := 0#32
  let c0_797 : Index := 0#32
  ![0, 3, v831.toNat, 0, 0]
def k0_off45 (i : grid0.Coords) (k0_t2 : Fin (k0_t2_loop i).trips) : Fin 5 → Nat :=
  let c0_813 : Index := 0#32
  let c4_814 : Index := 4#32
  let c2_i32_583 : BitVec 32 := 2#32
  let c0_i32_525 : BitVec 32 := 0#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v536 : BitVec 32 := Scalar.subi v535 c0_i32_525
  let c1_i32_526 : BitVec 32 := 1#32
  let v538 : BitVec 32 := Scalar.divsi v536 c1_i32_526
  let v539 : BitVec 32 := Scalar.muli v538 c1_i32_526
  let v540 : BitVec 32 := Scalar.addi c0_i32_525 v539
  let c1_i32_528 : BitVec 32 := 1#32
  let arg13 : BitVec 32 := Scf.iv v540 c1_i32_528 k0_t2
  let v649 : BitVec 32 := Scalar.muli c2_i32_583 arg13
  let c0_i32_726 : BitVec 32 := 0#32
  let v771 : BitVec 1 := Scalar.cmpi .eq v649 c0_i32_726
  let c1_i32_727 : BitVec 32 := 1#32
  let v772 : BitVec 32 := Scalar.subi v649 c1_i32_727
  let c1_i32_728 : BitVec 32 := 1#32
  let v773 : BitVec 32 := Scalar.subi arg2 c1_i32_728
  let c0_i32_729 : BitVec 32 := 0#32
  let v774 : BitVec 32 := Scalar.maxsi v773 c0_i32_729
  let v775 : BitVec 32 := Scalar.minsi v772 v774
  let v776 : BitVec 32 := Scalar.select v771 arg2 v775
  let v847 : Index := Scalar.indexCast v776
  let c0_815 : Index := 0#32
  let c0_816 : Index := 0#32
  ![0, 4, v847.toNat, 0, 0]
def k0_off46 (i : grid0.Coords) (k0_t2 : Fin (k0_t2_loop i).trips) : Fin 5 → Nat :=
  let c0_832 : Index := 0#32
  let c5_833 : Index := 5#32
  let c2_i32_583 : BitVec 32 := 2#32
  let c0_i32_525 : BitVec 32 := 0#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v536 : BitVec 32 := Scalar.subi v535 c0_i32_525
  let c1_i32_526 : BitVec 32 := 1#32
  let v538 : BitVec 32 := Scalar.divsi v536 c1_i32_526
  let v539 : BitVec 32 := Scalar.muli v538 c1_i32_526
  let v540 : BitVec 32 := Scalar.addi c0_i32_525 v539
  let c1_i32_528 : BitVec 32 := 1#32
  let arg13 : BitVec 32 := Scf.iv v540 c1_i32_528 k0_t2
  let v649 : BitVec 32 := Scalar.muli c2_i32_583 arg13
  let c0_i32_726 : BitVec 32 := 0#32
  let v771 : BitVec 1 := Scalar.cmpi .eq v649 c0_i32_726
  let c1_i32_727 : BitVec 32 := 1#32
  let v772 : BitVec 32 := Scalar.subi v649 c1_i32_727
  let c1_i32_728 : BitVec 32 := 1#32
  let v773 : BitVec 32 := Scalar.subi arg2 c1_i32_728
  let c0_i32_729 : BitVec 32 := 0#32
  let v774 : BitVec 32 := Scalar.maxsi v773 c0_i32_729
  let v775 : BitVec 32 := Scalar.minsi v772 v774
  let v776 : BitVec 32 := Scalar.select v771 arg2 v775
  let v863 : Index := Scalar.indexCast v776
  let c0_834 : Index := 0#32
  let c0_835 : Index := 0#32
  ![0, 5, v863.toNat, 0, 0]
def k0_off47 (i : grid0.Coords) (k0_t2 : Fin (k0_t2_loop i).trips) : Fin 5 → Nat :=
  let c0_851 : Index := 0#32
  let c6_852 : Index := 6#32
  let c2_i32_583 : BitVec 32 := 2#32
  let c0_i32_525 : BitVec 32 := 0#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v536 : BitVec 32 := Scalar.subi v535 c0_i32_525
  let c1_i32_526 : BitVec 32 := 1#32
  let v538 : BitVec 32 := Scalar.divsi v536 c1_i32_526
  let v539 : BitVec 32 := Scalar.muli v538 c1_i32_526
  let v540 : BitVec 32 := Scalar.addi c0_i32_525 v539
  let c1_i32_528 : BitVec 32 := 1#32
  let arg13 : BitVec 32 := Scf.iv v540 c1_i32_528 k0_t2
  let v649 : BitVec 32 := Scalar.muli c2_i32_583 arg13
  let c0_i32_726 : BitVec 32 := 0#32
  let v771 : BitVec 1 := Scalar.cmpi .eq v649 c0_i32_726
  let c1_i32_727 : BitVec 32 := 1#32
  let v772 : BitVec 32 := Scalar.subi v649 c1_i32_727
  let c1_i32_728 : BitVec 32 := 1#32
  let v773 : BitVec 32 := Scalar.subi arg2 c1_i32_728
  let c0_i32_729 : BitVec 32 := 0#32
  let v774 : BitVec 32 := Scalar.maxsi v773 c0_i32_729
  let v775 : BitVec 32 := Scalar.minsi v772 v774
  let v776 : BitVec 32 := Scalar.select v771 arg2 v775
  let v879 : Index := Scalar.indexCast v776
  let c0_853 : Index := 0#32
  let c0_854 : Index := 0#32
  ![0, 6, v879.toNat, 0, 0]
def k0_off48 (i : grid0.Coords) (k0_t2 : Fin (k0_t2_loop i).trips) : Fin 5 → Nat :=
  let c0_870 : Index := 0#32
  let c7_871 : Index := 7#32
  let c2_i32_583 : BitVec 32 := 2#32
  let c0_i32_525 : BitVec 32 := 0#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v536 : BitVec 32 := Scalar.subi v535 c0_i32_525
  let c1_i32_526 : BitVec 32 := 1#32
  let v538 : BitVec 32 := Scalar.divsi v536 c1_i32_526
  let v539 : BitVec 32 := Scalar.muli v538 c1_i32_526
  let v540 : BitVec 32 := Scalar.addi c0_i32_525 v539
  let c1_i32_528 : BitVec 32 := 1#32
  let arg13 : BitVec 32 := Scf.iv v540 c1_i32_528 k0_t2
  let v649 : BitVec 32 := Scalar.muli c2_i32_583 arg13
  let c0_i32_726 : BitVec 32 := 0#32
  let v771 : BitVec 1 := Scalar.cmpi .eq v649 c0_i32_726
  let c1_i32_727 : BitVec 32 := 1#32
  let v772 : BitVec 32 := Scalar.subi v649 c1_i32_727
  let c1_i32_728 : BitVec 32 := 1#32
  let v773 : BitVec 32 := Scalar.subi arg2 c1_i32_728
  let c0_i32_729 : BitVec 32 := 0#32
  let v774 : BitVec 32 := Scalar.maxsi v773 c0_i32_729
  let v775 : BitVec 32 := Scalar.minsi v772 v774
  let v776 : BitVec 32 := Scalar.select v771 arg2 v775
  let v895 : Index := Scalar.indexCast v776
  let c0_872 : Index := 0#32
  let c0_873 : Index := 0#32
  ![0, 7, v895.toNat, 0, 0]
def k0_mult6 (i : grid0.Coords) (k0_t2 : Fin (k0_t2_loop i).trips) : BitVec 32 :=
  let c2_i32_583 : BitVec 32 := 2#32
  let c0_i32_525 : BitVec 32 := 0#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v536 : BitVec 32 := Scalar.subi v535 c0_i32_525
  let c1_i32_526 : BitVec 32 := 1#32
  let v538 : BitVec 32 := Scalar.divsi v536 c1_i32_526
  let v539 : BitVec 32 := Scalar.muli v538 c1_i32_526
  let v540 : BitVec 32 := Scalar.addi c0_i32_525 v539
  let c1_i32_528 : BitVec 32 := 1#32
  let arg13 : BitVec 32 := Scf.iv v540 c1_i32_528 k0_t2
  let v649 : BitVec 32 := Scalar.muli c2_i32_583 arg13
  let c3_i32_1058 : BitVec 32 := 3#32
  let v1081 : BitVec 32 := Scalar.addi v649 c3_i32_1058
  let c0_i32_1059 : BitVec 32 := 0#32
  let v1082 : BitVec 1 := Scalar.cmpi .eq v1081 c0_i32_1059
  let c1_i32_1060 : BitVec 32 := 1#32
  let v1083 : BitVec 32 := Scalar.subi v1081 c1_i32_1060
  let c1_i32_1061 : BitVec 32 := 1#32
  let v1084 : BitVec 32 := Scalar.subi arg2 c1_i32_1061
  let c0_i32_1062 : BitVec 32 := 0#32
  let v1085 : BitVec 32 := Scalar.maxsi v1084 c0_i32_1062
  let v1086 : BitVec 32 := Scalar.minsi v1083 v1085
  let v1087 : BitVec 32 := Scalar.select v1082 arg2 v1086
  let c256_i32_1063 : BitVec 32 := 256#32
  let v1088 : BitVec 32 := Scalar.muli v1087 c256_i32_1063
  v1088
def k0_off49 (i : grid0.Coords) (k0_t2 : Fin (k0_t2_loop i).trips) : Fin 5 → Nat :=
  let c0_1212 : Index := 0#32
  let c0_1213 : Index := 0#32
  let c2_i32_583 : BitVec 32 := 2#32
  let c0_i32_525 : BitVec 32 := 0#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v536 : BitVec 32 := Scalar.subi v535 c0_i32_525
  let c1_i32_526 : BitVec 32 := 1#32
  let v538 : BitVec 32 := Scalar.divsi v536 c1_i32_526
  let v539 : BitVec 32 := Scalar.muli v538 c1_i32_526
  let v540 : BitVec 32 := Scalar.addi c0_i32_525 v539
  let c1_i32_528 : BitVec 32 := 1#32
  let arg13 : BitVec 32 := Scf.iv v540 c1_i32_528 k0_t2
  let v649 : BitVec 32 := Scalar.muli c2_i32_583 arg13
  let c1_i32_1200 : BitVec 32 := 1#32
  let v1202 : BitVec 32 := Scalar.addi v649 c1_i32_1200
  let c0_i32_1201 : BitVec 32 := 0#32
  let v1203 : BitVec 1 := Scalar.cmpi .eq v1202 c0_i32_1201
  let c1_i32_1202 : BitVec 32 := 1#32
  let v1204 : BitVec 32 := Scalar.subi v1202 c1_i32_1202
  let c1_i32_1203 : BitVec 32 := 1#32
  let v1205 : BitVec 32 := Scalar.subi arg2 c1_i32_1203
  let c0_i32_1204 : BitVec 32 := 0#32
  let v1206 : BitVec 32 := Scalar.maxsi v1205 c0_i32_1204
  let v1207 : BitVec 32 := Scalar.minsi v1204 v1206
  let v1208 : BitVec 32 := Scalar.select v1203 arg2 v1207
  let v1215 : Index := Scalar.indexCast v1208
  let c0_1214 : Index := 0#32
  let c0_1215 : Index := 0#32
  ![0, 0, v1215.toNat, 0, 0]
def k0_off50 (i : grid0.Coords) (k0_t2 : Fin (k0_t2_loop i).trips) : Fin 5 → Nat :=
  let c0_1231 : Index := 0#32
  let c1_1232 : Index := 1#32
  let c2_i32_583 : BitVec 32 := 2#32
  let c0_i32_525 : BitVec 32 := 0#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v536 : BitVec 32 := Scalar.subi v535 c0_i32_525
  let c1_i32_526 : BitVec 32 := 1#32
  let v538 : BitVec 32 := Scalar.divsi v536 c1_i32_526
  let v539 : BitVec 32 := Scalar.muli v538 c1_i32_526
  let v540 : BitVec 32 := Scalar.addi c0_i32_525 v539
  let c1_i32_528 : BitVec 32 := 1#32
  let arg13 : BitVec 32 := Scf.iv v540 c1_i32_528 k0_t2
  let v649 : BitVec 32 := Scalar.muli c2_i32_583 arg13
  let c1_i32_1200 : BitVec 32 := 1#32
  let v1202 : BitVec 32 := Scalar.addi v649 c1_i32_1200
  let c0_i32_1201 : BitVec 32 := 0#32
  let v1203 : BitVec 1 := Scalar.cmpi .eq v1202 c0_i32_1201
  let c1_i32_1202 : BitVec 32 := 1#32
  let v1204 : BitVec 32 := Scalar.subi v1202 c1_i32_1202
  let c1_i32_1203 : BitVec 32 := 1#32
  let v1205 : BitVec 32 := Scalar.subi arg2 c1_i32_1203
  let c0_i32_1204 : BitVec 32 := 0#32
  let v1206 : BitVec 32 := Scalar.maxsi v1205 c0_i32_1204
  let v1207 : BitVec 32 := Scalar.minsi v1204 v1206
  let v1208 : BitVec 32 := Scalar.select v1203 arg2 v1207
  let v1231 : Index := Scalar.indexCast v1208
  let c0_1233 : Index := 0#32
  let c0_1234 : Index := 0#32
  ![0, 1, v1231.toNat, 0, 0]
def k0_off51 (i : grid0.Coords) (k0_t2 : Fin (k0_t2_loop i).trips) : Fin 5 → Nat :=
  let c0_1250 : Index := 0#32
  let c2_1251 : Index := 2#32
  let c2_i32_583 : BitVec 32 := 2#32
  let c0_i32_525 : BitVec 32 := 0#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v536 : BitVec 32 := Scalar.subi v535 c0_i32_525
  let c1_i32_526 : BitVec 32 := 1#32
  let v538 : BitVec 32 := Scalar.divsi v536 c1_i32_526
  let v539 : BitVec 32 := Scalar.muli v538 c1_i32_526
  let v540 : BitVec 32 := Scalar.addi c0_i32_525 v539
  let c1_i32_528 : BitVec 32 := 1#32
  let arg13 : BitVec 32 := Scf.iv v540 c1_i32_528 k0_t2
  let v649 : BitVec 32 := Scalar.muli c2_i32_583 arg13
  let c1_i32_1200 : BitVec 32 := 1#32
  let v1202 : BitVec 32 := Scalar.addi v649 c1_i32_1200
  let c0_i32_1201 : BitVec 32 := 0#32
  let v1203 : BitVec 1 := Scalar.cmpi .eq v1202 c0_i32_1201
  let c1_i32_1202 : BitVec 32 := 1#32
  let v1204 : BitVec 32 := Scalar.subi v1202 c1_i32_1202
  let c1_i32_1203 : BitVec 32 := 1#32
  let v1205 : BitVec 32 := Scalar.subi arg2 c1_i32_1203
  let c0_i32_1204 : BitVec 32 := 0#32
  let v1206 : BitVec 32 := Scalar.maxsi v1205 c0_i32_1204
  let v1207 : BitVec 32 := Scalar.minsi v1204 v1206
  let v1208 : BitVec 32 := Scalar.select v1203 arg2 v1207
  let v1247 : Index := Scalar.indexCast v1208
  let c0_1252 : Index := 0#32
  let c0_1253 : Index := 0#32
  ![0, 2, v1247.toNat, 0, 0]
def k0_off52 (i : grid0.Coords) (k0_t2 : Fin (k0_t2_loop i).trips) : Fin 5 → Nat :=
  let c0_1269 : Index := 0#32
  let c3_1270 : Index := 3#32
  let c2_i32_583 : BitVec 32 := 2#32
  let c0_i32_525 : BitVec 32 := 0#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v536 : BitVec 32 := Scalar.subi v535 c0_i32_525
  let c1_i32_526 : BitVec 32 := 1#32
  let v538 : BitVec 32 := Scalar.divsi v536 c1_i32_526
  let v539 : BitVec 32 := Scalar.muli v538 c1_i32_526
  let v540 : BitVec 32 := Scalar.addi c0_i32_525 v539
  let c1_i32_528 : BitVec 32 := 1#32
  let arg13 : BitVec 32 := Scf.iv v540 c1_i32_528 k0_t2
  let v649 : BitVec 32 := Scalar.muli c2_i32_583 arg13
  let c1_i32_1200 : BitVec 32 := 1#32
  let v1202 : BitVec 32 := Scalar.addi v649 c1_i32_1200
  let c0_i32_1201 : BitVec 32 := 0#32
  let v1203 : BitVec 1 := Scalar.cmpi .eq v1202 c0_i32_1201
  let c1_i32_1202 : BitVec 32 := 1#32
  let v1204 : BitVec 32 := Scalar.subi v1202 c1_i32_1202
  let c1_i32_1203 : BitVec 32 := 1#32
  let v1205 : BitVec 32 := Scalar.subi arg2 c1_i32_1203
  let c0_i32_1204 : BitVec 32 := 0#32
  let v1206 : BitVec 32 := Scalar.maxsi v1205 c0_i32_1204
  let v1207 : BitVec 32 := Scalar.minsi v1204 v1206
  let v1208 : BitVec 32 := Scalar.select v1203 arg2 v1207
  let v1263 : Index := Scalar.indexCast v1208
  let c0_1271 : Index := 0#32
  let c0_1272 : Index := 0#32
  ![0, 3, v1263.toNat, 0, 0]
def k0_off53 (i : grid0.Coords) (k0_t2 : Fin (k0_t2_loop i).trips) : Fin 5 → Nat :=
  let c0_1288 : Index := 0#32
  let c4_1289 : Index := 4#32
  let c2_i32_583 : BitVec 32 := 2#32
  let c0_i32_525 : BitVec 32 := 0#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v536 : BitVec 32 := Scalar.subi v535 c0_i32_525
  let c1_i32_526 : BitVec 32 := 1#32
  let v538 : BitVec 32 := Scalar.divsi v536 c1_i32_526
  let v539 : BitVec 32 := Scalar.muli v538 c1_i32_526
  let v540 : BitVec 32 := Scalar.addi c0_i32_525 v539
  let c1_i32_528 : BitVec 32 := 1#32
  let arg13 : BitVec 32 := Scf.iv v540 c1_i32_528 k0_t2
  let v649 : BitVec 32 := Scalar.muli c2_i32_583 arg13
  let c1_i32_1200 : BitVec 32 := 1#32
  let v1202 : BitVec 32 := Scalar.addi v649 c1_i32_1200
  let c0_i32_1201 : BitVec 32 := 0#32
  let v1203 : BitVec 1 := Scalar.cmpi .eq v1202 c0_i32_1201
  let c1_i32_1202 : BitVec 32 := 1#32
  let v1204 : BitVec 32 := Scalar.subi v1202 c1_i32_1202
  let c1_i32_1203 : BitVec 32 := 1#32
  let v1205 : BitVec 32 := Scalar.subi arg2 c1_i32_1203
  let c0_i32_1204 : BitVec 32 := 0#32
  let v1206 : BitVec 32 := Scalar.maxsi v1205 c0_i32_1204
  let v1207 : BitVec 32 := Scalar.minsi v1204 v1206
  let v1208 : BitVec 32 := Scalar.select v1203 arg2 v1207
  let v1279 : Index := Scalar.indexCast v1208
  let c0_1290 : Index := 0#32
  let c0_1291 : Index := 0#32
  ![0, 4, v1279.toNat, 0, 0]
def k0_off54 (i : grid0.Coords) (k0_t2 : Fin (k0_t2_loop i).trips) : Fin 5 → Nat :=
  let c0_1307 : Index := 0#32
  let c5_1308 : Index := 5#32
  let c2_i32_583 : BitVec 32 := 2#32
  let c0_i32_525 : BitVec 32 := 0#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v536 : BitVec 32 := Scalar.subi v535 c0_i32_525
  let c1_i32_526 : BitVec 32 := 1#32
  let v538 : BitVec 32 := Scalar.divsi v536 c1_i32_526
  let v539 : BitVec 32 := Scalar.muli v538 c1_i32_526
  let v540 : BitVec 32 := Scalar.addi c0_i32_525 v539
  let c1_i32_528 : BitVec 32 := 1#32
  let arg13 : BitVec 32 := Scf.iv v540 c1_i32_528 k0_t2
  let v649 : BitVec 32 := Scalar.muli c2_i32_583 arg13
  let c1_i32_1200 : BitVec 32 := 1#32
  let v1202 : BitVec 32 := Scalar.addi v649 c1_i32_1200
  let c0_i32_1201 : BitVec 32 := 0#32
  let v1203 : BitVec 1 := Scalar.cmpi .eq v1202 c0_i32_1201
  let c1_i32_1202 : BitVec 32 := 1#32
  let v1204 : BitVec 32 := Scalar.subi v1202 c1_i32_1202
  let c1_i32_1203 : BitVec 32 := 1#32
  let v1205 : BitVec 32 := Scalar.subi arg2 c1_i32_1203
  let c0_i32_1204 : BitVec 32 := 0#32
  let v1206 : BitVec 32 := Scalar.maxsi v1205 c0_i32_1204
  let v1207 : BitVec 32 := Scalar.minsi v1204 v1206
  let v1208 : BitVec 32 := Scalar.select v1203 arg2 v1207
  let v1295 : Index := Scalar.indexCast v1208
  let c0_1309 : Index := 0#32
  let c0_1310 : Index := 0#32
  ![0, 5, v1295.toNat, 0, 0]
def k0_off55 (i : grid0.Coords) (k0_t2 : Fin (k0_t2_loop i).trips) : Fin 5 → Nat :=
  let c0_1326 : Index := 0#32
  let c6_1327 : Index := 6#32
  let c2_i32_583 : BitVec 32 := 2#32
  let c0_i32_525 : BitVec 32 := 0#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v536 : BitVec 32 := Scalar.subi v535 c0_i32_525
  let c1_i32_526 : BitVec 32 := 1#32
  let v538 : BitVec 32 := Scalar.divsi v536 c1_i32_526
  let v539 : BitVec 32 := Scalar.muli v538 c1_i32_526
  let v540 : BitVec 32 := Scalar.addi c0_i32_525 v539
  let c1_i32_528 : BitVec 32 := 1#32
  let arg13 : BitVec 32 := Scf.iv v540 c1_i32_528 k0_t2
  let v649 : BitVec 32 := Scalar.muli c2_i32_583 arg13
  let c1_i32_1200 : BitVec 32 := 1#32
  let v1202 : BitVec 32 := Scalar.addi v649 c1_i32_1200
  let c0_i32_1201 : BitVec 32 := 0#32
  let v1203 : BitVec 1 := Scalar.cmpi .eq v1202 c0_i32_1201
  let c1_i32_1202 : BitVec 32 := 1#32
  let v1204 : BitVec 32 := Scalar.subi v1202 c1_i32_1202
  let c1_i32_1203 : BitVec 32 := 1#32
  let v1205 : BitVec 32 := Scalar.subi arg2 c1_i32_1203
  let c0_i32_1204 : BitVec 32 := 0#32
  let v1206 : BitVec 32 := Scalar.maxsi v1205 c0_i32_1204
  let v1207 : BitVec 32 := Scalar.minsi v1204 v1206
  let v1208 : BitVec 32 := Scalar.select v1203 arg2 v1207
  let v1311 : Index := Scalar.indexCast v1208
  let c0_1328 : Index := 0#32
  let c0_1329 : Index := 0#32
  ![0, 6, v1311.toNat, 0, 0]
def k0_off56 (i : grid0.Coords) (k0_t2 : Fin (k0_t2_loop i).trips) : Fin 5 → Nat :=
  let c0_1345 : Index := 0#32
  let c7_1346 : Index := 7#32
  let c2_i32_583 : BitVec 32 := 2#32
  let c0_i32_525 : BitVec 32 := 0#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v536 : BitVec 32 := Scalar.subi v535 c0_i32_525
  let c1_i32_526 : BitVec 32 := 1#32
  let v538 : BitVec 32 := Scalar.divsi v536 c1_i32_526
  let v539 : BitVec 32 := Scalar.muli v538 c1_i32_526
  let v540 : BitVec 32 := Scalar.addi c0_i32_525 v539
  let c1_i32_528 : BitVec 32 := 1#32
  let arg13 : BitVec 32 := Scf.iv v540 c1_i32_528 k0_t2
  let v649 : BitVec 32 := Scalar.muli c2_i32_583 arg13
  let c1_i32_1200 : BitVec 32 := 1#32
  let v1202 : BitVec 32 := Scalar.addi v649 c1_i32_1200
  let c0_i32_1201 : BitVec 32 := 0#32
  let v1203 : BitVec 1 := Scalar.cmpi .eq v1202 c0_i32_1201
  let c1_i32_1202 : BitVec 32 := 1#32
  let v1204 : BitVec 32 := Scalar.subi v1202 c1_i32_1202
  let c1_i32_1203 : BitVec 32 := 1#32
  let v1205 : BitVec 32 := Scalar.subi arg2 c1_i32_1203
  let c0_i32_1204 : BitVec 32 := 0#32
  let v1206 : BitVec 32 := Scalar.maxsi v1205 c0_i32_1204
  let v1207 : BitVec 32 := Scalar.minsi v1204 v1206
  let v1208 : BitVec 32 := Scalar.select v1203 arg2 v1207
  let v1327 : Index := Scalar.indexCast v1208
  let c0_1347 : Index := 0#32
  let c0_1348 : Index := 0#32
  ![0, 7, v1327.toNat, 0, 0]
def k0_cond1 (i : grid0.Coords) : BitVec 1 :=
  let arg2 : BitVec 32 := BitVec.ofNat 32 (i 2).val
  let c1_i32 : BitVec 32 := 1#32
  let v0 : BitVec 32 := Scalar.addi arg2 c1_i32
  let c2_i32_529 : BitVec 32 := 2#32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v541 : BitVec 32 := Scalar.muli c2_i32_529 v535
  let v542 : BitVec 32 := Scalar.subi v0 v541
  let c1_i32_530 : BitVec 32 := 1#32
  let v543 : BitVec 1 := Scalar.cmpi .eq v542 c1_i32_530
  let v544 : BitVec 32 := Scalar.extui v543
  let c0_i32_531 : BitVec 32 := 0#32
  let v545 : BitVec 1 := Scalar.cmpi .ne v544 c0_i32_531
  v545

def k0_off57 (i : grid0.Coords) : Fin 5 → Nat :=
  let c0_594 : Index := 0#32
  let c0_595 : Index := 0#32
  let c2_i32_529 : BitVec 32 := 2#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v541 : BitVec 32 := Scalar.muli c2_i32_529 v535
  let c0_i32_583 : BitVec 32 := 0#32
  let v649 : BitVec 1 := Scalar.cmpi .eq v541 c0_i32_583
  let c1_i32_584 : BitVec 32 := 1#32
  let v650 : BitVec 32 := Scalar.subi v541 c1_i32_584
  let c1_i32_585 : BitVec 32 := 1#32
  let v651 : BitVec 32 := Scalar.subi arg2 c1_i32_585
  let c0_i32_586 : BitVec 32 := 0#32
  let v652 : BitVec 32 := Scalar.maxsi v651 c0_i32_586
  let v653 : BitVec 32 := Scalar.minsi v650 v652
  let v654 : BitVec 32 := Scalar.select v649 arg2 v653
  let v661 : Index := Scalar.indexCast v654
  let c0_596 : Index := 0#32
  let c0_597 : Index := 0#32
  ![0, 0, v661.toNat, 0, 0]
def k0_off58 (i : grid0.Coords) : Fin 5 → Nat :=
  let c0_613 : Index := 0#32
  let c1_614 : Index := 1#32
  let c2_i32_529 : BitVec 32 := 2#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v541 : BitVec 32 := Scalar.muli c2_i32_529 v535
  let c0_i32_583 : BitVec 32 := 0#32
  let v649 : BitVec 1 := Scalar.cmpi .eq v541 c0_i32_583
  let c1_i32_584 : BitVec 32 := 1#32
  let v650 : BitVec 32 := Scalar.subi v541 c1_i32_584
  let c1_i32_585 : BitVec 32 := 1#32
  let v651 : BitVec 32 := Scalar.subi arg2 c1_i32_585
  let c0_i32_586 : BitVec 32 := 0#32
  let v652 : BitVec 32 := Scalar.maxsi v651 c0_i32_586
  let v653 : BitVec 32 := Scalar.minsi v650 v652
  let v654 : BitVec 32 := Scalar.select v649 arg2 v653
  let v677 : Index := Scalar.indexCast v654
  let c0_615 : Index := 0#32
  let c0_616 : Index := 0#32
  ![0, 1, v677.toNat, 0, 0]
def k0_off59 (i : grid0.Coords) : Fin 5 → Nat :=
  let c0_632 : Index := 0#32
  let c2_633 : Index := 2#32
  let c2_i32_529 : BitVec 32 := 2#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v541 : BitVec 32 := Scalar.muli c2_i32_529 v535
  let c0_i32_583 : BitVec 32 := 0#32
  let v649 : BitVec 1 := Scalar.cmpi .eq v541 c0_i32_583
  let c1_i32_584 : BitVec 32 := 1#32
  let v650 : BitVec 32 := Scalar.subi v541 c1_i32_584
  let c1_i32_585 : BitVec 32 := 1#32
  let v651 : BitVec 32 := Scalar.subi arg2 c1_i32_585
  let c0_i32_586 : BitVec 32 := 0#32
  let v652 : BitVec 32 := Scalar.maxsi v651 c0_i32_586
  let v653 : BitVec 32 := Scalar.minsi v650 v652
  let v654 : BitVec 32 := Scalar.select v649 arg2 v653
  let v693 : Index := Scalar.indexCast v654
  let c0_634 : Index := 0#32
  let c0_635 : Index := 0#32
  ![0, 2, v693.toNat, 0, 0]
def k0_off60 (i : grid0.Coords) : Fin 5 → Nat :=
  let c0_651 : Index := 0#32
  let c3_652 : Index := 3#32
  let c2_i32_529 : BitVec 32 := 2#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v541 : BitVec 32 := Scalar.muli c2_i32_529 v535
  let c0_i32_583 : BitVec 32 := 0#32
  let v649 : BitVec 1 := Scalar.cmpi .eq v541 c0_i32_583
  let c1_i32_584 : BitVec 32 := 1#32
  let v650 : BitVec 32 := Scalar.subi v541 c1_i32_584
  let c1_i32_585 : BitVec 32 := 1#32
  let v651 : BitVec 32 := Scalar.subi arg2 c1_i32_585
  let c0_i32_586 : BitVec 32 := 0#32
  let v652 : BitVec 32 := Scalar.maxsi v651 c0_i32_586
  let v653 : BitVec 32 := Scalar.minsi v650 v652
  let v654 : BitVec 32 := Scalar.select v649 arg2 v653
  let v709 : Index := Scalar.indexCast v654
  let c0_653 : Index := 0#32
  let c0_654 : Index := 0#32
  ![0, 3, v709.toNat, 0, 0]
def k0_off61 (i : grid0.Coords) : Fin 5 → Nat :=
  let c0_670 : Index := 0#32
  let c4_671 : Index := 4#32
  let c2_i32_529 : BitVec 32 := 2#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v541 : BitVec 32 := Scalar.muli c2_i32_529 v535
  let c0_i32_583 : BitVec 32 := 0#32
  let v649 : BitVec 1 := Scalar.cmpi .eq v541 c0_i32_583
  let c1_i32_584 : BitVec 32 := 1#32
  let v650 : BitVec 32 := Scalar.subi v541 c1_i32_584
  let c1_i32_585 : BitVec 32 := 1#32
  let v651 : BitVec 32 := Scalar.subi arg2 c1_i32_585
  let c0_i32_586 : BitVec 32 := 0#32
  let v652 : BitVec 32 := Scalar.maxsi v651 c0_i32_586
  let v653 : BitVec 32 := Scalar.minsi v650 v652
  let v654 : BitVec 32 := Scalar.select v649 arg2 v653
  let v725 : Index := Scalar.indexCast v654
  let c0_672 : Index := 0#32
  let c0_673 : Index := 0#32
  ![0, 4, v725.toNat, 0, 0]
def k0_off62 (i : grid0.Coords) : Fin 5 → Nat :=
  let c0_689 : Index := 0#32
  let c5_690 : Index := 5#32
  let c2_i32_529 : BitVec 32 := 2#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v541 : BitVec 32 := Scalar.muli c2_i32_529 v535
  let c0_i32_583 : BitVec 32 := 0#32
  let v649 : BitVec 1 := Scalar.cmpi .eq v541 c0_i32_583
  let c1_i32_584 : BitVec 32 := 1#32
  let v650 : BitVec 32 := Scalar.subi v541 c1_i32_584
  let c1_i32_585 : BitVec 32 := 1#32
  let v651 : BitVec 32 := Scalar.subi arg2 c1_i32_585
  let c0_i32_586 : BitVec 32 := 0#32
  let v652 : BitVec 32 := Scalar.maxsi v651 c0_i32_586
  let v653 : BitVec 32 := Scalar.minsi v650 v652
  let v654 : BitVec 32 := Scalar.select v649 arg2 v653
  let v741 : Index := Scalar.indexCast v654
  let c0_691 : Index := 0#32
  let c0_692 : Index := 0#32
  ![0, 5, v741.toNat, 0, 0]
def k0_off63 (i : grid0.Coords) : Fin 5 → Nat :=
  let c0_708 : Index := 0#32
  let c6_709 : Index := 6#32
  let c2_i32_529 : BitVec 32 := 2#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v541 : BitVec 32 := Scalar.muli c2_i32_529 v535
  let c0_i32_583 : BitVec 32 := 0#32
  let v649 : BitVec 1 := Scalar.cmpi .eq v541 c0_i32_583
  let c1_i32_584 : BitVec 32 := 1#32
  let v650 : BitVec 32 := Scalar.subi v541 c1_i32_584
  let c1_i32_585 : BitVec 32 := 1#32
  let v651 : BitVec 32 := Scalar.subi arg2 c1_i32_585
  let c0_i32_586 : BitVec 32 := 0#32
  let v652 : BitVec 32 := Scalar.maxsi v651 c0_i32_586
  let v653 : BitVec 32 := Scalar.minsi v650 v652
  let v654 : BitVec 32 := Scalar.select v649 arg2 v653
  let v757 : Index := Scalar.indexCast v654
  let c0_710 : Index := 0#32
  let c0_711 : Index := 0#32
  ![0, 6, v757.toNat, 0, 0]
def k0_off64 (i : grid0.Coords) : Fin 5 → Nat :=
  let c0_727 : Index := 0#32
  let c7_728 : Index := 7#32
  let c2_i32_529 : BitVec 32 := 2#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v541 : BitVec 32 := Scalar.muli c2_i32_529 v535
  let c0_i32_583 : BitVec 32 := 0#32
  let v649 : BitVec 1 := Scalar.cmpi .eq v541 c0_i32_583
  let c1_i32_584 : BitVec 32 := 1#32
  let v650 : BitVec 32 := Scalar.subi v541 c1_i32_584
  let c1_i32_585 : BitVec 32 := 1#32
  let v651 : BitVec 32 := Scalar.subi arg2 c1_i32_585
  let c0_i32_586 : BitVec 32 := 0#32
  let v652 : BitVec 32 := Scalar.maxsi v651 c0_i32_586
  let v653 : BitVec 32 := Scalar.minsi v650 v652
  let v654 : BitVec 32 := Scalar.select v649 arg2 v653
  let v773 : Index := Scalar.indexCast v654
  let c0_729 : Index := 0#32
  let c0_730 : Index := 0#32
  ![0, 7, v773.toNat, 0, 0]
def k0_cond2 (i : grid0.Coords) : BitVec 1 :=
  let arg2 : BitVec 32 := BitVec.ofNat 32 (i 2).val
  let c1_i32 : BitVec 32 := 1#32
  let v0 : BitVec 32 := Scalar.addi arg2 c1_i32
  let c2_i32_529 : BitVec 32 := 2#32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v541 : BitVec 32 := Scalar.muli c2_i32_529 v535
  let v542 : BitVec 32 := Scalar.subi v0 v541
  let c2_i32_532 : BitVec 32 := 2#32
  let v546 : BitVec 1 := Scalar.cmpi .eq v542 c2_i32_532
  let v547 : BitVec 32 := Scalar.extui v546
  let c0_i32_533 : BitVec 32 := 0#32
  let v548 : BitVec 1 := Scalar.cmpi .ne v547 c0_i32_533
  v548

def k0_off65 (i : grid0.Coords) : Fin 5 → Nat :=
  let c0_594 : Index := 0#32
  let c0_595 : Index := 0#32
  let c2_i32_529 : BitVec 32 := 2#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v541 : BitVec 32 := Scalar.muli c2_i32_529 v535
  let c0_i32_583 : BitVec 32 := 0#32
  let v649 : BitVec 1 := Scalar.cmpi .eq v541 c0_i32_583
  let c1_i32_584 : BitVec 32 := 1#32
  let v650 : BitVec 32 := Scalar.subi v541 c1_i32_584
  let c1_i32_585 : BitVec 32 := 1#32
  let v651 : BitVec 32 := Scalar.subi arg2 c1_i32_585
  let c0_i32_586 : BitVec 32 := 0#32
  let v652 : BitVec 32 := Scalar.maxsi v651 c0_i32_586
  let v653 : BitVec 32 := Scalar.minsi v650 v652
  let v654 : BitVec 32 := Scalar.select v649 arg2 v653
  let v661 : Index := Scalar.indexCast v654
  let c0_596 : Index := 0#32
  let c0_597 : Index := 0#32
  ![0, 0, v661.toNat, 0, 0]
def k0_off66 (i : grid0.Coords) : Fin 5 → Nat :=
  let c0_613 : Index := 0#32
  let c1_614 : Index := 1#32
  let c2_i32_529 : BitVec 32 := 2#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v541 : BitVec 32 := Scalar.muli c2_i32_529 v535
  let c0_i32_583 : BitVec 32 := 0#32
  let v649 : BitVec 1 := Scalar.cmpi .eq v541 c0_i32_583
  let c1_i32_584 : BitVec 32 := 1#32
  let v650 : BitVec 32 := Scalar.subi v541 c1_i32_584
  let c1_i32_585 : BitVec 32 := 1#32
  let v651 : BitVec 32 := Scalar.subi arg2 c1_i32_585
  let c0_i32_586 : BitVec 32 := 0#32
  let v652 : BitVec 32 := Scalar.maxsi v651 c0_i32_586
  let v653 : BitVec 32 := Scalar.minsi v650 v652
  let v654 : BitVec 32 := Scalar.select v649 arg2 v653
  let v677 : Index := Scalar.indexCast v654
  let c0_615 : Index := 0#32
  let c0_616 : Index := 0#32
  ![0, 1, v677.toNat, 0, 0]
def k0_off67 (i : grid0.Coords) : Fin 5 → Nat :=
  let c0_632 : Index := 0#32
  let c2_633 : Index := 2#32
  let c2_i32_529 : BitVec 32 := 2#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v541 : BitVec 32 := Scalar.muli c2_i32_529 v535
  let c0_i32_583 : BitVec 32 := 0#32
  let v649 : BitVec 1 := Scalar.cmpi .eq v541 c0_i32_583
  let c1_i32_584 : BitVec 32 := 1#32
  let v650 : BitVec 32 := Scalar.subi v541 c1_i32_584
  let c1_i32_585 : BitVec 32 := 1#32
  let v651 : BitVec 32 := Scalar.subi arg2 c1_i32_585
  let c0_i32_586 : BitVec 32 := 0#32
  let v652 : BitVec 32 := Scalar.maxsi v651 c0_i32_586
  let v653 : BitVec 32 := Scalar.minsi v650 v652
  let v654 : BitVec 32 := Scalar.select v649 arg2 v653
  let v693 : Index := Scalar.indexCast v654
  let c0_634 : Index := 0#32
  let c0_635 : Index := 0#32
  ![0, 2, v693.toNat, 0, 0]
def k0_off68 (i : grid0.Coords) : Fin 5 → Nat :=
  let c0_651 : Index := 0#32
  let c3_652 : Index := 3#32
  let c2_i32_529 : BitVec 32 := 2#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v541 : BitVec 32 := Scalar.muli c2_i32_529 v535
  let c0_i32_583 : BitVec 32 := 0#32
  let v649 : BitVec 1 := Scalar.cmpi .eq v541 c0_i32_583
  let c1_i32_584 : BitVec 32 := 1#32
  let v650 : BitVec 32 := Scalar.subi v541 c1_i32_584
  let c1_i32_585 : BitVec 32 := 1#32
  let v651 : BitVec 32 := Scalar.subi arg2 c1_i32_585
  let c0_i32_586 : BitVec 32 := 0#32
  let v652 : BitVec 32 := Scalar.maxsi v651 c0_i32_586
  let v653 : BitVec 32 := Scalar.minsi v650 v652
  let v654 : BitVec 32 := Scalar.select v649 arg2 v653
  let v709 : Index := Scalar.indexCast v654
  let c0_653 : Index := 0#32
  let c0_654 : Index := 0#32
  ![0, 3, v709.toNat, 0, 0]
def k0_off69 (i : grid0.Coords) : Fin 5 → Nat :=
  let c0_670 : Index := 0#32
  let c4_671 : Index := 4#32
  let c2_i32_529 : BitVec 32 := 2#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v541 : BitVec 32 := Scalar.muli c2_i32_529 v535
  let c0_i32_583 : BitVec 32 := 0#32
  let v649 : BitVec 1 := Scalar.cmpi .eq v541 c0_i32_583
  let c1_i32_584 : BitVec 32 := 1#32
  let v650 : BitVec 32 := Scalar.subi v541 c1_i32_584
  let c1_i32_585 : BitVec 32 := 1#32
  let v651 : BitVec 32 := Scalar.subi arg2 c1_i32_585
  let c0_i32_586 : BitVec 32 := 0#32
  let v652 : BitVec 32 := Scalar.maxsi v651 c0_i32_586
  let v653 : BitVec 32 := Scalar.minsi v650 v652
  let v654 : BitVec 32 := Scalar.select v649 arg2 v653
  let v725 : Index := Scalar.indexCast v654
  let c0_672 : Index := 0#32
  let c0_673 : Index := 0#32
  ![0, 4, v725.toNat, 0, 0]
def k0_off70 (i : grid0.Coords) : Fin 5 → Nat :=
  let c0_689 : Index := 0#32
  let c5_690 : Index := 5#32
  let c2_i32_529 : BitVec 32 := 2#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v541 : BitVec 32 := Scalar.muli c2_i32_529 v535
  let c0_i32_583 : BitVec 32 := 0#32
  let v649 : BitVec 1 := Scalar.cmpi .eq v541 c0_i32_583
  let c1_i32_584 : BitVec 32 := 1#32
  let v650 : BitVec 32 := Scalar.subi v541 c1_i32_584
  let c1_i32_585 : BitVec 32 := 1#32
  let v651 : BitVec 32 := Scalar.subi arg2 c1_i32_585
  let c0_i32_586 : BitVec 32 := 0#32
  let v652 : BitVec 32 := Scalar.maxsi v651 c0_i32_586
  let v653 : BitVec 32 := Scalar.minsi v650 v652
  let v654 : BitVec 32 := Scalar.select v649 arg2 v653
  let v741 : Index := Scalar.indexCast v654
  let c0_691 : Index := 0#32
  let c0_692 : Index := 0#32
  ![0, 5, v741.toNat, 0, 0]
def k0_off71 (i : grid0.Coords) : Fin 5 → Nat :=
  let c0_708 : Index := 0#32
  let c6_709 : Index := 6#32
  let c2_i32_529 : BitVec 32 := 2#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v541 : BitVec 32 := Scalar.muli c2_i32_529 v535
  let c0_i32_583 : BitVec 32 := 0#32
  let v649 : BitVec 1 := Scalar.cmpi .eq v541 c0_i32_583
  let c1_i32_584 : BitVec 32 := 1#32
  let v650 : BitVec 32 := Scalar.subi v541 c1_i32_584
  let c1_i32_585 : BitVec 32 := 1#32
  let v651 : BitVec 32 := Scalar.subi arg2 c1_i32_585
  let c0_i32_586 : BitVec 32 := 0#32
  let v652 : BitVec 32 := Scalar.maxsi v651 c0_i32_586
  let v653 : BitVec 32 := Scalar.minsi v650 v652
  let v654 : BitVec 32 := Scalar.select v649 arg2 v653
  let v757 : Index := Scalar.indexCast v654
  let c0_710 : Index := 0#32
  let c0_711 : Index := 0#32
  ![0, 6, v757.toNat, 0, 0]
def k0_off72 (i : grid0.Coords) : Fin 5 → Nat :=
  let c0_727 : Index := 0#32
  let c7_728 : Index := 7#32
  let c2_i32_529 : BitVec 32 := 2#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v541 : BitVec 32 := Scalar.muli c2_i32_529 v535
  let c0_i32_583 : BitVec 32 := 0#32
  let v649 : BitVec 1 := Scalar.cmpi .eq v541 c0_i32_583
  let c1_i32_584 : BitVec 32 := 1#32
  let v650 : BitVec 32 := Scalar.subi v541 c1_i32_584
  let c1_i32_585 : BitVec 32 := 1#32
  let v651 : BitVec 32 := Scalar.subi arg2 c1_i32_585
  let c0_i32_586 : BitVec 32 := 0#32
  let v652 : BitVec 32 := Scalar.maxsi v651 c0_i32_586
  let v653 : BitVec 32 := Scalar.minsi v650 v652
  let v654 : BitVec 32 := Scalar.select v649 arg2 v653
  let v773 : Index := Scalar.indexCast v654
  let c0_729 : Index := 0#32
  let c0_730 : Index := 0#32
  ![0, 7, v773.toNat, 0, 0]
def k0_off73 (i : grid0.Coords) : Fin 5 → Nat :=
  let c0_927 : Index := 0#32
  let c0_928 : Index := 0#32
  let c2_i32_529 : BitVec 32 := 2#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v541 : BitVec 32 := Scalar.muli c2_i32_529 v535
  let c1_i32_915 : BitVec 32 := 1#32
  let v959 : BitVec 32 := Scalar.addi v541 c1_i32_915
  let c0_i32_916 : BitVec 32 := 0#32
  let v960 : BitVec 1 := Scalar.cmpi .eq v959 c0_i32_916
  let c1_i32_917 : BitVec 32 := 1#32
  let v961 : BitVec 32 := Scalar.subi v959 c1_i32_917
  let c1_i32_918 : BitVec 32 := 1#32
  let v962 : BitVec 32 := Scalar.subi arg2 c1_i32_918
  let c0_i32_919 : BitVec 32 := 0#32
  let v963 : BitVec 32 := Scalar.maxsi v962 c0_i32_919
  let v964 : BitVec 32 := Scalar.minsi v961 v963
  let v965 : BitVec 32 := Scalar.select v960 arg2 v964
  let v972 : Index := Scalar.indexCast v965
  let c0_929 : Index := 0#32
  let c0_930 : Index := 0#32
  ![0, 0, v972.toNat, 0, 0]
def k0_off74 (i : grid0.Coords) : Fin 5 → Nat :=
  let c0_946 : Index := 0#32
  let c1_947 : Index := 1#32
  let c2_i32_529 : BitVec 32 := 2#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v541 : BitVec 32 := Scalar.muli c2_i32_529 v535
  let c1_i32_915 : BitVec 32 := 1#32
  let v959 : BitVec 32 := Scalar.addi v541 c1_i32_915
  let c0_i32_916 : BitVec 32 := 0#32
  let v960 : BitVec 1 := Scalar.cmpi .eq v959 c0_i32_916
  let c1_i32_917 : BitVec 32 := 1#32
  let v961 : BitVec 32 := Scalar.subi v959 c1_i32_917
  let c1_i32_918 : BitVec 32 := 1#32
  let v962 : BitVec 32 := Scalar.subi arg2 c1_i32_918
  let c0_i32_919 : BitVec 32 := 0#32
  let v963 : BitVec 32 := Scalar.maxsi v962 c0_i32_919
  let v964 : BitVec 32 := Scalar.minsi v961 v963
  let v965 : BitVec 32 := Scalar.select v960 arg2 v964
  let v988 : Index := Scalar.indexCast v965
  let c0_948 : Index := 0#32
  let c0_949 : Index := 0#32
  ![0, 1, v988.toNat, 0, 0]
def k0_off75 (i : grid0.Coords) : Fin 5 → Nat :=
  let c0_965 : Index := 0#32
  let c2_966 : Index := 2#32
  let c2_i32_529 : BitVec 32 := 2#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v541 : BitVec 32 := Scalar.muli c2_i32_529 v535
  let c1_i32_915 : BitVec 32 := 1#32
  let v959 : BitVec 32 := Scalar.addi v541 c1_i32_915
  let c0_i32_916 : BitVec 32 := 0#32
  let v960 : BitVec 1 := Scalar.cmpi .eq v959 c0_i32_916
  let c1_i32_917 : BitVec 32 := 1#32
  let v961 : BitVec 32 := Scalar.subi v959 c1_i32_917
  let c1_i32_918 : BitVec 32 := 1#32
  let v962 : BitVec 32 := Scalar.subi arg2 c1_i32_918
  let c0_i32_919 : BitVec 32 := 0#32
  let v963 : BitVec 32 := Scalar.maxsi v962 c0_i32_919
  let v964 : BitVec 32 := Scalar.minsi v961 v963
  let v965 : BitVec 32 := Scalar.select v960 arg2 v964
  let v1004 : Index := Scalar.indexCast v965
  let c0_967 : Index := 0#32
  let c0_968 : Index := 0#32
  ![0, 2, v1004.toNat, 0, 0]
def k0_off76 (i : grid0.Coords) : Fin 5 → Nat :=
  let c0_984 : Index := 0#32
  let c3_985 : Index := 3#32
  let c2_i32_529 : BitVec 32 := 2#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v541 : BitVec 32 := Scalar.muli c2_i32_529 v535
  let c1_i32_915 : BitVec 32 := 1#32
  let v959 : BitVec 32 := Scalar.addi v541 c1_i32_915
  let c0_i32_916 : BitVec 32 := 0#32
  let v960 : BitVec 1 := Scalar.cmpi .eq v959 c0_i32_916
  let c1_i32_917 : BitVec 32 := 1#32
  let v961 : BitVec 32 := Scalar.subi v959 c1_i32_917
  let c1_i32_918 : BitVec 32 := 1#32
  let v962 : BitVec 32 := Scalar.subi arg2 c1_i32_918
  let c0_i32_919 : BitVec 32 := 0#32
  let v963 : BitVec 32 := Scalar.maxsi v962 c0_i32_919
  let v964 : BitVec 32 := Scalar.minsi v961 v963
  let v965 : BitVec 32 := Scalar.select v960 arg2 v964
  let v1020 : Index := Scalar.indexCast v965
  let c0_986 : Index := 0#32
  let c0_987 : Index := 0#32
  ![0, 3, v1020.toNat, 0, 0]
def k0_off77 (i : grid0.Coords) : Fin 5 → Nat :=
  let c0_1003 : Index := 0#32
  let c4_1004 : Index := 4#32
  let c2_i32_529 : BitVec 32 := 2#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v541 : BitVec 32 := Scalar.muli c2_i32_529 v535
  let c1_i32_915 : BitVec 32 := 1#32
  let v959 : BitVec 32 := Scalar.addi v541 c1_i32_915
  let c0_i32_916 : BitVec 32 := 0#32
  let v960 : BitVec 1 := Scalar.cmpi .eq v959 c0_i32_916
  let c1_i32_917 : BitVec 32 := 1#32
  let v961 : BitVec 32 := Scalar.subi v959 c1_i32_917
  let c1_i32_918 : BitVec 32 := 1#32
  let v962 : BitVec 32 := Scalar.subi arg2 c1_i32_918
  let c0_i32_919 : BitVec 32 := 0#32
  let v963 : BitVec 32 := Scalar.maxsi v962 c0_i32_919
  let v964 : BitVec 32 := Scalar.minsi v961 v963
  let v965 : BitVec 32 := Scalar.select v960 arg2 v964
  let v1036 : Index := Scalar.indexCast v965
  let c0_1005 : Index := 0#32
  let c0_1006 : Index := 0#32
  ![0, 4, v1036.toNat, 0, 0]
def k0_off78 (i : grid0.Coords) : Fin 5 → Nat :=
  let c0_1022 : Index := 0#32
  let c5_1023 : Index := 5#32
  let c2_i32_529 : BitVec 32 := 2#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v541 : BitVec 32 := Scalar.muli c2_i32_529 v535
  let c1_i32_915 : BitVec 32 := 1#32
  let v959 : BitVec 32 := Scalar.addi v541 c1_i32_915
  let c0_i32_916 : BitVec 32 := 0#32
  let v960 : BitVec 1 := Scalar.cmpi .eq v959 c0_i32_916
  let c1_i32_917 : BitVec 32 := 1#32
  let v961 : BitVec 32 := Scalar.subi v959 c1_i32_917
  let c1_i32_918 : BitVec 32 := 1#32
  let v962 : BitVec 32 := Scalar.subi arg2 c1_i32_918
  let c0_i32_919 : BitVec 32 := 0#32
  let v963 : BitVec 32 := Scalar.maxsi v962 c0_i32_919
  let v964 : BitVec 32 := Scalar.minsi v961 v963
  let v965 : BitVec 32 := Scalar.select v960 arg2 v964
  let v1052 : Index := Scalar.indexCast v965
  let c0_1024 : Index := 0#32
  let c0_1025 : Index := 0#32
  ![0, 5, v1052.toNat, 0, 0]
def k0_off79 (i : grid0.Coords) : Fin 5 → Nat :=
  let c0_1041 : Index := 0#32
  let c6_1042 : Index := 6#32
  let c2_i32_529 : BitVec 32 := 2#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v541 : BitVec 32 := Scalar.muli c2_i32_529 v535
  let c1_i32_915 : BitVec 32 := 1#32
  let v959 : BitVec 32 := Scalar.addi v541 c1_i32_915
  let c0_i32_916 : BitVec 32 := 0#32
  let v960 : BitVec 1 := Scalar.cmpi .eq v959 c0_i32_916
  let c1_i32_917 : BitVec 32 := 1#32
  let v961 : BitVec 32 := Scalar.subi v959 c1_i32_917
  let c1_i32_918 : BitVec 32 := 1#32
  let v962 : BitVec 32 := Scalar.subi arg2 c1_i32_918
  let c0_i32_919 : BitVec 32 := 0#32
  let v963 : BitVec 32 := Scalar.maxsi v962 c0_i32_919
  let v964 : BitVec 32 := Scalar.minsi v961 v963
  let v965 : BitVec 32 := Scalar.select v960 arg2 v964
  let v1068 : Index := Scalar.indexCast v965
  let c0_1043 : Index := 0#32
  let c0_1044 : Index := 0#32
  ![0, 6, v1068.toNat, 0, 0]
def k0_off80 (i : grid0.Coords) : Fin 5 → Nat :=
  let c0_1060 : Index := 0#32
  let c7_1061 : Index := 7#32
  let c2_i32_529 : BitVec 32 := 2#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v541 : BitVec 32 := Scalar.muli c2_i32_529 v535
  let c1_i32_915 : BitVec 32 := 1#32
  let v959 : BitVec 32 := Scalar.addi v541 c1_i32_915
  let c0_i32_916 : BitVec 32 := 0#32
  let v960 : BitVec 1 := Scalar.cmpi .eq v959 c0_i32_916
  let c1_i32_917 : BitVec 32 := 1#32
  let v961 : BitVec 32 := Scalar.subi v959 c1_i32_917
  let c1_i32_918 : BitVec 32 := 1#32
  let v962 : BitVec 32 := Scalar.subi arg2 c1_i32_918
  let c0_i32_919 : BitVec 32 := 0#32
  let v963 : BitVec 32 := Scalar.maxsi v962 c0_i32_919
  let v964 : BitVec 32 := Scalar.minsi v961 v963
  let v965 : BitVec 32 := Scalar.select v960 arg2 v964
  let v1084 : Index := Scalar.indexCast v965
  let c0_1062 : Index := 0#32
  let c0_1063 : Index := 0#32
  ![0, 7, v1084.toNat, 0, 0]
def k0_cond3 (i : grid0.Coords) : BitVec 1 :=
  let arg2 : BitVec 32 := BitVec.ofNat 32 (i 2).val
  let c1_i32 : BitVec 32 := 1#32
  let v0 : BitVec 32 := Scalar.addi arg2 c1_i32
  let c2_i32_529 : BitVec 32 := 2#32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v541 : BitVec 32 := Scalar.muli c2_i32_529 v535
  let v542 : BitVec 32 := Scalar.subi v0 v541
  let c3_i32 : BitVec 32 := 3#32
  let v549 : BitVec 1 := Scalar.cmpi .eq v542 c3_i32
  let v550 : BitVec 32 := Scalar.extui v549
  let c0_i32_534 : BitVec 32 := 0#32
  let v551 : BitVec 1 := Scalar.cmpi .ne v550 c0_i32_534
  v551

def k0_mult7 (i : grid0.Coords) : BitVec 32 :=
  let c2_i32_529 : BitVec 32 := 2#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v541 : BitVec 32 := Scalar.muli c2_i32_529 v535
  let c2_i32_583 : BitVec 32 := 2#32
  let v649 : BitVec 32 := Scalar.addi v541 c2_i32_583
  let c0_i32_584 : BitVec 32 := 0#32
  let v650 : BitVec 1 := Scalar.cmpi .eq v649 c0_i32_584
  let c1_i32_585 : BitVec 32 := 1#32
  let v651 : BitVec 32 := Scalar.subi v649 c1_i32_585
  let c1_i32_586 : BitVec 32 := 1#32
  let v652 : BitVec 32 := Scalar.subi arg2 c1_i32_586
  let c0_i32_587 : BitVec 32 := 0#32
  let v653 : BitVec 32 := Scalar.maxsi v652 c0_i32_587
  let v654 : BitVec 32 := Scalar.minsi v651 v653
  let v655 : BitVec 32 := Scalar.select v650 arg2 v654
  let c256_i32_588 : BitVec 32 := 256#32
  let v656 : BitVec 32 := Scalar.muli v655 c256_i32_588
  v656
def k0_off81 (i : grid0.Coords) : Fin 4 → Nat :=
  let c0_589 : Index := 0#32
  let c0_590 : Index := 0#32
  let c2_i32_529 : BitVec 32 := 2#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v541 : BitVec 32 := Scalar.muli c2_i32_529 v535
  let c2_i32_583 : BitVec 32 := 2#32
  let v649 : BitVec 32 := Scalar.addi v541 c2_i32_583
  let c0_i32_584 : BitVec 32 := 0#32
  let v650 : BitVec 1 := Scalar.cmpi .eq v649 c0_i32_584
  let c1_i32_585 : BitVec 32 := 1#32
  let v651 : BitVec 32 := Scalar.subi v649 c1_i32_585
  let c1_i32_586 : BitVec 32 := 1#32
  let v652 : BitVec 32 := Scalar.subi arg2 c1_i32_586
  let c0_i32_587 : BitVec 32 := 0#32
  let v653 : BitVec 32 := Scalar.maxsi v652 c0_i32_587
  let v654 : BitVec 32 := Scalar.minsi v651 v653
  let v655 : BitVec 32 := Scalar.select v650 arg2 v654
  let c256_i32_588 : BitVec 32 := 256#32
  let v656 : BitVec 32 := Scalar.muli v655 c256_i32_588
  let v657 : BitVec 32 := v656
  let v658 : Index := Scalar.indexCast v657
  let c0_591 : Index := 0#32
  ![0, 0, v658.toNat, 0]
def k0_off82 (i : grid0.Coords) : Fin 4 → Nat :=
  let c0_606 : Index := 0#32
  let c1_607 : Index := 1#32
  let c2_i32_529 : BitVec 32 := 2#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v541 : BitVec 32 := Scalar.muli c2_i32_529 v535
  let c2_i32_583 : BitVec 32 := 2#32
  let v649 : BitVec 32 := Scalar.addi v541 c2_i32_583
  let c0_i32_584 : BitVec 32 := 0#32
  let v650 : BitVec 1 := Scalar.cmpi .eq v649 c0_i32_584
  let c1_i32_585 : BitVec 32 := 1#32
  let v651 : BitVec 32 := Scalar.subi v649 c1_i32_585
  let c1_i32_586 : BitVec 32 := 1#32
  let v652 : BitVec 32 := Scalar.subi arg2 c1_i32_586
  let c0_i32_587 : BitVec 32 := 0#32
  let v653 : BitVec 32 := Scalar.maxsi v652 c0_i32_587
  let v654 : BitVec 32 := Scalar.minsi v651 v653
  let v655 : BitVec 32 := Scalar.select v650 arg2 v654
  let c256_i32_588 : BitVec 32 := 256#32
  let v656 : BitVec 32 := Scalar.muli v655 c256_i32_588
  let v657 : BitVec 32 := v656
  let v672 : Index := Scalar.indexCast v657
  let c0_608 : Index := 0#32
  ![0, 1, v672.toNat, 0]
def k0_off83 (i : grid0.Coords) : Fin 4 → Nat :=
  let c0_623 : Index := 0#32
  let c2_624 : Index := 2#32
  let c2_i32_529 : BitVec 32 := 2#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v541 : BitVec 32 := Scalar.muli c2_i32_529 v535
  let c2_i32_583 : BitVec 32 := 2#32
  let v649 : BitVec 32 := Scalar.addi v541 c2_i32_583
  let c0_i32_584 : BitVec 32 := 0#32
  let v650 : BitVec 1 := Scalar.cmpi .eq v649 c0_i32_584
  let c1_i32_585 : BitVec 32 := 1#32
  let v651 : BitVec 32 := Scalar.subi v649 c1_i32_585
  let c1_i32_586 : BitVec 32 := 1#32
  let v652 : BitVec 32 := Scalar.subi arg2 c1_i32_586
  let c0_i32_587 : BitVec 32 := 0#32
  let v653 : BitVec 32 := Scalar.maxsi v652 c0_i32_587
  let v654 : BitVec 32 := Scalar.minsi v651 v653
  let v655 : BitVec 32 := Scalar.select v650 arg2 v654
  let c256_i32_588 : BitVec 32 := 256#32
  let v656 : BitVec 32 := Scalar.muli v655 c256_i32_588
  let v657 : BitVec 32 := v656
  let v686 : Index := Scalar.indexCast v657
  let c0_625 : Index := 0#32
  ![0, 2, v686.toNat, 0]
def k0_off84 (i : grid0.Coords) : Fin 4 → Nat :=
  let c0_640 : Index := 0#32
  let c3_641 : Index := 3#32
  let c2_i32_529 : BitVec 32 := 2#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v541 : BitVec 32 := Scalar.muli c2_i32_529 v535
  let c2_i32_583 : BitVec 32 := 2#32
  let v649 : BitVec 32 := Scalar.addi v541 c2_i32_583
  let c0_i32_584 : BitVec 32 := 0#32
  let v650 : BitVec 1 := Scalar.cmpi .eq v649 c0_i32_584
  let c1_i32_585 : BitVec 32 := 1#32
  let v651 : BitVec 32 := Scalar.subi v649 c1_i32_585
  let c1_i32_586 : BitVec 32 := 1#32
  let v652 : BitVec 32 := Scalar.subi arg2 c1_i32_586
  let c0_i32_587 : BitVec 32 := 0#32
  let v653 : BitVec 32 := Scalar.maxsi v652 c0_i32_587
  let v654 : BitVec 32 := Scalar.minsi v651 v653
  let v655 : BitVec 32 := Scalar.select v650 arg2 v654
  let c256_i32_588 : BitVec 32 := 256#32
  let v656 : BitVec 32 := Scalar.muli v655 c256_i32_588
  let v657 : BitVec 32 := v656
  let v700 : Index := Scalar.indexCast v657
  let c0_642 : Index := 0#32
  ![0, 3, v700.toNat, 0]
def k0_off85 (i : grid0.Coords) : Fin 4 → Nat :=
  let c0_657 : Index := 0#32
  let c4_658 : Index := 4#32
  let c2_i32_529 : BitVec 32 := 2#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v541 : BitVec 32 := Scalar.muli c2_i32_529 v535
  let c2_i32_583 : BitVec 32 := 2#32
  let v649 : BitVec 32 := Scalar.addi v541 c2_i32_583
  let c0_i32_584 : BitVec 32 := 0#32
  let v650 : BitVec 1 := Scalar.cmpi .eq v649 c0_i32_584
  let c1_i32_585 : BitVec 32 := 1#32
  let v651 : BitVec 32 := Scalar.subi v649 c1_i32_585
  let c1_i32_586 : BitVec 32 := 1#32
  let v652 : BitVec 32 := Scalar.subi arg2 c1_i32_586
  let c0_i32_587 : BitVec 32 := 0#32
  let v653 : BitVec 32 := Scalar.maxsi v652 c0_i32_587
  let v654 : BitVec 32 := Scalar.minsi v651 v653
  let v655 : BitVec 32 := Scalar.select v650 arg2 v654
  let c256_i32_588 : BitVec 32 := 256#32
  let v656 : BitVec 32 := Scalar.muli v655 c256_i32_588
  let v657 : BitVec 32 := v656
  let v714 : Index := Scalar.indexCast v657
  let c0_659 : Index := 0#32
  ![0, 4, v714.toNat, 0]
def k0_off86 (i : grid0.Coords) : Fin 4 → Nat :=
  let c0_674 : Index := 0#32
  let c5_675 : Index := 5#32
  let c2_i32_529 : BitVec 32 := 2#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v541 : BitVec 32 := Scalar.muli c2_i32_529 v535
  let c2_i32_583 : BitVec 32 := 2#32
  let v649 : BitVec 32 := Scalar.addi v541 c2_i32_583
  let c0_i32_584 : BitVec 32 := 0#32
  let v650 : BitVec 1 := Scalar.cmpi .eq v649 c0_i32_584
  let c1_i32_585 : BitVec 32 := 1#32
  let v651 : BitVec 32 := Scalar.subi v649 c1_i32_585
  let c1_i32_586 : BitVec 32 := 1#32
  let v652 : BitVec 32 := Scalar.subi arg2 c1_i32_586
  let c0_i32_587 : BitVec 32 := 0#32
  let v653 : BitVec 32 := Scalar.maxsi v652 c0_i32_587
  let v654 : BitVec 32 := Scalar.minsi v651 v653
  let v655 : BitVec 32 := Scalar.select v650 arg2 v654
  let c256_i32_588 : BitVec 32 := 256#32
  let v656 : BitVec 32 := Scalar.muli v655 c256_i32_588
  let v657 : BitVec 32 := v656
  let v728 : Index := Scalar.indexCast v657
  let c0_676 : Index := 0#32
  ![0, 5, v728.toNat, 0]
def k0_off87 (i : grid0.Coords) : Fin 4 → Nat :=
  let c0_691 : Index := 0#32
  let c6_692 : Index := 6#32
  let c2_i32_529 : BitVec 32 := 2#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v541 : BitVec 32 := Scalar.muli c2_i32_529 v535
  let c2_i32_583 : BitVec 32 := 2#32
  let v649 : BitVec 32 := Scalar.addi v541 c2_i32_583
  let c0_i32_584 : BitVec 32 := 0#32
  let v650 : BitVec 1 := Scalar.cmpi .eq v649 c0_i32_584
  let c1_i32_585 : BitVec 32 := 1#32
  let v651 : BitVec 32 := Scalar.subi v649 c1_i32_585
  let c1_i32_586 : BitVec 32 := 1#32
  let v652 : BitVec 32 := Scalar.subi arg2 c1_i32_586
  let c0_i32_587 : BitVec 32 := 0#32
  let v653 : BitVec 32 := Scalar.maxsi v652 c0_i32_587
  let v654 : BitVec 32 := Scalar.minsi v651 v653
  let v655 : BitVec 32 := Scalar.select v650 arg2 v654
  let c256_i32_588 : BitVec 32 := 256#32
  let v656 : BitVec 32 := Scalar.muli v655 c256_i32_588
  let v657 : BitVec 32 := v656
  let v742 : Index := Scalar.indexCast v657
  let c0_693 : Index := 0#32
  ![0, 6, v742.toNat, 0]
def k0_off88 (i : grid0.Coords) : Fin 4 → Nat :=
  let c0_708 : Index := 0#32
  let c7_709 : Index := 7#32
  let c2_i32_529 : BitVec 32 := 2#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v541 : BitVec 32 := Scalar.muli c2_i32_529 v535
  let c2_i32_583 : BitVec 32 := 2#32
  let v649 : BitVec 32 := Scalar.addi v541 c2_i32_583
  let c0_i32_584 : BitVec 32 := 0#32
  let v650 : BitVec 1 := Scalar.cmpi .eq v649 c0_i32_584
  let c1_i32_585 : BitVec 32 := 1#32
  let v651 : BitVec 32 := Scalar.subi v649 c1_i32_585
  let c1_i32_586 : BitVec 32 := 1#32
  let v652 : BitVec 32 := Scalar.subi arg2 c1_i32_586
  let c0_i32_587 : BitVec 32 := 0#32
  let v653 : BitVec 32 := Scalar.maxsi v652 c0_i32_587
  let v654 : BitVec 32 := Scalar.minsi v651 v653
  let v655 : BitVec 32 := Scalar.select v650 arg2 v654
  let c256_i32_588 : BitVec 32 := 256#32
  let v656 : BitVec 32 := Scalar.muli v655 c256_i32_588
  let v657 : BitVec 32 := v656
  let v756 : Index := Scalar.indexCast v657
  let c0_710 : Index := 0#32
  ![0, 7, v756.toNat, 0]
def k0_off89 (i : grid0.Coords) : Fin 5 → Nat :=
  let c0_736 : Index := 0#32
  let c0_737 : Index := 0#32
  let c2_i32_529 : BitVec 32 := 2#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v541 : BitVec 32 := Scalar.muli c2_i32_529 v535
  let c0_i32_725 : BitVec 32 := 0#32
  let v770 : BitVec 1 := Scalar.cmpi .eq v541 c0_i32_725
  let c1_i32_726 : BitVec 32 := 1#32
  let v771 : BitVec 32 := Scalar.subi v541 c1_i32_726
  let c1_i32_727 : BitVec 32 := 1#32
  let v772 : BitVec 32 := Scalar.subi arg2 c1_i32_727
  let c0_i32_728 : BitVec 32 := 0#32
  let v773 : BitVec 32 := Scalar.maxsi v772 c0_i32_728
  let v774 : BitVec 32 := Scalar.minsi v771 v773
  let v775 : BitVec 32 := Scalar.select v770 arg2 v774
  let v782 : Index := Scalar.indexCast v775
  let c0_738 : Index := 0#32
  let c0_739 : Index := 0#32
  ![0, 0, v782.toNat, 0, 0]
def k0_off90 (i : grid0.Coords) : Fin 5 → Nat :=
  let c0_755 : Index := 0#32
  let c1_756 : Index := 1#32
  let c2_i32_529 : BitVec 32 := 2#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v541 : BitVec 32 := Scalar.muli c2_i32_529 v535
  let c0_i32_725 : BitVec 32 := 0#32
  let v770 : BitVec 1 := Scalar.cmpi .eq v541 c0_i32_725
  let c1_i32_726 : BitVec 32 := 1#32
  let v771 : BitVec 32 := Scalar.subi v541 c1_i32_726
  let c1_i32_727 : BitVec 32 := 1#32
  let v772 : BitVec 32 := Scalar.subi arg2 c1_i32_727
  let c0_i32_728 : BitVec 32 := 0#32
  let v773 : BitVec 32 := Scalar.maxsi v772 c0_i32_728
  let v774 : BitVec 32 := Scalar.minsi v771 v773
  let v775 : BitVec 32 := Scalar.select v770 arg2 v774
  let v798 : Index := Scalar.indexCast v775
  let c0_757 : Index := 0#32
  let c0_758 : Index := 0#32
  ![0, 1, v798.toNat, 0, 0]
def k0_off91 (i : grid0.Coords) : Fin 5 → Nat :=
  let c0_774 : Index := 0#32
  let c2_775 : Index := 2#32
  let c2_i32_529 : BitVec 32 := 2#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v541 : BitVec 32 := Scalar.muli c2_i32_529 v535
  let c0_i32_725 : BitVec 32 := 0#32
  let v770 : BitVec 1 := Scalar.cmpi .eq v541 c0_i32_725
  let c1_i32_726 : BitVec 32 := 1#32
  let v771 : BitVec 32 := Scalar.subi v541 c1_i32_726
  let c1_i32_727 : BitVec 32 := 1#32
  let v772 : BitVec 32 := Scalar.subi arg2 c1_i32_727
  let c0_i32_728 : BitVec 32 := 0#32
  let v773 : BitVec 32 := Scalar.maxsi v772 c0_i32_728
  let v774 : BitVec 32 := Scalar.minsi v771 v773
  let v775 : BitVec 32 := Scalar.select v770 arg2 v774
  let v814 : Index := Scalar.indexCast v775
  let c0_776 : Index := 0#32
  let c0_777 : Index := 0#32
  ![0, 2, v814.toNat, 0, 0]
def k0_off92 (i : grid0.Coords) : Fin 5 → Nat :=
  let c0_793 : Index := 0#32
  let c3_794 : Index := 3#32
  let c2_i32_529 : BitVec 32 := 2#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v541 : BitVec 32 := Scalar.muli c2_i32_529 v535
  let c0_i32_725 : BitVec 32 := 0#32
  let v770 : BitVec 1 := Scalar.cmpi .eq v541 c0_i32_725
  let c1_i32_726 : BitVec 32 := 1#32
  let v771 : BitVec 32 := Scalar.subi v541 c1_i32_726
  let c1_i32_727 : BitVec 32 := 1#32
  let v772 : BitVec 32 := Scalar.subi arg2 c1_i32_727
  let c0_i32_728 : BitVec 32 := 0#32
  let v773 : BitVec 32 := Scalar.maxsi v772 c0_i32_728
  let v774 : BitVec 32 := Scalar.minsi v771 v773
  let v775 : BitVec 32 := Scalar.select v770 arg2 v774
  let v830 : Index := Scalar.indexCast v775
  let c0_795 : Index := 0#32
  let c0_796 : Index := 0#32
  ![0, 3, v830.toNat, 0, 0]
def k0_off93 (i : grid0.Coords) : Fin 5 → Nat :=
  let c0_812 : Index := 0#32
  let c4_813 : Index := 4#32
  let c2_i32_529 : BitVec 32 := 2#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v541 : BitVec 32 := Scalar.muli c2_i32_529 v535
  let c0_i32_725 : BitVec 32 := 0#32
  let v770 : BitVec 1 := Scalar.cmpi .eq v541 c0_i32_725
  let c1_i32_726 : BitVec 32 := 1#32
  let v771 : BitVec 32 := Scalar.subi v541 c1_i32_726
  let c1_i32_727 : BitVec 32 := 1#32
  let v772 : BitVec 32 := Scalar.subi arg2 c1_i32_727
  let c0_i32_728 : BitVec 32 := 0#32
  let v773 : BitVec 32 := Scalar.maxsi v772 c0_i32_728
  let v774 : BitVec 32 := Scalar.minsi v771 v773
  let v775 : BitVec 32 := Scalar.select v770 arg2 v774
  let v846 : Index := Scalar.indexCast v775
  let c0_814 : Index := 0#32
  let c0_815 : Index := 0#32
  ![0, 4, v846.toNat, 0, 0]
def k0_off94 (i : grid0.Coords) : Fin 5 → Nat :=
  let c0_831 : Index := 0#32
  let c5_832 : Index := 5#32
  let c2_i32_529 : BitVec 32 := 2#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v541 : BitVec 32 := Scalar.muli c2_i32_529 v535
  let c0_i32_725 : BitVec 32 := 0#32
  let v770 : BitVec 1 := Scalar.cmpi .eq v541 c0_i32_725
  let c1_i32_726 : BitVec 32 := 1#32
  let v771 : BitVec 32 := Scalar.subi v541 c1_i32_726
  let c1_i32_727 : BitVec 32 := 1#32
  let v772 : BitVec 32 := Scalar.subi arg2 c1_i32_727
  let c0_i32_728 : BitVec 32 := 0#32
  let v773 : BitVec 32 := Scalar.maxsi v772 c0_i32_728
  let v774 : BitVec 32 := Scalar.minsi v771 v773
  let v775 : BitVec 32 := Scalar.select v770 arg2 v774
  let v862 : Index := Scalar.indexCast v775
  let c0_833 : Index := 0#32
  let c0_834 : Index := 0#32
  ![0, 5, v862.toNat, 0, 0]
def k0_off95 (i : grid0.Coords) : Fin 5 → Nat :=
  let c0_850 : Index := 0#32
  let c6_851 : Index := 6#32
  let c2_i32_529 : BitVec 32 := 2#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v541 : BitVec 32 := Scalar.muli c2_i32_529 v535
  let c0_i32_725 : BitVec 32 := 0#32
  let v770 : BitVec 1 := Scalar.cmpi .eq v541 c0_i32_725
  let c1_i32_726 : BitVec 32 := 1#32
  let v771 : BitVec 32 := Scalar.subi v541 c1_i32_726
  let c1_i32_727 : BitVec 32 := 1#32
  let v772 : BitVec 32 := Scalar.subi arg2 c1_i32_727
  let c0_i32_728 : BitVec 32 := 0#32
  let v773 : BitVec 32 := Scalar.maxsi v772 c0_i32_728
  let v774 : BitVec 32 := Scalar.minsi v771 v773
  let v775 : BitVec 32 := Scalar.select v770 arg2 v774
  let v878 : Index := Scalar.indexCast v775
  let c0_852 : Index := 0#32
  let c0_853 : Index := 0#32
  ![0, 6, v878.toNat, 0, 0]
def k0_off96 (i : grid0.Coords) : Fin 5 → Nat :=
  let c0_869 : Index := 0#32
  let c7_870 : Index := 7#32
  let c2_i32_529 : BitVec 32 := 2#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v541 : BitVec 32 := Scalar.muli c2_i32_529 v535
  let c0_i32_725 : BitVec 32 := 0#32
  let v770 : BitVec 1 := Scalar.cmpi .eq v541 c0_i32_725
  let c1_i32_726 : BitVec 32 := 1#32
  let v771 : BitVec 32 := Scalar.subi v541 c1_i32_726
  let c1_i32_727 : BitVec 32 := 1#32
  let v772 : BitVec 32 := Scalar.subi arg2 c1_i32_727
  let c0_i32_728 : BitVec 32 := 0#32
  let v773 : BitVec 32 := Scalar.maxsi v772 c0_i32_728
  let v774 : BitVec 32 := Scalar.minsi v771 v773
  let v775 : BitVec 32 := Scalar.select v770 arg2 v774
  let v894 : Index := Scalar.indexCast v775
  let c0_871 : Index := 0#32
  let c0_872 : Index := 0#32
  ![0, 7, v894.toNat, 0, 0]
def k0_off97 (i : grid0.Coords) (c1_i32_1057 : BitVec 32) : Fin 5 → Nat :=
  let c0_1069 : Index := 0#32
  let c0_1070 : Index := 0#32
  let c2_i32_529 : BitVec 32 := 2#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v541 : BitVec 32 := Scalar.muli c2_i32_529 v535
  let v1080 : BitVec 32 := Scalar.addi v541 c1_i32_1057
  let c0_i32_1058 : BitVec 32 := 0#32
  let v1081 : BitVec 1 := Scalar.cmpi .eq v1080 c0_i32_1058
  let c1_i32_1059 : BitVec 32 := 1#32
  let v1082 : BitVec 32 := Scalar.subi v1080 c1_i32_1059
  let c1_i32_1060 : BitVec 32 := 1#32
  let v1083 : BitVec 32 := Scalar.subi arg2 c1_i32_1060
  let c0_i32_1061 : BitVec 32 := 0#32
  let v1084 : BitVec 32 := Scalar.maxsi v1083 c0_i32_1061
  let v1085 : BitVec 32 := Scalar.minsi v1082 v1084
  let v1086 : BitVec 32 := Scalar.select v1081 arg2 v1085
  let v1093 : Index := Scalar.indexCast v1086
  let c0_1071 : Index := 0#32
  let c0_1072 : Index := 0#32
  ![0, 0, v1093.toNat, 0, 0]
def k0_off98 (i : grid0.Coords) (c1_i32_1057 : BitVec 32) : Fin 5 → Nat :=
  let c0_1088 : Index := 0#32
  let c1_1089 : Index := 1#32
  let c2_i32_529 : BitVec 32 := 2#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v541 : BitVec 32 := Scalar.muli c2_i32_529 v535
  let v1080 : BitVec 32 := Scalar.addi v541 c1_i32_1057
  let c0_i32_1058 : BitVec 32 := 0#32
  let v1081 : BitVec 1 := Scalar.cmpi .eq v1080 c0_i32_1058
  let c1_i32_1059 : BitVec 32 := 1#32
  let v1082 : BitVec 32 := Scalar.subi v1080 c1_i32_1059
  let c1_i32_1060 : BitVec 32 := 1#32
  let v1083 : BitVec 32 := Scalar.subi arg2 c1_i32_1060
  let c0_i32_1061 : BitVec 32 := 0#32
  let v1084 : BitVec 32 := Scalar.maxsi v1083 c0_i32_1061
  let v1085 : BitVec 32 := Scalar.minsi v1082 v1084
  let v1086 : BitVec 32 := Scalar.select v1081 arg2 v1085
  let v1109 : Index := Scalar.indexCast v1086
  let c0_1090 : Index := 0#32
  let c0_1091 : Index := 0#32
  ![0, 1, v1109.toNat, 0, 0]
def k0_off99 (i : grid0.Coords) (c1_i32_1057 : BitVec 32) : Fin 5 → Nat :=
  let c0_1107 : Index := 0#32
  let c2_1108 : Index := 2#32
  let c2_i32_529 : BitVec 32 := 2#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v541 : BitVec 32 := Scalar.muli c2_i32_529 v535
  let v1080 : BitVec 32 := Scalar.addi v541 c1_i32_1057
  let c0_i32_1058 : BitVec 32 := 0#32
  let v1081 : BitVec 1 := Scalar.cmpi .eq v1080 c0_i32_1058
  let c1_i32_1059 : BitVec 32 := 1#32
  let v1082 : BitVec 32 := Scalar.subi v1080 c1_i32_1059
  let c1_i32_1060 : BitVec 32 := 1#32
  let v1083 : BitVec 32 := Scalar.subi arg2 c1_i32_1060
  let c0_i32_1061 : BitVec 32 := 0#32
  let v1084 : BitVec 32 := Scalar.maxsi v1083 c0_i32_1061
  let v1085 : BitVec 32 := Scalar.minsi v1082 v1084
  let v1086 : BitVec 32 := Scalar.select v1081 arg2 v1085
  let v1125 : Index := Scalar.indexCast v1086
  let c0_1109 : Index := 0#32
  let c0_1110 : Index := 0#32
  ![0, 2, v1125.toNat, 0, 0]
def k0_off100 (i : grid0.Coords) (c1_i32_1057 : BitVec 32) : Fin 5 → Nat :=
  let c0_1126 : Index := 0#32
  let c3_1127 : Index := 3#32
  let c2_i32_529 : BitVec 32 := 2#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v541 : BitVec 32 := Scalar.muli c2_i32_529 v535
  let v1080 : BitVec 32 := Scalar.addi v541 c1_i32_1057
  let c0_i32_1058 : BitVec 32 := 0#32
  let v1081 : BitVec 1 := Scalar.cmpi .eq v1080 c0_i32_1058
  let c1_i32_1059 : BitVec 32 := 1#32
  let v1082 : BitVec 32 := Scalar.subi v1080 c1_i32_1059
  let c1_i32_1060 : BitVec 32 := 1#32
  let v1083 : BitVec 32 := Scalar.subi arg2 c1_i32_1060
  let c0_i32_1061 : BitVec 32 := 0#32
  let v1084 : BitVec 32 := Scalar.maxsi v1083 c0_i32_1061
  let v1085 : BitVec 32 := Scalar.minsi v1082 v1084
  let v1086 : BitVec 32 := Scalar.select v1081 arg2 v1085
  let v1141 : Index := Scalar.indexCast v1086
  let c0_1128 : Index := 0#32
  let c0_1129 : Index := 0#32
  ![0, 3, v1141.toNat, 0, 0]
def k0_off101 (i : grid0.Coords) (c1_i32_1057 : BitVec 32) : Fin 5 → Nat :=
  let c0_1145 : Index := 0#32
  let c4_1146 : Index := 4#32
  let c2_i32_529 : BitVec 32 := 2#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v541 : BitVec 32 := Scalar.muli c2_i32_529 v535
  let v1080 : BitVec 32 := Scalar.addi v541 c1_i32_1057
  let c0_i32_1058 : BitVec 32 := 0#32
  let v1081 : BitVec 1 := Scalar.cmpi .eq v1080 c0_i32_1058
  let c1_i32_1059 : BitVec 32 := 1#32
  let v1082 : BitVec 32 := Scalar.subi v1080 c1_i32_1059
  let c1_i32_1060 : BitVec 32 := 1#32
  let v1083 : BitVec 32 := Scalar.subi arg2 c1_i32_1060
  let c0_i32_1061 : BitVec 32 := 0#32
  let v1084 : BitVec 32 := Scalar.maxsi v1083 c0_i32_1061
  let v1085 : BitVec 32 := Scalar.minsi v1082 v1084
  let v1086 : BitVec 32 := Scalar.select v1081 arg2 v1085
  let v1157 : Index := Scalar.indexCast v1086
  let c0_1147 : Index := 0#32
  let c0_1148 : Index := 0#32
  ![0, 4, v1157.toNat, 0, 0]
def k0_off102 (i : grid0.Coords) (c1_i32_1057 : BitVec 32) : Fin 5 → Nat :=
  let c0_1164 : Index := 0#32
  let c5_1165 : Index := 5#32
  let c2_i32_529 : BitVec 32 := 2#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v541 : BitVec 32 := Scalar.muli c2_i32_529 v535
  let v1080 : BitVec 32 := Scalar.addi v541 c1_i32_1057
  let c0_i32_1058 : BitVec 32 := 0#32
  let v1081 : BitVec 1 := Scalar.cmpi .eq v1080 c0_i32_1058
  let c1_i32_1059 : BitVec 32 := 1#32
  let v1082 : BitVec 32 := Scalar.subi v1080 c1_i32_1059
  let c1_i32_1060 : BitVec 32 := 1#32
  let v1083 : BitVec 32 := Scalar.subi arg2 c1_i32_1060
  let c0_i32_1061 : BitVec 32 := 0#32
  let v1084 : BitVec 32 := Scalar.maxsi v1083 c0_i32_1061
  let v1085 : BitVec 32 := Scalar.minsi v1082 v1084
  let v1086 : BitVec 32 := Scalar.select v1081 arg2 v1085
  let v1173 : Index := Scalar.indexCast v1086
  let c0_1166 : Index := 0#32
  let c0_1167 : Index := 0#32
  ![0, 5, v1173.toNat, 0, 0]
def k0_off103 (i : grid0.Coords) (c1_i32_1057 : BitVec 32) : Fin 5 → Nat :=
  let c0_1183 : Index := 0#32
  let c6_1184 : Index := 6#32
  let c2_i32_529 : BitVec 32 := 2#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v541 : BitVec 32 := Scalar.muli c2_i32_529 v535
  let v1080 : BitVec 32 := Scalar.addi v541 c1_i32_1057
  let c0_i32_1058 : BitVec 32 := 0#32
  let v1081 : BitVec 1 := Scalar.cmpi .eq v1080 c0_i32_1058
  let c1_i32_1059 : BitVec 32 := 1#32
  let v1082 : BitVec 32 := Scalar.subi v1080 c1_i32_1059
  let c1_i32_1060 : BitVec 32 := 1#32
  let v1083 : BitVec 32 := Scalar.subi arg2 c1_i32_1060
  let c0_i32_1061 : BitVec 32 := 0#32
  let v1084 : BitVec 32 := Scalar.maxsi v1083 c0_i32_1061
  let v1085 : BitVec 32 := Scalar.minsi v1082 v1084
  let v1086 : BitVec 32 := Scalar.select v1081 arg2 v1085
  let v1189 : Index := Scalar.indexCast v1086
  let c0_1185 : Index := 0#32
  let c0_1186 : Index := 0#32
  ![0, 6, v1189.toNat, 0, 0]
def k0_off104 (i : grid0.Coords) (c1_i32_1057 : BitVec 32) : Fin 5 → Nat :=
  let c0_1202 : Index := 0#32
  let c7_1203 : Index := 7#32
  let c2_i32_529 : BitVec 32 := 2#32
  let arg2 : BitVec 32 := BitVec.ofNat 32 (i 2).val
  let c1_i32 : BitVec 32 := 1#32
  let v0 : BitVec 32 := Scalar.addi arg2 c1_i32
  let c2_i32 : BitVec 32 := 2#32
  let v517 : BitVec 32 := Scalar.subi v0 c2_i32
  let c0_i32_516 : BitVec 32 := 0#32
  let v518 : BitVec 32 := Scalar.maxsi v517 c0_i32_516
  let c0_i32_518 : BitVec 32 := 0#32
  let v520 : BitVec 1 := Scalar.cmpi .sgt v518 c0_i32_518
  let v521 : BitVec 32 := Scalar.extui v520
  let c0_i32_519 : BitVec 32 := 0#32
  let v522 : BitVec 1 := Scalar.cmpi .slt v518 c0_i32_519
  let v523 : BitVec 32 := Scalar.extui v522
  let v524 : BitVec 32 := Scalar.subi v521 v523
  let c2_i32_517 : BitVec 32 := 2#32
  let c0_i32_520 : BitVec 32 := 0#32
  let v525 : BitVec 1 := Scalar.cmpi .sgt c2_i32_517 c0_i32_520
  let v526 : BitVec 32 := Scalar.extui v525
  let c0_i32_521 : BitVec 32 := 0#32
  let v527 : BitVec 1 := Scalar.cmpi .slt c2_i32_517 c0_i32_521
  let v528 : BitVec 32 := Scalar.extui v527
  let v529 : BitVec 32 := Scalar.subi v526 v528
  let v530 : BitVec 1 := Scalar.cmpi .ne v524 v529
  let v531 : BitVec 32 := Scalar.remsi v518 c2_i32_517
  let c0_i32_522 : BitVec 32 := 0#32
  let v532 : BitVec 1 := Scalar.cmpi .ne v531 c0_i32_522
  let v533 : BitVec 1 := Scalar.andi v530 v532
  let v519 : BitVec 32 := Scalar.divsi v518 c2_i32_517
  let c1_i32_523 : BitVec 32 := 1#32
  let v534 : BitVec 32 := Scalar.subi v519 c1_i32_523
  let v535 : BitVec 32 := Scalar.select v533 v534 v519
  let v541 : BitVec 32 := Scalar.muli c2_i32_529 v535
  let v1080 : BitVec 32 := Scalar.addi v541 c1_i32_1057
  let c0_i32_1058 : BitVec 32 := 0#32
  let v1081 : BitVec 1 := Scalar.cmpi .eq v1080 c0_i32_1058
  let c1_i32_1059 : BitVec 32 := 1#32
  let v1082 : BitVec 32 := Scalar.subi v1080 c1_i32_1059
  let c1_i32_1060 : BitVec 32 := 1#32
  let v1083 : BitVec 32 := Scalar.subi arg2 c1_i32_1060
  let c0_i32_1061 : BitVec 32 := 0#32
  let v1084 : BitVec 32 := Scalar.maxsi v1083 c0_i32_1061
  let v1085 : BitVec 32 := Scalar.minsi v1082 v1084
  let v1086 : BitVec 32 := Scalar.select v1081 arg2 v1085
  let v1205 : Index := Scalar.indexCast v1086
  let c0_1204 : Index := 0#32
  let c0_1205 : Index := 0#32
  ![0, 7, v1205.toNat, 0, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8x16x80x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S8x8x4096x128 : Shape := ⟨4, ![8, 8, 4096, 128]⟩
abbrev S8x8x16x80x256 : Shape := ⟨5, ![8, 8, 16, 80, 256]⟩
abbrev S8x8x4096x4096 : Shape := ⟨4, ![8, 8, 4096, 4096]⟩
abbrev S4096x4096 : Shape := ⟨2, ![4096, 4096]⟩
abbrev S1x1x4096x4096 : Shape := ⟨4, ![1, 1, 4096, 4096]⟩
abbrev S_ : Shape := ⟨0, ![]⟩
abbrev S8x8x4096 : Shape := ⟨3, ![8, 8, 4096]⟩
abbrev S8x8x1x4096 : Shape := ⟨4, ![8, 8, 1, 4096]⟩
abbrev S8x8x16x256x80 : Shape := ⟨5, ![8, 8, 16, 256, 80]⟩
abbrev S8x8x4096x80 : Shape := ⟨4, ![8, 8, 4096, 80]⟩
abbrev S8x8x4096x64 : Shape := ⟨4, ![8, 8, 4096, 64]⟩
abbrev S8x8x4096x1 : Shape := ⟨4, ![8, 8, 4096, 1]⟩
abbrev S8x4096x8x64 : Shape := ⟨4, ![8, 4096, 8, 64]⟩
abbrev S8x4096x512 : Shape := ⟨3, ![8, 4096, 512]⟩

abbrev nBuf : Space → Nat
  | .hbm => 37
  | .vmem => 0
  | .smem => 0
  | _ => 0

abbrev bufTy : (tb : Table) → Fin (tcTables nBuf tb) → BufTy
  | .hbm, ⟨0, _⟩ => ⟨S8x8x4096x128, .bf16⟩
  | .hbm, ⟨1, _⟩ => ⟨S8x8x4096x128, .bf16⟩
  | .hbm, ⟨2, _⟩ => ⟨S8x8x16x80x256, .bf16⟩
  | .hbm, ⟨3, _⟩ => ⟨S8x8x4096x128, .f32⟩
  | .hbm, ⟨4, _⟩ => ⟨S8x8x4096x128, .f32⟩
  | .hbm, ⟨5, _⟩ => ⟨S8x8x16x80x256, .f32⟩
  | .hbm, ⟨6, _⟩ => ⟨S8x8x4096x4096, .f32⟩
  | .hbm, ⟨7, _⟩ => ⟨S4096x4096, .i32⟩
  | .hbm, ⟨8, _⟩ => ⟨S4096x4096, .i32⟩
  | .hbm, ⟨9, _⟩ => ⟨S4096x4096, .i1⟩
  | .hbm, ⟨10, _⟩ => ⟨S1x1x4096x4096, .i1⟩
  | .hbm, ⟨11, _⟩ => ⟨S_, .f32⟩
  | .hbm, ⟨12, _⟩ => ⟨S_, .f32⟩
  | .hbm, ⟨13, _⟩ => ⟨S8x8x4096x4096, .i1⟩
  | .hbm, ⟨14, _⟩ => ⟨S8x8x4096x4096, .f32⟩
  | .hbm, ⟨15, _⟩ => ⟨S8x8x4096x4096, .f32⟩
  | .hbm, ⟨16, _⟩ => ⟨S_, .f32⟩
  | .hbm, ⟨17, _⟩ => ⟨S8x8x4096, .f32⟩
  | .hbm, ⟨18, _⟩ => ⟨S8x8x1x4096, .f32⟩
  | .hbm, ⟨19, _⟩ => ⟨S8x8x4096x4096, .f32⟩
  | .hbm, ⟨20, _⟩ => ⟨S8x8x4096x4096, .f32⟩
  | .hbm, ⟨21, _⟩ => ⟨S_, .f32⟩
  | .hbm, ⟨22, _⟩ => ⟨S8x8x4096x4096, .f32⟩
  | .hbm, ⟨23, _⟩ => ⟨S8x8x4096x4096, .f32⟩
  | .hbm, ⟨24, _⟩ => ⟨S8x8x16x256x80, .f32⟩
  | .hbm, ⟨25, _⟩ => ⟨S8x8x4096x80, .f32⟩
  | .hbm, ⟨26, _⟩ => ⟨S8x8x4096x64, .f32⟩
  | .hbm, ⟨27, _⟩ => ⟨S8x8x4096x64, .f32⟩
  | .hbm, ⟨28, _⟩ => ⟨S8x8x4096x1, .f32⟩
  | .hbm, ⟨29, _⟩ => ⟨S8x8x4096, .f32⟩
  | .hbm, ⟨30, _⟩ => ⟨S8x8x4096, .f32⟩
  | .hbm, ⟨31, _⟩ => ⟨S8x8x4096x1, .f32⟩
  | .hbm, ⟨32, _⟩ => ⟨S8x8x4096x64, .f32⟩
  | .hbm, ⟨33, _⟩ => ⟨S8x8x4096x64, .f32⟩
  | .hbm, ⟨34, _⟩ => ⟨S8x4096x8x64, .f32⟩
  | .hbm, ⟨35, _⟩ => ⟨S8x4096x512, .f32⟩
  | .hbm, ⟨36, _⟩ => ⟨S8x4096x512, .bf16⟩
  | _, _ => ⟨S8x8x4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== Kernel2.lean ====
abbrev S32768x1024 : Shape := ⟨2, ![32768, 1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1x2816 : Shape := ⟨2, ![1, 2816]⟩
abbrev S512x1024 : Shape := ⟨2, ![512, 1024]⟩
abbrev S16x1024 : Shape := ⟨2, ![16, 1024]⟩
abbrev S528x1024 : Shape := ⟨2, ![528, 1024]⟩
abbrev S1024x768 : Shape := ⟨2, ![1024, 768]⟩
abbrev S528x768 : Shape := ⟨2, ![528, 768]⟩
abbrev S512x768 : Shape := ⟨2, ![512, 768]⟩
abbrev S1x768 : Shape := ⟨2, ![1, 768]⟩
abbrev S768x1024 : Shape := ⟨2, ![768, 1024]⟩
abbrev S1024x512 : Shape := ⟨2, ![1024, 512]⟩
abbrev S528x512 : Shape := ⟨2, ![528, 512]⟩
abbrev S512x512 : Shape := ⟨2, ![512, 512]⟩
abbrev S1x512 : Shape := ⟨2, ![1, 512]⟩

abbrev nBuf : Space → Nat
  | .hbm => 10
  | .vmem => 12
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S1024x5632, .bf16⟩
  | .hbm, ⟨7, _⟩ => ⟨S1x2816, .f32⟩
  | .hbm, ⟨8, _⟩ => ⟨S2816x1024, .bf16⟩
  | .hbm, ⟨9, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S16x1024, .bf16⟩
  | .local _ .vmem, ⟨3, _⟩ => ⟨S16x1024, .bf16⟩
  | .local _ .vmem, ⟨4, _⟩ => ⟨S512x1024, .f32⟩
  | .local _ .vmem, ⟨5, _⟩ => ⟨S512x1024, .f32⟩
  | .local _ .vmem, ⟨6, _⟩ => ⟨S1024x5632, .bf16⟩
  | .local _ .vmem, ⟨7, _⟩ => ⟨S3x2816, .f32⟩
  | .local _ .vmem, ⟨8, _⟩ => ⟨S1x2816, .f32⟩
  | .local _ .vmem, ⟨9, _⟩ => ⟨S2816x1024, .bf16⟩
  | .local _ .vmem, ⟨10, _⟩ => ⟨S512x1024, .f32⟩
  | .local _ .vmem, ⟨11, _⟩ => ⟨S512x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel2Ideal.lean ====
variable {F : FTy → Type} [FloatOps F] [Named F]
def κ : String → Option EReal := fun
  | "half_sqrt" => some (((Real.sqrt 2)⁻¹ : ℝ) : EReal)
  | _ => none
-- ==== Reference2Ideal.lean ====
abbrev S32768x1024 : Shape := ⟨2, ![32768, 1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S8x4096x1024 : Shape := ⟨3, ![8, 4096, 1024]⟩
abbrev S8x4096x5632 : Shape := ⟨3, ![8, 4096, 5632]⟩
abbrev S8x4096x2816 : Shape := ⟨3, ![8, 4096, 2816]⟩
abbrev S_ : Shape := ⟨0, ![]⟩
abbrev S8x4098x2816 : Shape := ⟨3, ![8, 4098, 2816]⟩
abbrev S1x2816 : Shape := ⟨2, ![1, 2816]⟩
abbrev S1x1x2816 : Shape := ⟨3, ![1, 1, 2816]⟩

abbrev nBuf : Space → Nat
  | .hbm => 54
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S32768x1024, .f32⟩
  | .hbm, ⟨7, _⟩ => ⟨S8x4096x1024, .f32⟩
  | .hbm, ⟨8, _⟩ => ⟨S8x4096x5632, .f32⟩
  | .hbm, ⟨9, _⟩ => ⟨S8x4096x2816, .f32⟩
  | .hbm, ⟨10, _⟩ => ⟨S8x4096x2816, .f32⟩
  | .hbm, ⟨11, _⟩ => ⟨S_, .i32⟩
  | .hbm, ⟨12, _⟩ => ⟨S_, .f32⟩
  | .hbm, ⟨13, _⟩ => ⟨S8x4098x2816, .f32⟩
  | .hbm, ⟨14, _⟩ => ⟨S8x4096x2816, .f32⟩
  | .hbm, ⟨15, _⟩ => ⟨S1x2816, .f32⟩
  | .hbm, ⟨16, _⟩ => ⟨S2816, .f32⟩
  | .hbm, ⟨17, _⟩ => ⟨S1x1x2816, .f32⟩
  | .hbm, ⟨18, _⟩ => ⟨S8x4096x2816, .f32⟩
  | .hbm, ⟨19, _⟩ => ⟨S8x4096x2816, .f32⟩
  | .hbm, ⟨20, _⟩ => ⟨S8x4096x2816, .f32⟩
  | .hbm, ⟨21, _⟩ => ⟨S1x2816, .f32⟩
  | .hbm, ⟨22, _⟩ => ⟨S2816, .f32⟩
  | .hbm, ⟨23, _⟩ => ⟨S1x1x2816, .f32⟩
  | .hbm, ⟨24, _⟩ => ⟨S8x4096x2816, .f32⟩
  | .hbm, ⟨25, _⟩ => ⟨S8x4096x2816, .f32⟩
  | .hbm, ⟨26, _⟩ => ⟨S8x4096x2816, .f32⟩
  | .hbm, ⟨27, _⟩ => ⟨S8x4096x2816, .f32⟩
  | .hbm, ⟨28, _⟩ => ⟨S1x2816, .f32⟩
  | .hbm, ⟨29, _⟩ => ⟨S2816, .f32⟩
  | .hbm, ⟨30, _⟩ => ⟨S1x1x2816, .f32⟩
  | .hbm, ⟨31, _⟩ => ⟨S8x4096x2816, .f32⟩
  | .hbm, ⟨32, _⟩ => ⟨S8x4096x2816, .f32⟩
  | .hbm, ⟨33, _⟩ => ⟨S8x4096x2816, .f32⟩
  | .hbm, ⟨34, _⟩ => ⟨S1x1x2816, .f32⟩
  | .hbm, ⟨35, _⟩ => ⟨S8x4096x2816, .f32⟩
  | .hbm, ⟨36, _⟩ => ⟨S8x4096x2816, .f32⟩
  | .hbm, ⟨37, _⟩ => ⟨S_, .f32⟩
  | .hbm, ⟨38, _⟩ => ⟨S8x4096x2816, .f32⟩
  | .hbm, ⟨39, _⟩ => ⟨S8x4096x2816, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S8x4096x2816, .f32⟩
  | .hbm, ⟨44, _⟩ => ⟨S8x4096x2816, .f32⟩
  | .hbm, ⟨45, _⟩ => ⟨S8x4096x2816, .f32⟩
  | .hbm, ⟨46, _⟩ => ⟨S_, .f32⟩
  | .hbm, ⟨47, _⟩ => ⟨S8x4096x2816, .f32⟩
  | .hbm, ⟨48, _⟩ => ⟨S8x4096x2816, .f32⟩
  | .hbm, ⟨49, _⟩ => ⟨S8x4096x2816, .f32⟩
  | .hbm, ⟨50, _⟩ => ⟨S8x4096x2816, .f32⟩
  | .hbm, ⟨51, _⟩ => ⟨S8x4096x1024, .f32⟩
  | .hbm, ⟨52, _⟩ => ⟨S32768x1024, .f32⟩
  | .hbm, ⟨53, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst : Ref sig .tc := ⟨.hbm, 37, rfl⟩
abbrev main_v29 : Ref sig .tc := ⟨.hbm, 38, rfl⟩
abbrev main_v30 : Ref sig .tc := ⟨.hbm, 39, rfl⟩
abbrev main_cst_0 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_1 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x4096x512 : Shape := ⟨3, ![8, 4096, 512]⟩
abbrev S32768x2048 : Shape := ⟨2, ![32768, 2048]⟩
abbrev S512x1024 : Shape := ⟨2, ![512, 1024]⟩
abbrev S1024x1024 : Shape := ⟨2, ![1024, 1024]⟩
abbrev S1024 : Shape := ⟨1, ![1024]⟩
abbrev S32768x1024 : Shape := ⟨2, ![32768, 1024]⟩
abbrev S32768x512 : Shape := ⟨2, ![32768, 512]⟩
abbrev S1x1024 : Shape := ⟨2, ![1, 1024]⟩
abbrev S512x512 : Shape := ⟨2, ![512, 512]⟩
abbrev S512x2048 : Shape := ⟨2, ![512, 2048]⟩
abbrev S256x512 : Shape := ⟨2, ![256, 512]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 17
  | .vmem => 16
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S32768x2048, .bf16⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S32768x1024, .f32⟩
  | .hbm, ⟨9, _⟩ => ⟨S32768x512, .bf16⟩
  | .hbm, ⟨10, _⟩ => ⟨S32768x512, .bf16⟩
  | .hbm, ⟨11, _⟩ => ⟨S512x1024, .bf16⟩
  | .hbm, ⟨12, _⟩ => ⟨S512x1024, .bf16⟩
  | .hbm, ⟨13, _⟩ => ⟨S1024x1024, .bf16⟩
  | .hbm, ⟨14, _⟩ => ⟨S1x1024, .f32⟩
  | .hbm, ⟨15, _⟩ => ⟨S32768x1024, .f32⟩
  | .hbm, ⟨16, _⟩ => ⟨S32768x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x2048, .bf16⟩
  | .local _ .vmem, ⟨7, _⟩ => ⟨S512x2048, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S8x4096x1024 : Shape := ⟨3, ![8, 4096, 1024]⟩
abbrev S8x4096x512 : Shape := ⟨3, ![8, 4096, 512]⟩
abbrev S32768x2048 : Shape := ⟨2, ![32768, 2048]⟩
abbrev S512x1024 : Shape := ⟨2, ![512, 1024]⟩
abbrev S1024x1024 : Shape := ⟨2, ![1024, 1024]⟩
abbrev S1024 : Shape := ⟨1, ![1024]⟩
abbrev S8x4096x2048 : Shape := ⟨3, ![8, 4096, 2048]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S32768x1024 : Shape := ⟨2, ![32768, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S32768x2048, .bf16⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S8x4096x512, .f32⟩
  | .hbm, ⟨9, _⟩ => ⟨S8x4096x1024, .f32⟩
  | .hbm, ⟨10, _⟩ => ⟨S8x4096x512, .f32⟩
  | .hbm, ⟨11, _⟩ => ⟨S8x4096x1024, .f32⟩
  | .hbm, ⟨12, _⟩ => ⟨S32768x2048, .f32⟩
  | .hbm, ⟨13, _⟩ => ⟨S8x4096x2048, .f32⟩
  | .hbm, ⟨14, _⟩ => ⟨S8x4096x1024, .f32⟩
  | .hbm, ⟨15, _⟩ => ⟨S8x4096x1024, .f32⟩
  | .hbm, ⟨16, _⟩ => ⟨S8x4096x1024, .f32⟩
  | .hbm, ⟨17, _⟩ => ⟨S8x4096x1024, .f32⟩
  | .hbm, ⟨18, _⟩ => ⟨S8x4096x1024, .f32⟩
  | .hbm, ⟨19, _⟩ => ⟨S8x4096x1024, .f32⟩
  | .hbm, ⟨20, _⟩ => ⟨S8x4096x1024, .f32⟩
  | .hbm, ⟨21, _⟩ => ⟨S8x4096x1024, .f32⟩
  | .hbm, ⟨22, _⟩ => ⟨S_, .f32⟩
  | .hbm, ⟨23, _⟩ => ⟨S8x4096, .f32⟩
  | .hbm, ⟨24, _⟩ => ⟨S8x4096x1, .f32⟩
  | .hbm, ⟨25, _⟩ => ⟨S_, .f32⟩
  | .hbm, ⟨26, _⟩ => ⟨S8x4096x1, .f32⟩
  | .hbm, ⟨27, _⟩ => ⟨S8x4096x1, .f32⟩
  | .hbm, ⟨28, _⟩ => ⟨S_, .f32⟩
  | .hbm, ⟨29, _⟩ => ⟨S8x4096x1, .f32⟩
  | .hbm, ⟨30, _⟩ => ⟨S8x4096x1, .f32⟩
  | .hbm, ⟨31, _⟩ => ⟨S8x4096x1, .f32⟩
  | .hbm, ⟨32, _⟩ => ⟨S8x4096x1024, .f32⟩
  | .hbm, ⟨33, _⟩ => ⟨S8x4096x1024, .f32⟩
  | .hbm, ⟨34, _⟩ => ⟨S1x1x1024, .f32⟩
  | .hbm, ⟨35, _⟩ => ⟨S8x4096x1024, .f32⟩
  | .hbm, ⟨36, _⟩ => ⟨S8x4096x1024, .f32⟩
  | .hbm, ⟨37, _⟩ => ⟨S32768x1024, .f32⟩
  | .hbm, ⟨38, _⟩ => ⟨S32768x1024, .f32⟩
  | .hbm, ⟨39, _⟩ => ⟨S32768x1024, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Kernel4.lean ====
abbrev S8x4096x1024 : Shape := ⟨3, ![8, 4096, 1024]⟩
abbrev S1024 : Shape := ⟨1, ![1024]⟩
abbrev S1024x5408 : Shape := ⟨2, ![1024, 5408]⟩
abbrev S1024x288 : Shape := ⟨2, ![1024, 288]⟩
abbrev S1024x64 : Shape := ⟨2, ![1024, 64]⟩
abbrev S_ : Shape := ⟨0, ![]⟩
abbrev S1024x160 : Shape := ⟨2, ![1024, 160]⟩
abbrev S1024x96 : Shape := ⟨2, ![1024, 96]⟩
abbrev S1024x512 : Shape := ⟨2, ![1024, 512]⟩
abbrev S32768x1024 : Shape := ⟨2, ![32768, 1024]⟩
abbrev S1x1024 : Shape := ⟨2, ![1, 1024]⟩
abbrev S1024x1536 : Shape := ⟨2, ![1024, 1536]⟩
abbrev S1024x2048 : Shape := ⟨2, ![1024, 2048]⟩
abbrev S32768x1536 : Shape := ⟨2, ![32768, 1536]⟩
abbrev S32768x512 : Shape := ⟨2, ![32768, 512]⟩
abbrev S32768x2048 : Shape := ⟨2, ![32768, 2048]⟩
abbrev S512x1024 : Shape := ⟨2, ![512, 1024]⟩
abbrev S512x1536 : Shape := ⟨2, ![512, 1536]⟩
abbrev S512x512 : Shape := ⟨2, ![512, 512]⟩
abbrev S512x2048 : Shape := ⟨2, ![512, 2048]⟩
abbrev S256x1024 : Shape := ⟨2, ![256, 1024]⟩
abbrev S256 : Shape := ⟨1, ![256]⟩
abbrev S256x1 : Shape := ⟨2, ![256, 1]⟩
abbrev S256x1536 : Shape := ⟨2, ![256, 1536]⟩
abbrev S256x512 : Shape := ⟨2, ![256, 512]⟩
abbrev S256x2048 : Shape := ⟨2, ![256, 2048]⟩

abbrev nBuf : Space → Nat
  | .hbm => 27
  | .vmem => 15
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x5408, .f32⟩
  | .hbm, ⟨3, _⟩ => ⟨S1024x288, .f32⟩
  | .hbm, ⟨4, _⟩ => ⟨S1024x64, .f32⟩
  | .hbm, ⟨5, _⟩ => ⟨S_, .f32⟩
  | .hbm, ⟨6, _⟩ => ⟨S1024x64, .f32⟩
  | .hbm, ⟨7, _⟩ => ⟨S1024x64, .f32⟩
  | .hbm, ⟨8, _⟩ => ⟨S_, .f32⟩
  | .hbm, ⟨9, _⟩ => ⟨S1024x64, .f32⟩
  | .hbm, ⟨10, _⟩ => ⟨S1024x160, .f32⟩
  | .hbm, ⟨11, _⟩ => ⟨S_, .f32⟩
  | .hbm, ⟨12, _⟩ => ⟨S1024x96, .f32⟩
  | .hbm, ⟨13, _⟩ => ⟨S1024x512, .f32⟩
  | .hbm, ⟨14, _⟩ => ⟨S1024x512, .bf16⟩
  | .hbm, ⟨15, _⟩ => ⟨S32768x1024, .f32⟩
  | .hbm, ⟨16, _⟩ => ⟨S1x1024, .f32⟩
  | .hbm, ⟨17, _⟩ => ⟨S1024x1536, .f32⟩
  | .hbm, ⟨18, _⟩ => ⟨S1024x1536, .bf16⟩
  | .hbm, ⟨19, _⟩ => ⟨S1024x1536, .f32⟩
  | .hbm, ⟨20, _⟩ => ⟨S1024x1536, .bf16⟩
  | .hbm, ⟨21, _⟩ => ⟨S1024x2048, .f32⟩
  | .hbm, ⟨22, _⟩ => ⟨S1024x2048, .bf16⟩
  | .hbm, ⟨23, _⟩ => ⟨S32768x1536, .f32⟩
  | .hbm, ⟨24, _⟩ => ⟨S32768x512, .f32⟩
  | .hbm, ⟨25, _⟩ => ⟨S32768x1536, .f32⟩
  | .hbm, ⟨26, _⟩ => ⟨S32768x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1536, .bf16⟩
  | .local _ .vmem, ⟨4, _⟩ => ⟨S1024x512, .bf16⟩
  | .local _ .vmem, ⟨5, _⟩ => ⟨S1024x1536, .bf16⟩
  | .local _ .vmem, ⟨6, _⟩ => ⟨S1024x2048, .bf16⟩
  | .local _ .vmem, ⟨7, _⟩ => ⟨S512x1536, .f32⟩
  | .local _ .vmem, ⟨8, _⟩ => ⟨S512x1536, .f32⟩
  | .local _ .vmem, ⟨9, _⟩ => ⟨S512x512, .f32⟩
  | .local _ .vmem, ⟨10, _⟩ => ⟨S512x512, .f32⟩
  | .local _ .vmem, ⟨11, _⟩ => ⟨S512x1536, .f32⟩
  | .local _ .vmem, ⟨12, _⟩ => ⟨S512x1536, .f32⟩
  | .local _ .vmem, ⟨13, _⟩ => ⟨S512x2048, .bf16⟩
  | .local _ .vmem, ⟨14, _⟩ => ⟨S512x2048, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17_0 : Ref sig .tc := ⟨.hbm, 23, rfl⟩
abbrev main_v17_1 : Ref sig .tc := ⟨.hbm, 24, rfl⟩
abbrev main_v17_2 : Ref sig .tc := ⟨.hbm, 25, rfl⟩
abbrev main_v17_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S8x4096x1024 : Shape := ⟨3, ![8, 4096, 1024]⟩
abbrev S1024 : Shape := ⟨1, ![1024]⟩
abbrev S1024x5408 : Shape := ⟨2, ![1024, 5408]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5408 : Shape := ⟨3, ![8, 4096, 5408]⟩
abbrev S32768x5408 : Shape := ⟨2, ![32768, 5408]⟩
abbrev S32768x64 : Shape := ⟨2, ![32768, 64]⟩
abbrev S32768x128 : Shape := ⟨2, ![32768, 128]⟩
abbrev S32768x160 : Shape := ⟨2, ![32768, 160]⟩
abbrev S32768x256 : Shape := ⟨2, ![32768, 256]⟩
abbrev S32768x512 : Shape := ⟨2, ![32768, 512]⟩
abbrev S32768x1536 : Shape := ⟨2, ![32768, 1536]⟩
abbrev S32768x2048 : Shape := ⟨2, ![32768, 2048]⟩

abbrev nBuf : Space → Nat
  | .hbm => 46
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x5408, .f32⟩
  | .hbm, ⟨3, _⟩ => ⟨S8x4096x1024, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1, .f32⟩
  | .hbm, ⟨14, _⟩ => ⟨S8x4096x1024, .f32⟩
  | .hbm, ⟨15, _⟩ => ⟨S8x4096x1024, .f32⟩
  | .hbm, ⟨16, _⟩ => ⟨S1x1x1024, .f32⟩
  | .hbm, ⟨17, _⟩ => ⟨S8x4096x1024, .f32⟩
  | .hbm, ⟨18, _⟩ => ⟨S8x4096x1024, .f32⟩
  | .hbm, ⟨19, _⟩ => ⟨S8x4096x5408, .f32⟩
  | .hbm, ⟨20, _⟩ => ⟨S32768x5408, .f32⟩
  | .hbm, ⟨21, _⟩ => ⟨S32768x64, .f32⟩
  | .hbm, ⟨22, _⟩ => ⟨S_, .i32⟩
  | .hbm, ⟨23, _⟩ => ⟨S_, .f32⟩
  | .hbm, ⟨24, _⟩ => ⟨S32768x128, .f32⟩
  | .hbm, ⟨25, _⟩ => ⟨S32768x64, .f32⟩
  | .hbm, ⟨26, _⟩ => ⟨S_, .i32⟩
  | .hbm, ⟨27, _⟩ => ⟨S_, .f32⟩
  | .hbm, ⟨28, _⟩ => ⟨S32768x128, .f32⟩
  | .hbm, ⟨29, _⟩ => ⟨S32768x160, .f32⟩
  | .hbm, ⟨30, _⟩ => ⟨S_, .i32⟩
  | .hbm, ⟨31, _⟩ => ⟨S_, .f32⟩
  | .hbm, ⟨32, _⟩ => ⟨S32768x256, .f32⟩
  | .hbm, ⟨33, _⟩ => ⟨S32768x512, .f32⟩
  | .hbm, ⟨34, _⟩ => ⟨S32768x1536, .f32⟩
  | .hbm, ⟨35, _⟩ => ⟨S32768x1536, .f32⟩
  | .hbm, ⟨36, _⟩ => ⟨S32768x2048, .f32⟩
  | .hbm, ⟨37, _⟩ => ⟨S32768x2048, .f32⟩
  | .hbm, ⟨38, _⟩ => ⟨S32768x2048, .f32⟩
  | .hbm, ⟨39, _⟩ => ⟨S_, .f32⟩
  | .hbm, ⟨40, _⟩ => ⟨S32768x2048, .f32⟩
  | .hbm, ⟨41, _⟩ => ⟨S32768x2048, .f32⟩
  | .hbm, ⟨42, _⟩ => ⟨S_, .f32⟩
  | .hbm, ⟨43, _⟩ => ⟨S32768x2048, .f32⟩
  | .hbm, ⟨44, _⟩ => ⟨S32768x2048, .f32⟩
  | .hbm, ⟨45, _⟩ => ⟨S32768x2048, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_call0_v0 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_call1_v0 : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_call2_v0 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== Proof.Model.lean ====
module
public import proofs.«01_k».proof.Proof.Gen.KernelIdeal.Loops
public import Idealize.ShloMosaic.Lib.Tactic

/-!
# One head of the attention, as a recursion over steps

A step of the kernel takes one block of 256 keys. The definitions below say what is stored for one head after each
step, in the shapes in which the kernel stores it and with the kernel's own operations: the scores of a step, their
column maxima, the running maximum, the factor by which the accumulator is scaled down, the weights, and the
accumulator. They are stated over any float type, so that they describe the ideal and the bit-level program alike.
-/

@[expose] public section
noncomputable section
namespace Cert.Proof.Attn
open Cert.KernelIdeal Cert.KernelIdeal.Gen
open Idealize.ShloMosaic Idealize.ShloMosaic.TcCoe

variable {F : FTy → Type} [FloatOps F] [Named F]

/-- The block of keys taken at step `τ` by the program of query block `n`: its own block first, then the earlier ones
    in order (and the last of them once more where the pipeline runs ahead). -/
def blk (n τ : ℕ) : Fin 16 := Fin.ofNat 16 (if τ = 0 then n else min (τ - 1) (n - 1))

/-- The scores of a key block against the query block: keys down, queries across. -/
def scoresOf (k q : Vec F S1x1x256x128 .bf16) : FVec F S256x256 .f32 :=
  matmul dot_S256x128_S256x128_S256x256_1_1_0_0_n_n none
    (shapeCast S256x128 k shapeCasts_S1x1x256x128_S256x128 : FVec F S256x128 .bf16)
    (shapeCast S256x128 q shapeCasts_S1x1x256x128_S256x128 : FVec F S256x128 .bf16) (constant S256x256 .f32 0x00000000#32)

/-- The scores with the mask's value where the key comes after the query. -/
def causal (s : FVec F S256x256 .f32) : FVec F S256x256 .f32 :=
  select (cmpi .sle (iota .tc S256x256 32 [0] iota_S256x256_d0_w32) (iota .tc S256x256 32 [1] iota_S256x256_d1_w32)) s
    (broadcast S256x256 (Named.named κ "mask" 0xF149F2CA#32 : F .f32))

/-- The scores of step `τ`: the own block (step 0) under the causal mask. -/
def scores (q : Vec F S1x1x256x128 .bf16) (kb : ℕ → Vec F S1x1x256x128 .bf16) : ℕ → FVec F S256x256 .f32
  | 0 => causal (scoresOf (kb 0) q)
  | τ + 1 => scoresOf (kb (τ + 1)) q

/-- The scores as stored. -/
def putS (s : FVec F S256x256 .f32) : Vec F S1x1x256x256 .f32 := shapeCast S1x1x256x256 s shapeCasts_S256x256_S1x1x256x256

/-- The maximum of each query's scores, as stored. -/
def putMx (s : FVec F S256x256 .f32) : Vec F S1x1x1x256 .f32 :=
  shapeCast S1x1x1x256 (shapeCast S1x256 (multiReduction .maximumf [0] S256 s 0xFF800000#32 reduces_S256x256_S256 (.inl rfl) rfl : FVec F S256 .f32)
    shapeCasts_S256_S1x256 : FVec F S1x256 .f32) shapeCasts_S1x256_S1x1x1x256

/-- The larger of the running maximum and a step's maximum. -/
def top (m : Vec F S1x1x256 .f32) (mx : Vec F S1x1x1x256 .f32) : FVec F S1x256 .f32 :=
  maximumf (shapeCast S1x256 m shapeCasts_S1x1x256_S1x256 : FVec F S1x256 .f32) (shapeCast S1x256 mx shapeCasts_S1x1x1x256_S1x256)

/-- The new running maximum, as stored. -/
def nextM (m : Vec F S1x1x256 .f32) (mx : Vec F S1x1x1x256 .f32) : Vec F S1x1x256 .f32 :=
  shapeCast S1x1x256 (top m mx) shapeCasts_S1x256_S1x1x256

/-- The factor `2^(old maximum - new maximum)`, as stored. -/
def nextA (m : Vec F S1x1x256 .f32) (mx : Vec F S1x1x1x256 .f32) : Vec F S1x1x1x256 .f32 :=
  shapeCast S1x1x1x256 (exp2 (subf (shapeCast S1x256 m shapeCasts_S1x1x256_S1x256 : FVec F S1x256 .f32) (top m mx)) : FVec F S1x256 .f32)
    shapeCasts_S1x256_S1x1x1x256

/-- The weights `2^(score - new maximum)`, as stored. -/
def nextP (s : Vec F S1x1x256x256 .f32) (m : Vec F S1x1x256 .f32) (mx : Vec F S1x1x1x256 .f32) : Vec F S1x1x256x256 .bf16 :=
  shapeCast S1x1x256x256 (truncf .bf16 (exp2 (subf (shapeCast S256x256 s shapeCasts_S1x1x256x256_S256x256 : FVec F S256x256 .f32)
    (broadcastTo S256x256 (top m mx) broadcasts_S1x256_S256x256)) : FVec F S256x256 .f32) bitsLt_bf16_f32 : FVec F S256x256 .bf16)
    shapeCasts_S256x256_S1x1x256x256

/-- The accumulator after a step: scaled by the factor, plus the values times the weights. -/
def nextAcc (acc : Vec F S1x80x256 .f32) (a : Vec F S1x1x1x256 .f32) (v : Vec F S1x1x1x80x256 .bf16) (p : Vec F S1x1x256x256 .bf16) :
    Vec F S1x80x256 .f32 :=
  shapeCast S1x80x256 (addf
    (mulf (shapeCast S80x256 acc shapeCasts_S1x80x256_S80x256 : FVec F S80x256 .f32)
      (broadcastTo S80x256 (shapeCast S1x256 a shapeCasts_S1x1x1x256_S1x256 : FVec F S1x256 .f32) broadcasts_S1x256_S80x256))
    (matmul dot_S80x256_S256x256_S80x256_1_0_0_1_n_n none (shapeCast S80x256 v shapeCasts_S1x1x1x80x256_S80x256 : FVec F S80x256 .bf16)
      (shapeCast S256x256 p shapeCasts_S1x1x256x256_S256x256 : FVec F S256x256 .bf16) (constant S80x256 .f32 0x00000000#32)) : FVec F S80x256 .f32)
    shapeCasts_S80x256_S1x80x256

/-- The accumulator before the first step. -/
def acc0 : Vec F S1x80x256 .f32 :=
  shapeCast S1x80x256 (broadcast S80x256 (Scalar.ofBits .f32 0x00000000#32 : F .f32) : FVec F S80x256 .f32) shapeCasts_S80x256_S1x80x256

/-- The running maximum before the first step: the mask's value. -/
def m0 : Vec F S1x1x256 .f32 :=
  shapeCast S1x1x256 (broadcast S1x256 (Named.named κ "mask" 0xF149F2CA#32 : F .f32) : FVec F S1x256 .f32) shapeCasts_S1x256_S1x1x256

/-- What one head reads: its queries, and by step its keys and its values. -/
structure Head (F : FTy → Type) where
  q : Vec F S1x1x256x128 .bf16
  k : ℕ → Vec F S1x1x256x128 .bf16
  v : ℕ → Vec F S1x1x1x80x256 .bf16

namespace Head
variable (H : Head F)

/-- The stored scores of step `τ`. -/
def s (τ : ℕ) : Vec F S1x1x256x256 .f32 := putS (scores H.q H.k τ)
/-- The stored column maxima of step `τ`. -/
def mx (τ : ℕ) : Vec F S1x1x1x256 .f32 := putMx (scores H.q H.k τ)
/-- The running maximum before step `τ`. -/
def m : ℕ → Vec F S1x1x256 .f32
  | 0 => m0
  | τ + 1 => nextM (m τ) (H.mx τ)
/-- The factor of step `τ`. -/
def a (τ : ℕ) : Vec F S1x1x1x256 .f32 := nextA (H.m τ) (H.mx τ)
/-- The weights of step `τ`. -/
def p (τ : ℕ) : Vec F S1x1x256x256 .bf16 := nextP (H.s τ) (H.m τ) (H.mx τ)
/-- The accumulator before step `τ`. -/
def acc : ℕ → Vec F S1x80x256 .f32
  | 0 => acc0
  | τ + 1 => nextAcc (acc τ) (H.a τ) (H.v τ) (H.p τ)

variable {H} {τ : ℕ}

theorem s_own {k q : Vec F S1x1x256x128 .bf16} (hk : k = H.k 0) (hq : q = H.q) : putS (causal (scoresOf k q)) = H.s 0 := by
  subst hk hq; rfl
theorem mx_own {k q : Vec F S1x1x256x128 .bf16} (hk : k = H.k 0) (hq : q = H.q) : putMx (causal (scoresOf k q)) = H.mx 0 := by
  subst hk hq; rfl
theorem s_step {k q : Vec F S1x1x256x128 .bf16} (hk : k = H.k (τ + 1)) (hq : q = H.q) : putS (scoresOf k q) = H.s (τ + 1) := by
  subst hk hq; rfl
theorem mx_step {k q : Vec F S1x1x256x128 .bf16} (hk : k = H.k (τ + 1)) (hq : q = H.q) : putMx (scoresOf k q) = H.mx (τ + 1) := by
  subst hk hq; rfl
theorem m_step {m : Vec F S1x1x256 .f32} {mx : Vec F S1x1x1x256 .f32} (hm : m = H.m τ) (hx : mx = H.mx τ) : nextM m mx = H.m (τ + 1) := by
  subst hm hx; rfl
theorem a_step {m : Vec F S1x1x256 .f32} {mx : Vec F S1x1x1x256 .f32} (hm : m = H.m τ) (hx : mx = H.mx τ) : nextA m mx = H.a τ := by
  subst hm hx; rfl
theorem p_step {s : Vec F S1x1x256x256 .f32} {m : Vec F S1x1x256 .f32} {mx : Vec F S1x1x1x256 .f32} (hs : s = H.s τ) (hm : m = H.m τ)
    (hx : mx = H.mx τ) : nextP s m mx = H.p τ := by subst hs hm hx; rfl
theorem acc_step {acc : Vec F S1x80x256 .f32} {a : Vec F S1x1x1x256 .f32} {v : Vec F S1x1x1x80x256 .bf16} {p : Vec F S1x1x256x256 .bf16}
    (hc : acc = H.acc τ) (ha : a = H.a τ) (hv : v = H.v τ) (hp : p = H.p τ) : nextAcc acc a v p = H.acc (τ + 1) := by
  subst hc ha hv hp; rfl
end Head

/-! ## The offsets -/

/-- The keys' offsets of the two steps before the loop. -/
theorem off_k_first (i : grid0.Coords) : ∀ h : Fin 8,
    (![k0_off1 i 1#1 4294967295#32, k0_off2 i 1#1 4294967295#32, k0_off3 i 1#1 4294967295#32, k0_off4 i 1#1 4294967295#32, k0_off5 i 1#1 4294967295#32,
      k0_off6 i 1#1 4294967295#32, k0_off7 i 1#1 4294967295#32, k0_off8 i 1#1 4294967295#32] : Fin 8 → Fin 4 → ℕ) h
      = ![0, h.val, 256 * (blk (i 2).val 0).val, 0] := by
  revert i; decide +kernel
theorem off_k_second (i : grid0.Coords) : ∀ h : Fin 8,
    (![k0_off1 i 0#1 0#32, k0_off2 i 0#1 0#32, k0_off3 i 0#1 0#32, k0_off4 i 0#1 0#32, k0_off5 i 0#1 0#32,
      k0_off6 i 0#1 0#32, k0_off7 i 0#1 0#32, k0_off8 i 0#1 0#32] : Fin 8 → Fin 4 → ℕ) h
      = ![0, h.val, 256 * (blk (i 2).val 1).val, 0] := by
  revert i; decide +kernel
/-- The keys' offsets of the two steps a trip of the loop looks ahead to. -/
theorem off_k_even (i : grid0.Coords) (k : Fin (k0_t1_loop i).trips) : ∀ h : Fin 8,
    (![k0_off9 i k 2#32, k0_off10 i k 2#32, k0_off11 i k 2#32, k0_off12 i k 2#32, k0_off13 i k 2#32, k0_off14 i k 2#32, k0_off15 i k 2#32,
      k0_off16 i k 2#32] : Fin 8 → Fin 4 → ℕ) h = ![0, h.val, 256 * (blk (i 2).val (2 * k.val + 2)).val, 0] := by
  revert i k; decide +kernel
theorem off_k_odd (i : grid0.Coords) (k : Fin (k0_t1_loop i).trips) : ∀ h : Fin 8,
    (![k0_off9 i k 3#32, k0_off10 i k 3#32, k0_off11 i k 3#32, k0_off12 i k 3#32, k0_off13 i k 3#32, k0_off14 i k 3#32, k0_off15 i k 3#32,
      k0_off16 i k 3#32] : Fin 8 → Fin 4 → ℕ) h = ![0, h.val, 256 * (blk (i 2).val (2 * k.val + 3)).val, 0] := by
  revert i k; decide +kernel
/-- The values' offsets of the two steps of a trip. -/
theorem off_v_even (i : grid0.Coords) (k : Fin (k0_t1_loop i).trips) : ∀ h : Fin 8,
    (![k0_off17 i k, k0_off18 i k, k0_off19 i k, k0_off20 i k, k0_off21 i k, k0_off22 i k, k0_off23 i k, k0_off24 i k] : Fin 8 → Fin 5 → ℕ) h
      = ![0, h.val, (blk (i 2).val (2 * k.val)).val, 0, 0] := by
  revert i k; decide +kernel
theorem off_v_odd (i : grid0.Coords) (k : Fin (k0_t1_loop i).trips) : ∀ h : Fin 8,
    (![k0_off25 i k, k0_off26 i k, k0_off27 i k, k0_off28 i k, k0_off29 i k, k0_off30 i k, k0_off31 i k, k0_off32 i k] : Fin 8 → Fin 5 → ℕ) h
      = ![0, h.val, (blk (i 2).val (2 * k.val + 1)).val, 0, 0] := by
  revert i k; decide +kernel
/-- The values' offset where one step is left. -/
theorem off_v_one (i : grid0.Coords) (hc : k0_cond1 i = 1#1) : ∀ h : Fin 8,
    (![k0_off57 i, k0_off58 i, k0_off59 i, k0_off60 i, k0_off61 i, k0_off62 i, k0_off63 i, k0_off64 i] : Fin 8 → Fin 5 → ℕ) h
      = ![0, h.val, (blk (i 2).val (2 * (k0_t1_loop i).trips)).val, 0, 0] := by
  revert i; decide +kernel
/-- The values' offsets where two steps are left. -/
theorem off_v_two (i : grid0.Coords) (hc : k0_cond2 i = 1#1) : ∀ h : Fin 8,
    (![k0_off65 i, k0_off66 i, k0_off67 i, k0_off68 i, k0_off69 i, k0_off70 i, k0_off71 i, k0_off72 i] : Fin 8 → Fin 5 → ℕ) h
      = ![0, h.val, (blk (i 2).val (2 * (k0_t1_loop i).trips)).val, 0, 0] := by
  revert i; decide +kernel
theorem off_v_two' (i : grid0.Coords) (hc : k0_cond2 i = 1#1) : ∀ h : Fin 8,
    (![k0_off73 i, k0_off74 i, k0_off75 i, k0_off76 i, k0_off77 i, k0_off78 i, k0_off79 i, k0_off80 i] : Fin 8 → Fin 5 → ℕ) h
      = ![0, h.val, (blk (i 2).val (2 * (k0_t1_loop i).trips + 1)).val, 0, 0] := by
  revert i; decide +kernel
/-- The offsets where three steps are left. -/
theorem off_k_three (i : grid0.Coords) (hc : k0_cond3 i = 1#1) : ∀ h : Fin 8,
    (![k0_off81 i, k0_off82 i, k0_off83 i, k0_off84 i, k0_off85 i, k0_off86 i, k0_off87 i, k0_off88 i] : Fin 8 → Fin 4 → ℕ) h
      = ![0, h.val, 256 * (blk (i 2).val (2 * (k0_t1_loop i).trips + 2)).val, 0] := by
  revert i; decide +kernel
theorem off_v_three (i : grid0.Coords) (hc : k0_cond3 i = 1#1) : ∀ h : Fin 8,
    (![k0_off89 i, k0_off90 i, k0_off91 i, k0_off92 i, k0_off93 i, k0_off94 i, k0_off95 i, k0_off96 i] : Fin 8 → Fin 5 → ℕ) h
      = ![0, h.val, (blk (i 2).val (2 * (k0_t1_loop i).trips)).val, 0, 0] := by
  revert i; decide +kernel
theorem off_v_three' (i : grid0.Coords) (hc : k0_cond3 i = 1#1) : ∀ h : Fin 8,
    (![k0_off97 i 1#32, k0_off98 i 1#32, k0_off99 i 1#32, k0_off100 i 1#32, k0_off101 i 1#32, k0_off102 i 1#32, k0_off103 i 1#32,
      k0_off104 i 1#32] : Fin 8 → Fin 5 → ℕ) h = ![0, h.val, (blk (i 2).val (2 * (k0_t1_loop i).trips + 1)).val, 0, 0] := by
  revert i; decide +kernel
theorem off_v_three'' (i : grid0.Coords) (hc : k0_cond3 i = 1#1) : ∀ h : Fin 8,
    (![k0_off97 i 2#32, k0_off98 i 2#32, k0_off99 i 2#32, k0_off100 i 2#32, k0_off101 i 2#32, k0_off102 i 2#32, k0_off103 i 2#32,
      k0_off104 i 2#32] : Fin 8 → Fin 5 → ℕ) h = ![0, h.val, (blk (i 2).val (2 * (k0_t1_loop i).trips + 2)).val, 0, 0] := by
  revert i; decide +kernel

/-! ## The steps left after the loop -/

theorem t2_trips (i : grid0.Coords) : (k0_t2_loop i).trips = 0 := by revert i; decide +kernel
/-- Exactly one of the three endings is taken, and it takes the steps that are left. -/
theorem endings (i : grid0.Coords) :
    (k0_cond1 i = 1#1 ∧ k0_cond2 i ≠ 1#1 ∧ k0_cond3 i ≠ 1#1 ∧ (i 2).val + 1 = 2 * (k0_t1_loop i).trips + 1) ∨
    (k0_cond1 i ≠ 1#1 ∧ k0_cond2 i = 1#1 ∧ k0_cond3 i ≠ 1#1 ∧ (i 2).val + 1 = 2 * (k0_t1_loop i).trips + 2) ∨
    (k0_cond1 i ≠ 1#1 ∧ k0_cond2 i ≠ 1#1 ∧ k0_cond3 i = 1#1 ∧ (i 2).val + 1 = 2 * (k0_t1_loop i).trips + 3) := by
  revert i; decide +kernel

/-! ## Reading back what was stored -/

section
variable {sig : RefSig} {κ' : Kind} {sp : Space} {s : Shape} {e : EltTy} {Val : EltTy → Type}

/-- The place of the newest rectangle of a list that holds the whole of box `B`. -/
def place : List (Rect s) → LoadRect s → ℕ
  | [], _ => 0
  | p :: L, B => bif LoadRect.within p B then 0 else place L B + 1

/-- A rectangle read after a list of writes, where piece `j` was stored to this same rectangle and the newer pieces lie
    apart from it, gives that piece's value. -/
theorem readAt_stored (v : View sig κ' sp s e) (f : v.ty.Contents Val) {R : Rect s} :
    ∀ (L : List (View.Piece Val s e)) (j : ℕ) {w : R.shape.Idx → Val e}, LoadRect.hitChk (L.map Sigma.fst) R.toLoadRect j = true →
      View.Piece.nth L j = some ⟨R, w⟩ → v.readAt Val R.toLoadRect (v.writes Val f L) = w
  | [], j, _, _, hn => by cases j <;> cases hn
  | p :: L, 0, w, _, hn => by
    simp only [View.Piece.nth, Option.some.injEq] at hn
    subst hn
    funext x
    exact View.read_writes_cons_emb v f R w L x
  | p :: L, j + 1, w, hc, hn => by
    simp only [View.Piece.nth] at hn
    simp only [List.map_cons, LoadRect.hitChk, Bool.and_eq_true] at hc
    funext x
    have ih := congrFun (readAt_stored v f L j hc.2 hn) x
    have hx := LoadRect.idx_not_mem_of_disj hc.1 x
    show v.read Val (v.writes Val f (p :: L)) (R.toLoadRect.idx x) = w x
    rw [View.writes_cons, View.read_slice_write_of_not_mem p.1 _ _ _ (by rwa [Rect.map_emb_univ])]
    exact ih

end

end Cert.Proof.Attn
end
end
-- ==== Proof.Cells.lean ====
module
public import proofs.«01_k».proof.Proof.Model

/-!
# What the scratch buffers hold between two trips

The reads of one head's part of each buffer, and the invariant of the loop over pairs of steps.
-/

@[expose] public section
noncomputable section
namespace Cert.Proof.Attn
open Cert.KernelIdeal Cert.KernelIdeal.Gen
open Idealize.ShloMosaic Idealize.ShloMosaic.TcCoe
open Idealize.SL Idealize.SL.RA Idealize.SL.BI
open scoped Idealize.SL.BI

variable {F : FTy → Type} [FloatOps F] [Named F]

/-- The program's variants: none. -/
abbrev 𝒱₀ : Variants := Variants.none
local notation "𝕄" => MT nD τ sig Unit (Elt F) ℕ (UR sig nD τ) ℕ

/-- Contents of the buffer behind a memref of core `c`. -/
abbrev Cont (c : Dev nD) {sp : Space} {S : Shape} {e : EltTy} (M : Memref sig .tc sp S e) : Type := Buf (Elt F) (M.view.loc (c : Thread nD τ))
/-- The buffer behind a memref, held whole at contents `f`. -/
abbrev holds (c : Dev nD) {sp : Space} {S : Shape} {e : EltTy} (M : Memref sig .tc sp S e) (f : Cont (F := F) c M) : sProp 𝕄 :=
  M.view.loc (c : Thread nD τ) ↦{fullShare} f

/-- The boxes read and written lie within their buffers: a head's queries, its keys of a block, its values of a block, and the
  per-head cells of the scratch buffers. -/
theorem box_q (h : Fin 8) : ∀ a, (![0, h.val, 0, 0] : Fin 4 → ℕ) a + S1x1x256x128.size a ≤ S1x8x256x128.size a := by revert h; decide
theorem box_k (h : Fin 8) (b : Fin 16) : ∀ a, (![0, h.val, 256 * b.val, 0] : Fin 4 → ℕ) a + S1x1x256x128.size a ≤ S1x8x4096x128.size a := by
  revert h b; decide
theorem box_v (h : Fin 8) (b : Fin 16) : ∀ a, (![0, h.val, b.val, 0, 0] : Fin 5 → ℕ) a + S1x1x1x80x256.size a ≤ S1x8x16x80x256.size a := by
  revert h b; decide
theorem box_acc (h : Fin 8) : ∀ a, (![h.val, 0, 0] : Fin 3 → ℕ) a + S1x80x256.size a ≤ S8x80x256.size a := by revert h; decide
theorem box_m (h : Fin 8) : ∀ a, (![h.val, 0, 0] : Fin 3 → ℕ) a + S1x1x256.size a ≤ S8x1x256.size a := by revert h; decide
theorem box_s (r : Fin 2) (h : Fin 8) : ∀ a, (![r.val, h.val, 0, 0] : Fin 4 → ℕ) a + S1x1x256x256.size a ≤ S2x8x256x256.size a := by
  revert r h; decide
theorem box_a (r : Fin 2) (h : Fin 8) : ∀ a, (![r.val, h.val, 0, 0] : Fin 4 → ℕ) a + S1x1x1x256.size a ≤ S2x8x1x256.size a := by
  revert r h; decide

section
variable {sig : RefSig} {κ' : Kind} {sp : Space} {s : Shape} {e : EltTy} {Val : EltTy → Type}

/-- Two boxes of one shape at equal offsets read the same. -/
theorem readAt_eq (v : View sig κ' sp s e) {off off' size : Fin s.rank → ℕ} (eo : off = off') (h : ∀ a, off a + size a ≤ s.size a)
    (h' : ∀ a, off' a + size a ≤ s.size a) (f : v.ty.Contents Val) :
    v.readAt Val (Rect.unit off size h).toLoadRect f = v.readAt Val (Rect.unit off' size h').toLoadRect f := by
  subst eo; rfl

/-- `readAt_stored` with the piece found by looking for the newest that holds the rectangle. -/
theorem readAt_found (v : View sig κ' sp s e) (f : v.ty.Contents Val) {R : Rect s} (L : List (View.Piece Val s e)) {w : R.shape.Idx → Val e}
    (hc : LoadRect.hitChk (L.map Sigma.fst) R.toLoadRect (place (L.map Sigma.fst) R.toLoadRect) = true)
    (hn : View.Piece.nth L (place (L.map Sigma.fst) R.toLoadRect) = some ⟨R, w⟩) : v.readAt Val R.toLoadRect (v.writes Val f L) = w :=
  readAt_stored v f L _ hc hn
end

section
variable {c : Dev nD} {sp : Space}

/-- Head `h`'s queries in the query window's contents. -/
def rdQ (M : Memref sig .tc sp S1x8x256x128 .bf16) (f : Cont (F := F) c M) (h : Fin 8) : Vec F S1x1x256x128 .bf16 :=
  M.view.readAt (Elt F) (Rect.unit (s := S1x8x256x128) ![0, h.val, 0, 0] S1x1x256x128.size (box_q h)).toLoadRect f
/-- Block `b` of head `h`'s keys. -/
def rdK (M : Memref sig .tc sp S1x8x4096x128 .bf16) (f : Cont (F := F) c M) (h : Fin 8) (b : Fin 16) : Vec F S1x1x256x128 .bf16 :=
  M.view.readAt (Elt F) (Rect.unit (s := S1x8x4096x128) ![0, h.val, 256 * b.val, 0] S1x1x256x128.size (box_k h b)).toLoadRect f
/-- Block `b` of head `h`'s values. -/
def rdV (M : Memref sig .tc sp S1x8x16x80x256 .bf16) (f : Cont (F := F) c M) (h : Fin 8) (b : Fin 16) : Vec F S1x1x1x80x256 .bf16 :=
  M.view.readAt (Elt F) (Rect.unit (s := S1x8x16x80x256) ![0, h.val, b.val, 0, 0] S1x1x1x80x256.size (box_v h b)).toLoadRect f
/-- Head `h`'s accumulator. -/
def rdAcc (M : Memref sig .tc sp S8x80x256 .f32) (f : Cont (F := F) c M) (h : Fin 8) : Vec F S1x80x256 .f32 :=
  M.view.readAt (Elt F) (Rect.unit (s := S8x80x256) ![h.val, 0, 0] S1x80x256.size (box_acc h)).toLoadRect f
/-- Head `h`'s running maximum. -/
def rdM (M : Memref sig .tc sp S8x1x256 .f32) (f : Cont (F := F) c M) (h : Fin 8) : Vec F S1x1x256 .f32 :=
  M.view.readAt (Elt F) (Rect.unit (s := S8x1x256) ![h.val, 0, 0] S1x1x256.size (box_m h)).toLoadRect f
/-- Head `h`'s square array of slot `r`: the scores, or the weights. -/
def rdS {e : EltTy} (M : Memref sig .tc sp S2x8x256x256 e) (f : Cont (F := F) c M) (r : Fin 2) (h : Fin 8) : Vec F S1x1x256x256 e :=
  M.view.readAt (Elt F) (Rect.unit (s := S2x8x256x256) ![r.val, h.val, 0, 0] S1x1x256x256.size (box_s r h)).toLoadRect f
/-- Head `h`'s row of slot `r`: the scaling factors, or the column maxima. -/
def rdA (M : Memref sig .tc sp S2x8x1x256 .f32) (f : Cont (F := F) c M) (r : Fin 2) (h : Fin 8) : Vec F S1x1x1x256 .f32 :=
  M.view.readAt (Elt F) (Rect.unit (s := S2x8x1x256) ![r.val, h.val, 0, 0] S1x1x1x256.size (box_a r h)).toLoadRect f

/-- What head `h` reads in the program of query block `n`, out of the three windows' contents. -/
def headAt (n : ℕ) (M3 : Memref sig .tc sp S1x8x256x128 .bf16) (f3 : Cont (F := F) c M3) (M4 : Memref sig .tc sp S1x8x4096x128 .bf16)
    (f4 : Cont (F := F) c M4) (M5 : Memref sig .tc sp S1x8x16x80x256 .bf16) (f5 : Cont (F := F) c M5) (h : Fin 8) : Head F where
  q := rdQ M3 f3 h
  k τ := rdK M4 f4 h (blk n τ)
  v τ := rdV M5 f5 h (blk n τ)

/-- Before step `t` of the pipeline, `t` even: the accumulator of the steps before, the running maximum up to step `t`,
    step `t`'s weights and factor in slot 0, and step `t + 1`'s scores and column maxima in slot 1. -/
structure Ready (H : Fin 8 → Head F) (t : ℕ)
    (M7 : Memref sig .tc sp S8x80x256 .f32) (f7 : Cont (F := F) c M7) (M8 : Memref sig .tc sp S8x1x256 .f32) (f8 : Cont (F := F) c M8)
    (M9 : Memref sig .tc sp S2x8x256x256 .f32) (f9 : Cont (F := F) c M9) (M10 : Memref sig .tc sp S2x8x256x256 .bf16) (f10 : Cont (F := F) c M10)
    (M11 : Memref sig .tc sp S2x8x1x256 .f32) (f11 : Cont (F := F) c M11) (M12 : Memref sig .tc sp S2x8x1x256 .f32) (f12 : Cont (F := F) c M12) :
    Prop where
  acc : ∀ h, rdAcc M7 f7 h = (H h).acc t
  m : ∀ h, rdM M8 f8 h = (H h).m (t + 1)
  s : ∀ h, rdS M9 f9 1 h = (H h).s (t + 1)
  p : ∀ h, rdS M10 f10 0 h = (H h).p t
  a : ∀ h, rdA M11 f11 0 h = (H h).a t
  mx : ∀ h, rdA M12 f12 1 h = (H h).mx (t + 1)
end

end Cert.Proof.Attn
end
end
-- ==== Proof.Trip.lean ====
module
public import proofs.«01_k».proof.Proof.Cells

/-!
  One trip of the loop over pairs of steps: from a state ready for step `2t` to one ready for step `2t + 2`.
-/

@[expose] public section
noncomputable section
namespace Cert.Proof.Attn
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UR sig nD τ) ℕ

section
variable (c : Dev nD) (i : grid0.Coords) (arg3 : Memref sig .tc .vmem S1x8x256x128 .bf16) (harg3 : arg3.IsWhole) (arg4 : Memref sig .tc .vmem S1x8x4096x128 .bf16) (harg4 : arg4.IsWhole) (arg5 : Memref sig .tc .vmem S1x8x16x80x256 .bf16) (harg5 : arg5.IsWhole) (arg6 : Memref sig .tc .vmem S1x256x512 .bf16) (harg6 : arg6.IsWhole) (arg7 : Memref sig .tc .vmem S8x80x256 .f32) (harg7 : arg7.IsWhole) (arg8 : Memref sig .tc .vmem S8x1x256 .f32) (harg8 : arg8.IsWhole) (arg9 : Memref sig .tc .vmem S2x8x256x256 .f32) (harg9 : arg9.IsWhole) (arg10 : Memref sig .tc .vmem S2x8x256x256 .bf16) (harg10 : arg10.IsWhole) (arg11 : Memref sig .tc .vmem S2x8x1x256 .f32) (harg11 : arg11.IsWhole) (arg12 : Memref sig .tc .vmem S2x8x1x256 .f32) (harg12 : arg12.IsWhole)

set_option maxHeartbeats 4000000 in
/-- One trip of the loop: the stored scores, weights, factors and maxima move on by two steps, the accumulators too. -/
theorem trip (arg2 : BitVec 32) (v0 : BitVec 32) (v518 : BitVec 32) (c2_i32_517 : BitVec 32) (v519 : BitVec 32) (v524 : BitVec 32) (v526 : BitVec 32) (c0_i32_521 : BitVec 32)
    (k : Fin (k0_t1_loop i).trips) (f3 : Cont (F := F) c arg3) (f4 : Cont (F := F) c arg4)
    (f5 : Cont (F := F) c arg5) (f7 : Cont (F := F) c arg7) (f8 : Cont (F := F) c arg8)
    (f9 : Cont (F := F) c arg9) (f10 : Cont (F := F) c arg10) (f11 : Cont (F := F) c arg11) (f12 : Cont (F := F) c arg12)
    (hr : Ready (headAt (i 2).val arg3 f3 arg4 f4 arg5 f5) (2 * k.val) arg7 f7 arg8 f8 arg9 f9 arg10 f10 arg11 f11 arg12 f12) :
    iprop(holds c arg3 f3 ∗ holds c arg4 f4 ∗ holds c arg5 f5 ∗ holds c arg7 f7 ∗ holds c arg8 f8 ∗ holds c arg9 f9 ∗ holds c arg10 f10 ∗ holds c arg11 f11 ∗ holds c arg12 f12)
      ⊢ wp frame (wpE (defs₀ (F := F)) 𝒱₀ (c : Thread nD τ) none) Set.univ
          (k0_t1_body (F := F) i arg3 harg3 arg4 harg4 arg5 harg5 arg6 harg6 arg7 harg7 arg8 harg8 arg9 harg9 arg10 harg10 arg11 harg11 arg12 harg12 arg2 v0 v518 c2_i32_517 v519 v524 v526 c0_i32_521 k ())
          (fun _ => iprop(∃ (f7 : Cont (F := F) c arg7) (f8 : Cont (F := F) c arg8) (f9 : Cont (F := F) c arg9) (f10 : Cont (F := F) c arg10) (f11 : Cont (F := F) c arg11) (f12 : Cont (F := F) c arg12),
            holds c arg3 f3 ∗ holds c arg4 f4 ∗ holds c arg5 f5 ∗ holds c arg7 f7 ∗ holds c arg8 f8 ∗ holds c arg9 f9 ∗ holds c arg10 f10 ∗ holds c arg11 f11 ∗ holds c arg12 f12 ∗
            ⌜Ready (headAt (i 2).val arg3 f3 arg4 f4 arg5 f5) (2 * k.val + 2) arg7 f7 arg8 f8 arg9 f9 arg10 f10 arg11 f11 arg12 f12⌝)) := by
  iintro ⟨H3, H4, H5, H7, H8, H9, H10, H11, H12⟩
  unfold k0_t1_body
  sl_exec_parts
  sl_step
  iexists _, _, _, _, _, _
  isplitl [H3]; · iexact H3
  isplitl [H4]; · iexact H4
  isplitl [H5]; · iexact H5
  isplitl [H7]; · iexact H7
  isplitl [H8]; · iexact H8
  isplitl [H9]; · iexact H9
  isplitl [H10]; · iexact H10
  isplitl [H11]; · iexact H11
  isplitl [H12]; · iexact H12
  · ipureintro
    refine ⟨fun h => ?_, fun h => ?_, fun h => ?_, fun h => ?_, fun h => ?_, fun h => ?_⟩
    · have ha := hr.acc h; have hA := hr.a h; have hp := hr.p h; have hm := hr.m h; have hs := hr.s h; have hx := hr.mx h
      have v0 := off_v_even i k h; have v1 := off_v_odd i k h
      fin_cases h <;>
      · refine (readAt_found _ _ _ rfl rfl).trans (Head.acc_step ?_ ?_ ?_ ?_)
        · refine (readAt_found _ _ _ rfl rfl).trans (Head.acc_step ?_ ?_ ?_ ?_)
          · exact ha
          · exact hA
          · exact readAt_eq _ v0 _ _ _
          · exact hp
        · refine (readAt_found _ _ _ rfl rfl).trans (Head.a_step ?_ ?_)
          · exact hm
          · exact hx
        · exact readAt_eq _ v1 _ _ _
        · refine (readAt_found _ _ _ rfl rfl).trans (Head.p_step ?_ ?_ ?_)
          · exact hs
          · exact hm
          · exact hx
    · have hm := hr.m h; have hx := hr.mx h; have k0 := off_k_even i k h
      fin_cases h <;>
      · refine (readAt_found _ _ _ rfl rfl).trans (Head.m_step ?_ ?_)
        · refine (readAt_found _ _ _ rfl rfl).trans (Head.m_step ?_ ?_)
          · exact hm
          · exact hx
        · refine (readAt_found _ _ _ rfl rfl).trans (Head.mx_step ?_ rfl)
          exact readAt_eq _ k0 _ _ _
    · have k1 := off_k_odd i k h
      fin_cases h <;>
      · refine (readAt_found _ _ _ rfl rfl).trans (Head.s_step ?_ rfl)
        exact readAt_eq _ k1 _ _ _
    · have hm := hr.m h; have hx := hr.mx h; have k0 := off_k_even i k h
      fin_cases h <;>
      · refine (readAt_found _ _ _ rfl rfl).trans (Head.p_step ?_ ?_ ?_)
        · refine (readAt_found _ _ _ rfl rfl).trans (Head.s_step ?_ rfl)
          exact readAt_eq _ k0 _ _ _
        · refine (readAt_found _ _ _ rfl rfl).trans (Head.m_step ?_ ?_)
          · exact hm
          · exact hx
        · refine (readAt_found _ _ _ rfl rfl).trans (Head.mx_step ?_ rfl)
          exact readAt_eq _ k0 _ _ _
    · have hm := hr.m h; have hx := hr.mx h; have k0 := off_k_even i k h
      fin_cases h <;>
      · refine (readAt_found _ _ _ rfl rfl).trans (Head.a_step ?_ ?_)
        · refine (readAt_found _ _ _ rfl rfl).trans (Head.m_step ?_ ?_)
          · exact hm
          · exact hx
        · refine (readAt_found _ _ _ rfl rfl).trans (Head.mx_step ?_ rfl)
          exact readAt_eq _ k0 _ _ _
    · have k1 := off_k_odd i k h
      fin_cases h <;>
      · refine (readAt_found _ _ _ rfl rfl).trans (Head.mx_step ?_ rfl)
        exact readAt_eq _ k1 _ _ _
end
end Cert.Proof.Attn
end
end
-- ==== Proof.Body.lean ====
module
public import proofs.«01_k».proof.Proof.Trip

/-!
  The body of one grid point: the first two steps' scores, the loop over pairs of steps, the ending with one, two or three steps,
  and the stores of the four pairs of heads.
-/

@[expose] public section
noncomputable section
namespace Cert.Proof.Attn
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UR sig nD τ) ℕ

/-! ## The accumulators' quotients, joined by pairs of heads -/

/-- One head's accumulator over its row of weight sums, padded to 128 rows and transposed: queries down. -/
def colsOf (A : Vec F S1x80x256 .f32) : FVec F S256x128 .f32 :=
  transpose S256x128 [1, 0] (concatenate S128x256 0
    [⟨S80x256, (divf (shapeCast S80x256 A shapeCasts_S1x80x256_S80x256 : FVec F S80x256 .f32)
        (broadcastTo S80x256 (extractStridedSlice S1x256 ![64, 0] (shapeCast S80x256 A shapeCasts_S1x80x256_S80x256 : FVec F S80x256 .f32)
          slices_S80x256_o64_0_S1x256 : FVec F S1x256 .f32) broadcasts_S1x256_S80x256) : FVec F S80x256 .f32)⟩,
      ⟨S48x256, (broadcast S48x256 (Scalar.ofBits .f32 0x00000000#32 : F .f32) : FVec F S48x256 .f32)⟩]
    concatenates_S80x256_S48x256_S128x256_d0 : FVec F S128x256 .f32) transposes_S128x256_p1_0_S256x128

/-- What is stored for a pair of heads: the first head's 64 columns, then the second's. -/
def pairOf (A B : Vec F S1x80x256 .f32) : Vec F S1x256x128 .bf16 :=
  shapeCast S1x256x128 (truncf .bf16 (select
    (cmpi .slt (iota .tc S256x128 32 [1] iota_S256x128_d1_w32) (broadcast S256x128 64#32)) (colsOf A)
    (dynamicRotate 1 64#32 none (colsOf B) rotates_S256x128_d1) : FVec F S256x128 .f32) bitsLt_bf16_f32 : FVec F S256x128 .bf16)
    shapeCasts_S256x128_S1x256x128

/-- Equal accumulators give equal pairs. -/
theorem pairOf_eq {A A' B B' : Vec F S1x80x256 .f32} (hA : A = A') (hB : B = B') : pairOf A B = pairOf A' B' := by rw [hA, hB]

/-- The four pairs' columns lie in the output window. -/
theorem box_o (r : Fin 4) : ∀ a, (![0, 0, 128 * r.val] : Fin 3 → ℕ) a + S1x256x128.size a ≤ S1x256x512.size a := by revert r; decide

/-- Pair `r`'s columns of the output window. -/
def rdO {c : Dev nD} {sp : Space} (M : Memref sig .tc sp S1x256x512 .bf16) (f : Cont (F := F) c M) (r : Fin 4) : Vec F S1x256x128 .bf16 :=
  M.view.readAt (Elt F) (Rect.unit (s := S1x256x512) ![0, 0, 128 * r.val] S1x256x128.size (box_o r)).toLoadRect f

/-- The first and the second head of pair `r`. -/
def headA (r : Fin 4) : Fin 8 := ⟨2 * r.val, by omega⟩
/-- The second head of pair `r`. -/
def headB (r : Fin 4) : Fin 8 := ⟨2 * r.val + 1, by omega⟩

section
variable (c : Dev nD) (i : grid0.Coords) (arg3 : Memref sig .tc .vmem S1x8x256x128 .bf16) (harg3 : arg3.IsWhole) (arg4 : Memref sig .tc .vmem S1x8x4096x128 .bf16) (harg4 : arg4.IsWhole) (arg5 : Memref sig .tc .vmem S1x8x16x80x256 .bf16) (harg5 : arg5.IsWhole) (arg6 : Memref sig .tc .vmem S1x256x512 .bf16) (harg6 : arg6.IsWhole) (arg7 : Memref sig .tc .vmem S8x80x256 .f32) (harg7 : arg7.IsWhole) (arg8 : Memref sig .tc .vmem S8x1x256 .f32) (harg8 : arg8.IsWhole) (arg9 : Memref sig .tc .vmem S2x8x256x256 .f32) (harg9 : arg9.IsWhole) (arg10 : Memref sig .tc .vmem S2x8x256x256 .bf16) (harg10 : arg10.IsWhole) (arg11 : Memref sig .tc .vmem S2x8x1x256 .f32) (harg11 : arg11.IsWhole) (arg12 : Memref sig .tc .vmem S2x8x1x256 .f32) (harg12 : arg12.IsWhole)

/-- What every trip of the loop over pairs of steps keeps. -/
def inv (f3 : Cont (F := F) c arg3) (f4 : Cont (F := F) c arg4) (f5 : Cont (F := F) c arg5) (t : ℕ) : sProp 𝕄 :=
  iprop(∃ (f7 : Cont (F := F) c arg7) (f8 : Cont (F := F) c arg8) (f9 : Cont (F := F) c arg9) (f10 : Cont (F := F) c arg10) (f11 : Cont (F := F) c arg11) (f12 : Cont (F := F) c arg12), holds c arg3 f3 ∗ holds c arg4 f4 ∗ holds c arg5 f5 ∗ holds c arg7 f7 ∗ holds c arg8 f8 ∗ holds c arg9 f9 ∗ holds c arg10 f10 ∗ holds c arg11 f11 ∗ holds c arg12 f12 ∗
    ⌜Ready (headAt (i 2).val arg3 f3 arg4 f4 arg5 f5) (2 * t) arg7 f7 arg8 f8 arg9 f9 arg10 f10 arg11 f11 arg12 f12⌝)

/-- A trip keeps the loop's invariant. -/
theorem trip_inv (arg2 v0 v518 c2_i32_517 v519 v524 v526 c0_i32_521 : BitVec 32)
    (k : Fin (k0_t1_loop i).trips) (f3 : Cont (F := F) c arg3) (f4 : Cont (F := F) c arg4) (f5 : Cont (F := F) c arg5) :
    inv c i arg3 arg4 arg5 arg7 arg8 arg9 arg10 arg11 arg12 f3 f4 f5 k.val
      ⊢ wp frame (wpE (defs₀ (F := F)) 𝒱₀ (c : Thread nD τ) none) Set.univ
          (k0_t1_body (F := F) i arg3 harg3 arg4 harg4 arg5 harg5 arg6 harg6 arg7 harg7 arg8 harg8 arg9 harg9 arg10 harg10 arg11 harg11 arg12 harg12 arg2 v0 v518 c2_i32_517 v519 v524 v526 c0_i32_521 k ())
          (fun _ => inv c i arg3 arg4 arg5 arg7 arg8 arg9 arg10 arg11 arg12 f3 f4 f5 (k.val + 1)) := by
  unfold inv
  iintro ⟨%f7, %f8, %f9, %f10, %f11, %f12, H3, H4, H5, H7, H8, H9, H10, H11, H12, %hr⟩
  iapply (trip c i arg3 harg3 arg4 harg4 arg5 harg5 arg6 harg6 arg7 harg7 arg8 harg8 arg9 harg9 arg10 harg10 arg11 harg11 arg12 harg12 arg2 v0 v518 c2_i32_517 v519 v524 v526 c0_i32_521 k f3 f4 f5 f7 f8 f9 f10 f11 f12 hr)
  isplitl [H3]; · iexact H3
  isplitl [H4]; · iexact H4
  isplitl [H5]; · iexact H5
  isplitl [H7]; · iexact H7
  isplitl [H8]; · iexact H8
  isplitl [H9]; · iexact H9
  isplitl [H10]; · iexact H10
  isplitl [H11]; · iexact H11
  iexact H12

/-- The ending's reading of what the program stores: every pair's columns. -/
def Stored (f3 : Cont (F := F) c arg3) (f4 : Cont (F := F) c arg4) (f5 : Cont (F := F) c arg5) (f6 : Cont (F := F) c arg6) : Prop :=
  ∀ r : Fin 4, rdO arg6 f6 r = pairOf ((headAt (i 2).val arg3 f3 arg4 f4 arg5 f5 (headA r)).acc ((i 2).val + 1))
    ((headAt (i 2).val arg3 f3 arg4 f4 arg5 f5 (headB r)).acc ((i 2).val + 1))

set_option maxHeartbeats 4000000 in
/-- One program's run: it leaves in the output window, for every pair of heads, the quotients of the accumulators after
    all the program's steps. -/
theorem run (f3 : Cont (F := F) c arg3) (f4 : Cont (F := F) c arg4) (f5 : Cont (F := F) c arg5) (f6 : Cont (F := F) c arg6)
    (f7 : Cont (F := F) c arg7) (f8 : Cont (F := F) c arg8) (f9 : Cont (F := F) c arg9) (f10 : Cont (F := F) c arg10) (f11 : Cont (F := F) c arg11) (f12 : Cont (F := F) c arg12) :
    iprop(holds c arg3 f3 ∗ holds c arg4 f4 ∗ holds c arg5 f5 ∗ holds c arg6 f6 ∗ holds c arg7 f7 ∗ holds c arg8 f8 ∗ holds c arg9 f9 ∗ holds c arg10 f10 ∗ holds c arg11 f11 ∗ holds c arg12 f12)
      ⊢ wp frame (wpE (defs₀ (F := F)) 𝒱₀ (c : Thread nD τ) none) Set.univ
          (cc0_moba_attn (F := F) i arg3 harg3 arg4 harg4 arg5 harg5 arg6 harg6 arg7 harg7 arg8 harg8 arg9 harg9 arg10 harg10 arg11 harg11 arg12 harg12)
          (fun _ => iprop(∃ (f6 : Cont (F := F) c arg6) (f7 : Cont (F := F) c arg7) (f8 : Cont (F := F) c arg8) (f9 : Cont (F := F) c arg9) (f10 : Cont (F := F) c arg10) (f11 : Cont (F := F) c arg11) (f12 : Cont (F := F) c arg12), holds c arg3 f3 ∗ holds c arg4 f4 ∗ holds c arg5 f5 ∗ holds c arg6 f6 ∗ holds c arg7 f7 ∗ holds c arg8 f8 ∗ holds c arg9 f9 ∗ holds c arg10 f10 ∗ holds c arg11 f11 ∗ holds c arg12 f12 ∗ ⌜Stored c i arg3 arg4 arg5 arg6 f3 f4 f5 f6⌝)) := by
  iintro ⟨H3, H4, H5, H6, H7, H8, H9, H10, H11, H12⟩
  rw [cc0_moba_attn_eq_skeleton]
  unfold cc0_moba_attn_skel
  sl_exec_parts
  sl_for (fun k _ => inv c i arg3 arg4 arg5 arg7 arg8 arg9 arg10 arg11 arg12 f3 f4 f5 k) $$ [H3 H4 H5 H7 H8 H9 H10 H11 H12]
  case region =>
    intro k a
    have h := trip_inv c i arg3 harg3 arg4 harg4 arg5 harg5 arg6 harg6 arg7 harg7 arg8 harg8 arg9 harg9 arg10 harg10 arg11 harg11 arg12 harg12 (BitVec.ofNat 32 (i 2).val) 0#32 0#32 0#32 0#32 0#32 0#32 0#32 k f3 f4 f5
    unfold k0_t1_body at h
    unfold run.sl.prog.body_1
    set_option maxRecDepth 100000 in exact h
  · unfold inv
    iexists _, _, _, _, _, _
    isplitl [H3]; · iexact H3
    isplitl [H4]; · iexact H4
    isplitl [H5]; · iexact H5
    isplitl [H7]; · iexact H7
    isplitl [H8]; · iexact H8
    isplitl [H9]; · iexact H9
    isplitl [H10]; · iexact H10
    isplitl [H11]; · iexact H11
    isplitl [H12]; · iexact H12

    ipureintro
    refine ⟨fun h => ?_, fun h => ?_, fun h => ?_, fun h => ?_, fun h => ?_, fun h => ?_⟩
    · fin_cases h <;> exact readAt_found _ _ _ rfl rfl
    · have k0 := off_k_first i h
      fin_cases h <;>
      · refine (readAt_found _ _ _ rfl rfl).trans (Head.m_step ?_ ?_)
        · exact readAt_found _ _ _ rfl rfl
        · refine (readAt_found _ _ _ rfl rfl).trans (Head.mx_own ?_ rfl)
          exact readAt_eq _ k0 _ _ _
    · have k1 := off_k_second i h
      fin_cases h <;>
      · refine (readAt_found _ _ _ rfl rfl).trans (Head.s_step ?_ rfl)
        exact readAt_eq _ k1 _ _ _
    · have k0 := off_k_first i h
      fin_cases h <;>
      · refine (readAt_found _ _ _ rfl rfl).trans (Head.p_step ?_ ?_ ?_)
        · refine (readAt_found _ _ _ rfl rfl).trans (Head.s_own ?_ rfl)
          exact readAt_eq _ k0 _ _ _
        · exact readAt_found _ _ _ rfl rfl
        · refine (readAt_found _ _ _ rfl rfl).trans (Head.mx_own ?_ rfl)
          exact readAt_eq _ k0 _ _ _
    · have k0 := off_k_first i h
      fin_cases h <;>
      · refine (readAt_found _ _ _ rfl rfl).trans (Head.a_step ?_ ?_)
        · exact readAt_found _ _ _ rfl rfl
        · refine (readAt_found _ _ _ rfl rfl).trans (Head.mx_own ?_ rfl)
          exact readAt_eq _ k0 _ _ _
    · have k1 := off_k_second i h
      fin_cases h <;>
      · refine (readAt_found _ _ _ rfl rfl).trans (Head.mx_step ?_ rfl)
        exact readAt_eq _ k1 _ _ _
  iintro %a HI
  unfold inv
  icases HI with ⟨%g7, %g8, %g9, %g10, %g11, %g12, H3, H4, H5, H7, H8, H9, H10, H11, H12, %hr⟩
  sl_exec_parts
  sl_for (fun _ _ => iprop(emp)) $$ []
  case region =>
    intro k a
    exact absurd (k.isLt.trans_eq (t2_trips i)) (Nat.not_lt_zero _)
  · iempintro
  iintro %a' HE
  rcases endings i with ⟨h1, h2, h3, hn⟩ | ⟨h1, h2, h3, hn⟩ | ⟨h1, h2, h3, hn⟩
  · sl_exec_parts
    sl_step
    iexists _, _, _, _, _, _, _
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    ipureintro
    unfold Stored
    rw [hn]
    intro r
    have cA := hr.acc (headA r); have aA := hr.a (headA r); have pA := hr.p (headA r)
    have v0A := off_v_one i h1 (headA r)
    have cB := hr.acc (headB r); have aB := hr.a (headB r); have pB := hr.p (headB r)
    have v0B := off_v_one i h1 (headB r)
    fin_cases r <;>
    · refine (readAt_found _ _ _ rfl rfl).trans (pairOf_eq ?_ ?_)
      · refine (readAt_found _ _ _ rfl rfl).trans (Head.acc_step ?_ ?_ ?_ ?_)
        · exact cA
        · exact aA
        · exact readAt_eq _ v0A _ _ _
        · exact pA
      · refine (readAt_found _ _ _ rfl rfl).trans (Head.acc_step ?_ ?_ ?_ ?_)
        · exact cB
        · exact aB
        · exact readAt_eq _ v0B _ _ _
        · exact pB
  · sl_exec_parts
    sl_step
    iexists _, _, _, _, _, _, _
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    ipureintro
    unfold Stored
    rw [hn]
    intro r
    have cA := hr.acc (headA r); have aA := hr.a (headA r); have pA := hr.p (headA r); have mA := hr.m (headA r); have sA := hr.s (headA r); have xA := hr.mx (headA r)
    have v0A := off_v_two i h2 (headA r); have v1A := off_v_two' i h2 (headA r)
    have cB := hr.acc (headB r); have aB := hr.a (headB r); have pB := hr.p (headB r); have mB := hr.m (headB r); have sB := hr.s (headB r); have xB := hr.mx (headB r)
    have v0B := off_v_two i h2 (headB r); have v1B := off_v_two' i h2 (headB r)
    fin_cases r <;>
    · refine (readAt_found _ _ _ rfl rfl).trans (pairOf_eq ?_ ?_)
      · refine (readAt_found _ _ _ rfl rfl).trans (Head.acc_step ?_ ?_ ?_ ?_)
        · refine (readAt_found _ _ _ rfl rfl).trans (Head.acc_step ?_ ?_ ?_ ?_)
          · exact cA
          · exact aA
          · exact readAt_eq _ v0A _ _ _
          · exact pA
        · refine (readAt_found _ _ _ rfl rfl).trans (Head.a_step ?_ ?_)
          · exact mA
          · exact xA
        · exact readAt_eq _ v1A _ _ _
        · refine (readAt_found _ _ _ rfl rfl).trans (Head.p_step ?_ ?_ ?_)
          · exact sA
          · exact mA
          · exact xA
      · refine (readAt_found _ _ _ rfl rfl).trans (Head.acc_step ?_ ?_ ?_ ?_)
        · refine (readAt_found _ _ _ rfl rfl).trans (Head.acc_step ?_ ?_ ?_ ?_)
          · exact cB
          · exact aB
          · exact readAt_eq _ v0B _ _ _
          · exact pB
        · refine (readAt_found _ _ _ rfl rfl).trans (Head.a_step ?_ ?_)
          · exact mB
          · exact xB
        · exact readAt_eq _ v1B _ _ _
        · refine (readAt_found _ _ _ rfl rfl).trans (Head.p_step ?_ ?_ ?_)
          · exact sB
          · exact mB
          · exact xB
  · sl_exec_parts
    sl_step
    iexists _, _, _, _, _, _, _
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    ipureintro
    unfold Stored
    rw [hn]
    intro r
    have cA := hr.acc (headA r); have aA := hr.a (headA r); have pA := hr.p (headA r); have mA := hr.m (headA r); have sA := hr.s (headA r); have xA := hr.mx (headA r)
    have v0A := off_v_three i h3 (headA r); have v1A := off_v_three' i h3 (headA r); have v2A := off_v_three'' i h3 (headA r); have k2A := off_k_three i h3 (headA r)
    have cB := hr.acc (headB r); have aB := hr.a (headB r); have pB := hr.p (headB r); have mB := hr.m (headB r); have sB := hr.s (headB r); have xB := hr.mx (headB r)
    have v0B := off_v_three i h3 (headB r); have v1B := off_v_three' i h3 (headB r); have v2B := off_v_three'' i h3 (headB r); have k2B := off_k_three i h3 (headB r)
    fin_cases r <;>
    · refine (readAt_found _ _ _ rfl rfl).trans (pairOf_eq ?_ ?_)
      · refine (readAt_found _ _ _ rfl rfl).trans (Head.acc_step ?_ ?_ ?_ ?_)
        · refine (readAt_found _ _ _ rfl rfl).trans (Head.acc_step ?_ ?_ ?_ ?_)
          · refine (readAt_found _ _ _ rfl rfl).trans (Head.acc_step ?_ ?_ ?_ ?_)
            · exact cA
            · exact aA
            · exact readAt_eq _ v0A _ _ _
            · exact pA
          · refine (readAt_found _ _ _ rfl rfl).trans (Head.a_step ?_ ?_)
            · exact mA
            · exact xA
          · exact readAt_eq _ v1A _ _ _
          · refine (readAt_found _ _ _ rfl rfl).trans (Head.p_step ?_ ?_ ?_)
            · exact sA
            · exact mA
            · exact xA
        · refine (readAt_found _ _ _ rfl rfl).trans (Head.a_step ?_ ?_)
          · refine (readAt_found _ _ _ rfl rfl).trans (Head.m_step ?_ ?_)
            · exact mA
            · exact xA
          · refine (readAt_found _ _ _ rfl rfl).trans (Head.mx_step ?_ rfl)
            exact readAt_eq _ k2A _ _ _
        · exact readAt_eq _ v2A _ _ _
        · refine (readAt_found _ _ _ rfl rfl).trans (Head.p_step ?_ ?_ ?_)
          · refine (readAt_found _ _ _ rfl rfl).trans (Head.s_step ?_ rfl)
            exact readAt_eq _ k2A _ _ _
          · refine (readAt_found _ _ _ rfl rfl).trans (Head.m_step ?_ ?_)
            · exact mA
            · exact xA
          · refine (readAt_found _ _ _ rfl rfl).trans (Head.mx_step ?_ rfl)
            exact readAt_eq _ k2A _ _ _
      · refine (readAt_found _ _ _ rfl rfl).trans (Head.acc_step ?_ ?_ ?_ ?_)
        · refine (readAt_found _ _ _ rfl rfl).trans (Head.acc_step ?_ ?_ ?_ ?_)
          · refine (readAt_found _ _ _ rfl rfl).trans (Head.acc_step ?_ ?_ ?_ ?_)
            · exact cB
            · exact aB
            · exact readAt_eq _ v0B _ _ _
            · exact pB
          · refine (readAt_found _ _ _ rfl rfl).trans (Head.a_step ?_ ?_)
            · exact mB
            · exact xB
          · exact readAt_eq _ v1B _ _ _
          · refine (readAt_found _ _ _ rfl rfl).trans (Head.p_step ?_ ?_ ?_)
            · exact sB
            · exact mB
            · exact xB
        · refine (readAt_found _ _ _ rfl rfl).trans (Head.a_step ?_ ?_)
          · refine (readAt_found _ _ _ rfl rfl).trans (Head.m_step ?_ ?_)
            · exact mB
            · exact xB
          · refine (readAt_found _ _ _ rfl rfl).trans (Head.mx_step ?_ rfl)
            exact readAt_eq _ k2B _ _ _
        · exact readAt_eq _ v2B _ _ _
        · refine (readAt_found _ _ _ rfl rfl).trans (Head.p_step ?_ ?_ ?_)
          · refine (readAt_found _ _ _ rfl rfl).trans (Head.s_step ?_ rfl)
            exact readAt_eq _ k2B _ _ _
          · refine (readAt_found _ _ _ rfl rfl).trans (Head.m_step ?_ ?_)
            · exact mB
            · exact xB
          · refine (readAt_found _ _ _ rfl rfl).trans (Head.mx_step ?_ rfl)
            exact readAt_eq _ k2B _ _ _
end
end Cert.Proof.Attn
end
end
-- ==== Proof.Run.lean ====
module
public import proofs.«01_k».proof.Proof.Body
public import proofs.«01_k».proof.Proof.Gen.KernelIdeal.Frame
public import Idealize.ShloMosaic.Lib.Pipeline.ValueKit
public import Idealize.ShloMosaic.Adequacy
public import Idealize.ShloMosaic.Init

/-!
# The launch

What one program stores, as a function of the three blocks it is handed, and the run of the whole grid from it.
-/

@[expose] public section
noncomputable section
namespace Cert.Proof.Attn
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]
local notation "𝕄" => MT nD τ sig Unit (Elt F) ℕ (UR sig nD τ) ℕ

/-- What head `h` reads in the program of query block `n`, out of the three blocks. -/
def blockHead (n : ℕ) (X3 : Vec F S1x8x256x128 .bf16) (X4 : Vec F S1x8x4096x128 .bf16) (X5 : Vec F S1x8x16x80x256 .bf16) (h : Fin 8) : Head F where
  q x := X3 ((Rect.unit (s := S1x8x256x128) ![0, h.val, 0, 0] S1x1x256x128.size (box_q h)).toLoadRect.idx x)
  k τ x := X4 ((Rect.unit (s := S1x8x4096x128) ![0, h.val, 256 * (blk n τ).val, 0] S1x1x256x128.size (box_k h (blk n τ))).toLoadRect.idx x)
  v τ x := X5 ((Rect.unit (s := S1x8x16x80x256) ![0, h.val, (blk n τ).val, 0, 0] S1x1x1x80x256.size (box_v h (blk n τ))).toLoadRect.idx x)

/-- The place of an output element within its pair of heads. -/
def inPair (x : S1x256x512.Idx) : S1x256x128.Idx :=
  fun | ⟨0, _⟩ => x 0 | ⟨1, _⟩ => x 1 | ⟨2, _⟩ => (⟨(x 2).val % 128, Nat.mod_lt _ (by decide)⟩ : Fin 128)

/-- The pair of heads of an output element. -/
def pairAt (x : S1x256x512.Idx) : Fin 4 := ⟨(x 2).val / 128, by have h : (x 2).val < 512 := (x 2).isLt; omega⟩

/-- What the program of query block `n` leaves in the output block. -/
def outOf (n : ℕ) (X3 : Vec F S1x8x256x128 .bf16) (X4 : Vec F S1x8x4096x128 .bf16) (X5 : Vec F S1x8x16x80x256 .bf16) : Vec F S1x256x512 .bf16 :=
  fun x => pairOf ((blockHead n X3 X4 X5 (headA (pairAt x))).acc (n + 1)) ((blockHead n X3 X4 X5 (headB (pairAt x))).acc (n + 1)) (inPair x)

section
variable {c : Dev nD} {i : grid0.Coords} {arg3 : Memref sig .tc .vmem S1x8x256x128 .bf16} {arg4 : Memref sig .tc .vmem S1x8x4096x128 .bf16}
  {arg5 : Memref sig .tc .vmem S1x8x16x80x256 .bf16} {arg6 : Memref sig .tc .vmem S1x256x512 .bf16}

/-- The four stores fill the output block. -/
theorem read_stored {f3 : Cont (F := F) c arg3} {f4 : Cont (F := F) c arg4} {f5 : Cont (F := F) c arg5} {f6 : Cont (F := F) c arg6}
    (h : Stored c i arg3 arg4 arg5 arg6 f3 f4 f5 f6) :
    arg6.view.read (Elt F) f6 = outOf (i 2).val (arg3.view.read (Elt F) f3) (arg4.view.read (Elt F) f4) (arg5.view.read (Elt F) f5) := by
  funext x
  refine Eq.trans ?_ (congrFun (h (pairAt x)) (inPair x))
  unfold rdO
  rw [View.readAt_apply]
  congr 1
  funext a
  apply Fin.ext
  have e : (x 2).val = 128 * ((x 2).val / 128) + (x 2).val % 128 := (Nat.div_add_mod _ _).symm
  fin_cases a
  · show (x 0).val = 0 + 1 * (x 0).val; omega
  · show (x 1).val = 0 + 1 * (x 1).val; omega
  · show (x 2).val = 128 * ((x 2).val / 128) + 1 * ((x 2).val % 128); omega

/-- A whole memref at what it reads is its buffer at some contents that read so. -/
theorem owns_holds {sp : Space} {S : Shape} {e : EltTy} (M : Memref sig .tc sp S e) (hM : M.IsWhole) (X : S.Idx → Elt F e) :
    (owns (c : Thread nD τ) M fullShare X : sProp 𝕄) = iprop(∃ f : Cont (F := F) c M, ⌜M.view.read (Elt F) f = X⌝ ∗ holds c M f) := by
  unfold owns holds
  rw [hM.set_eq_univ]
end

variable (m : (ℓ : Loc nD τ sig) → Buf (Elt F) ℓ) (ρ : Dev nD → PrngReg)

/-- What the program at point `t` leaves in the output block. -/
def outAt (c : Dev nD) (t : Fin cfg0.N) : Vec F S1x256x512 .bf16 :=
  outOf ((grid0.coords t) 2).val (iblk m c 0 t) (iblk m c 1 t) (iblk m c 2 t)

/-- The proof data: every input block stays as fetched, the output block is `outAt`. -/
def dats (_ : Fin 1) (c : Dev nD) : Dat τ (Elt F) Unit ℕ (UR sig nD τ) ℕ cfg0 c where
  A w := V m c (Pipeline.arrRef spec0 w)
  after := fun | ⟨0, _⟩ => iblk m c 0 | ⟨1, _⟩ => iblk m c 1 | ⟨2, _⟩ => iblk m c 2 | ⟨3, _⟩ => outAt m c
  Φ _ := Pipeline.ΦA spec0 c
  q _ := fullShare
  owed _ := 0

/-- The windows' arrays at the start are the region's own. -/
theorem A_eq (c : Dev nD) (w : Fin cfg0.W) : (dats m 0 c).A w = V m c (Pipeline.arrRef spec0 w) := by dsimp only [dats]

/-- The scratch buffers at some contents and the generator register at some state. -/
theorem ΦA_eq (c : Dev nD) : (Pipeline.ΦA spec0 c : sProp 𝕄)
    = iprop(((∃ f, holds c (Memref.whole cc0_scratch0) f) ∗ (∃ f, holds c (Memref.whole cc0_scratch1) f) ∗ (∃ f, holds c (Memref.whole cc0_scratch2) f)
        ∗ (∃ f, holds c (Memref.whole cc0_scratch3) f) ∗ (∃ f, holds c (Memref.whole cc0_scratch4) f) ∗ (∃ f, holds c (Memref.whole cc0_scratch5) f))
        ∗ ∃ r, prngReg c r) := by
  unfold Pipeline.ΦA; rw [scopedRest0_eq]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
/-- And what it returns. -/
def bodyPost (c : Dev nD) (t : Fin cfg0.N) : sProp 𝕄 :=
  iprop((dats m 0 c).Φ t.succ ∗ (dats m 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (outAt m c t))

/-- The body at a point: `run` from the blocks to the block it stores. -/
theorem sound_body (c : Dev nD) (t : Fin cfg0.N) :
    bodyPre m c t ⊢ wp frame (wpE (defs₀ (F := F)) 𝒱₀ (c : Thread nD τ) none) Set.univ (bodyAt0 t) (fun _ => bodyPost m c t) := by
  unfold bodyPre bodyPost bodyAt0 outAt
  rw [show (dats m 0 c).Φ t.succ = Pipeline.ΦA spec0 c from rfl,
    show (dats m 0 c).owesAt () t.succ = (dats m 0 c).owesAt () t.castSucc from rfl,
    show (dats m 0 c).Φ t.castSucc = Pipeline.ΦA spec0 c from rfl, ΦA_eq]
  simp only [before0_0_of m (dats m 0 c) (A_eq m c 0) (fun _ => rfl), before0_1_of m (dats m 0 c) (A_eq m c 1) (fun _ => rfl),
    before0_2_of m (dats m 0 c) (A_eq m c 2) (fun _ => rfl)]
  rw [owns_holds (st0_0 t) (hstage0_0 _), owns_holds (st0_1 t) (hstage0_1 _), owns_holds (st0_2 t) (hstage0_2 _),
    owns_holds (st0_3 t) (hstage0_3 _)]
  simp only [owns_holds (st0_3 t) (hstage0_3 ((cfg0.slots t 3).cast nbuf0_3))]
  iintro ⟨⟨⟨⟨%f7, H7⟩, ⟨%f8, H8⟩, ⟨%f9, H9⟩, ⟨%f10, H10⟩, ⟨%f11, H11⟩, ⟨%f12, H12⟩⟩, Hg⟩, HO, ⟨%d3, %f3, %h3, H3⟩, ⟨%d4, %f4, %h4, H4⟩, ⟨%d5, %f5, %h5, H5⟩, ⟨%d6, %f6, %h6, H6⟩⟩
  iapply (wp_wand_r _ _ _)
  isplitl [H3 H4 H5 H6 H7 H8 H9 H10 H11 H12]
  · iapply (run c (grid0.coords t) (st0_0 t) (hstage0_0 _) (st0_1 t) (hstage0_1 _) (st0_2 t) (hstage0_2 _) (st0_3 t) (hstage0_3 _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) (Memref.whole cc0_scratch5) (Memref.isWhole_whole _)
      f3 f4 f5 f6 f7 f8 f9 f10 f11 f12)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  iintro %u ⟨%g6, %g7, %g8, %g9, %g10, %g11, %g12, H3, H4, H5, H6, H7, H8, H9, H10, H11, H12, %hs⟩
  isplitl [H7 H8 H9 H10 H11 H12 Hg]
  · isplitl [H7 H8 H9 H10 H11 H12]
    · isplitl [H7]; · iexists g7; iexact H7
      isplitl [H8]; · iexists g8; iexact H8
      isplitl [H9]; · iexists g9; iexact H9
      isplitl [H10]; · iexists g10; iexact H10
      isplitl [H11]; · iexists g11; iexact H11
      iexists g12; iexact H12
    iexact Hg
  isplitl [HO]; · iexact HO
  isplitl [H3]; · (iexists f3; isplitr; · ipureintro; exact h3); iexact H3
  isplitl [H4]; · (iexists f4; isplitr; · ipureintro; exact h4); iexact H4
  isplitl [H5]; · (iexists f5; isplitr; · ipureintro; exact h5); iexact H5
  iexists g6; isplitr
  · ipureintro; rw [read_stored hs, h3, h4, h5]
  iexact H6

/-- The body table's row at a point is the body there. -/
theorem defs₀_row (t : Fin cfg0.N) : defs₀ (F := F) .tc cfg0.body (cfg0.bodyArgs t (cfg0.slots t)) = bodyAt0 t := by
  unfold defs₀; rw [Defs.onTc_tc]

/-- The library's body obligation. -/
theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-- From any memory with zero counters every weakly fair execution ends, each array at what the proof data say and every
    counter at zero. -/
theorem run_main : θ_run defs (onTc (τ := τ) (main (F := F))) (s₀ m ρ)
    (fun r => Pipeline.FramePost cfgs (dats m) 0 (V m) r ∧ r.2.sem = fun _ => 0) :=
  Pipeline.θ_run_frame cfgs (dats m) 0 launch0 defs₀ 𝒱₀ m ρ main (hbody := fun c => (body_obligation m c).loose)
    (hshare := fun c => (dats m 0 c).share_full fun _ => rfl) (howed := fun _ _ => rfl) (V := V m) (hmain := hmain m 𝒱₀)
    (hA := A_eq m) (hΦ := fun _ _ => rfl) (Q' := _) (hQ' := fun _ h => h)

variable {m} in
/-- The arguments end holding what they held. -/
theorem args_kept {r : PUnit × MemSt nD τ sig (Elt F)} (h : Pipeline.FramePost cfgs (dats m) 0 (V m) r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  ⟨((h c).1 0).trans (((dats m 0 c).arrAt_in 0 rfl _).trans (A_eq m c 0)),
    ((h c).1 1).trans (((dats m 0 c).arrAt_in 1 rfl _).trans (A_eq m c 1)),
    ((h c).1 2).trans (((dats m 0 c).arrAt_in 2 rfl _).trans (A_eq m c 2))⟩

end Cert.Proof.Attn
end
-- ==== Proof.Frames.lean ====
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Run
public import Idealize.ShloMosaic.Adequacy
public import Idealize.ShloMosaic.Init
public import Idealize.ShloMosaic.Lib.Tactic

@[expose] public section
noncomputable section
namespace Cert.Proof
open Idealize.ShloMosaic Idealize.ShloMosaic.TcCoe Idealize.SL.Sem

/-- The idealized kernel runs, keeps its arguments and ends with every counter at zero. -/
theorem frame_kernelIdeal : Cert.quiescent_KernelIdeal := fun m ρ _ =>
  (θ_run Cert.KernelIdeal.defs _ _).mono (fun _ h => ⟨fun c => Cert.Proof.Attn.args_kept h.1 c, h.2⟩)
    (Cert.Proof.Attn.run_main (F := Ideal) m ρ)

/-- A named constant read at the bit patterns is the constant that the kernel prints. -/
@[reducible] def namedBits : Named Bits where
  named _ _ {_} bits := FloatOps.ofBits _ bits

/-- At the bit patterns, with each named constant at its own pattern, the idealized kernel's program runs, keeps its
    arguments and ends with every counter at zero. -/
theorem run_bits : letI := namedBits; ∀ (m : (ℓ : Loc Cert.KernelIdeal.nD Cert.KernelIdeal.τ Cert.KernelIdeal.sig) → Buf (Elt Bits) ℓ)
    (g : Dev Cert.KernelIdeal.nD → PrngReg),
    True → θ_run (Cert.KernelIdeal.defs (F := Bits)) (onTc (τ := Cert.KernelIdeal.τ) (Cert.KernelIdeal.main (F := Bits)))
      ⟨m, fun _ => 0, g⟩ (fun r => (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2)
            = m ((c.tc : Thread Cert.KernelIdeal.nD Cert.KernelIdeal.τ).loc Cert.KernelIdeal.main_arg2))
        ∧ r.2.sem = fun _ => 0) :=
  letI := namedBits
  fun m ρ _ => (θ_run Cert.KernelIdeal.defs _ _).mono (fun _ h => ⟨fun c => Cert.Proof.Attn.args_kept h.1 c, h.2⟩)
    (Cert.Proof.Attn.run_main (F := Bits) m ρ)

/-- The kernel as printed runs, keeps its arguments and ends with every counter at zero: its program is the idealized
    one's, each named constant at its own pattern. -/
theorem frame_kernel : Cert.quiescent_Kernel := Eq.mp (by sl_kernel_rfl) run_bits

/-- The reference runs, keeps its arguments and ends with every counter at zero, for it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The mask's constant is named, and stands for minus infinity. -/
theorem preserves : Cert.preserves_Kernel_KernelIdeal :=
  IdealRules.named_const.statement Cert.KernelIdeal.κ "mask" .f32 0xF149F2CA#32 ⊥ rfl

end Cert.Proof
end
-- ==== Proof.Alg.lean ====
module
public import Idealize.ShloMosaic.PureOps.Ideal
public import Mathlib.Algebra.BigOperators.Fin
public import Mathlib.Data.Finset.Fold

/-!
# The recurrence of the running softmax over the extended reals

A recurrence keeps a running maximum and an accumulator that is scaled whenever the maximum grows. Here it is solved: after
`n` steps the accumulator is the plain sum of the values weighted by `2^(score - maximum)`. No finiteness is asked: at an
infinite maximum every weight is zero, on both sides.
-/

@[expose] public section
noncomputable section
namespace Cert.Proof.Attn.Alg
open Idealize.ShloMosaic

/-- A power of two is not negative. -/
theorem exp2_sub_nonneg (x : EReal) : 0 ≤ Ideal.exp2 x := by
  induction x with
  | bot => simp
  | top => simp
  | coe r => rw [Ideal.exp2_coe]; exact_mod_cast Real.rpow_nonneg (by norm_num) r

/-- Two to a difference at most zero is not infinite. -/
theorem exp2_sub_ne_top {a b : EReal} (h : a ≤ b) : Ideal.exp2 (a - b) ≠ ⊤ := by
  induction a with
  | bot => rw [EReal.bot_sub]; simp
  | top => rw [top_le_iff.mp h]; simp
  | coe r =>
    induction b with
    | bot => simp at h
    | top => simp
    | coe t => rw [← EReal.coe_sub, Ideal.exp2_coe]; exact EReal.coe_ne_top _

/-- The factors telescope below a growing maximum. -/
theorem exp2_mul {s m m' : EReal} (h : s ≤ m) (h' : m ≤ m') : Ideal.exp2 (s - m) * Ideal.exp2 (m - m') = Ideal.exp2 (s - m') := by
  induction m' with
  | top => simp
  | bot =>
    have hm : m = ⊥ := le_bot_iff.mp h'
    subst hm
    have hs : s = ⊥ := le_bot_iff.mp h
    subst hs; simp
  | coe t =>
    induction m with
    | top => simp at h'
    | bot => rw [le_bot_iff.mp h]; simp
    | coe r =>
      induction s with
      | top => simp at h
      | bot => simp
      | coe u =>
        rw [← EReal.coe_sub, ← EReal.coe_sub, ← EReal.coe_sub, Ideal.exp2_coe, Ideal.exp2_coe, Ideal.exp2_coe, ← EReal.coe_mul]
        congr 1
        show (2 : ℝ) ^ (u - r) * (2 : ℝ) ^ (r - t) = (2 : ℝ) ^ (u - t)
        rw [← Real.rpow_add (by norm_num)]; congr 1; ring

/-- A finite nonnegative factor goes into a sum. -/
theorem sum_mul {ι : Type} (s : Finset ι) (f : ι → EReal) {a : EReal} (h : 0 ≤ a) (h' : a ≠ ⊤) : (∑ k ∈ s, f k) * a = ∑ k ∈ s, f k * a := by
  classical
  induction s using Finset.induction_on with
  | empty => simp
  | insert k s hk ih => rw [Finset.sum_insert hk, Finset.sum_insert hk, EReal.right_distrib_of_nonneg_of_ne_top h h', ih]

/-- The recurrence solved: the scores of every step lie below the running maximum, which only grows. -/
theorem acc_eq {K : Type} [Fintype K] (S V : ℕ → K → EReal) (m acc : ℕ → EReal) (hm : ∀ τ, m τ ≤ m (τ + 1)) (hS : ∀ τ k, S τ k ≤ m (τ + 1))
    (h0 : acc 0 = 0)
    (hs : ∀ τ, acc (τ + 1) = acc τ * Ideal.exp2 (m τ - m (τ + 1)) + ∑ k, V τ k * Ideal.exp2 (S τ k - m (τ + 1))) (n : ℕ) :
    acc n = ∑ τ ∈ Finset.range n, ∑ k, V τ k * Ideal.exp2 (S τ k - m n) := by
  have mono : Monotone m := monotone_nat_of_le_succ hm
  induction n with
  | zero => simpa using h0
  | succ n ih =>
    rw [hs, ih, Finset.sum_range_succ, sum_mul _ _ (exp2_sub_nonneg _) (exp2_sub_ne_top (hm n))]
    congr 1
    refine Finset.sum_congr rfl fun τ hτ => ?_
    rw [sum_mul _ _ (exp2_sub_nonneg _) (exp2_sub_ne_top (hm n))]
    refine Finset.sum_congr rfl fun k _ => ?_
    rw [mul_assoc, exp2_mul ((hS τ k).trans (mono (Finset.mem_range.mp hτ))) (hm n)]

/-- The steps of the program of query block `n` go once through the blocks up to `n`. -/
theorem sum_steps (n : Fin 16) (b : ℕ → Fin 16) (hb : ∀ τ, b τ = Fin.ofNat 16 (if τ = 0 then n.val else min (τ - 1) (n.val - 1))) (f : Fin 16 → EReal)
    (hf : ∀ j, n < j → f j = 0) : ∑ τ ∈ Finset.range (n.val + 1), f (b τ) = ∑ j, f j := by
  have e : ∀ j : ℕ, j < n.val → b (j + 1) = Fin.ofNat 16 j := fun j hj => by
    rw [hb, if_neg (by omega), show min (j + 1 - 1) (n.val - 1) = j by omega]
  rw [Finset.sum_range_succ', hb 0, if_pos rfl, Finset.sum_congr rfl fun j hj => by rw [e j (Finset.mem_range.mp hj)], ← Finset.sum_range_succ
    (fun j => f (Fin.ofNat 16 j)), ← Fin.sum_univ_eq_sum_range (fun j => f (Fin.ofNat 16 j)) (n.val + 1)]
  have e2 : ∑ j : Fin 16, f j = ∑ j ∈ Finset.range 16, f (Fin.ofNat 16 j) := by
    rw [← Fin.sum_univ_eq_sum_range (fun j => f (Fin.ofNat 16 j)) 16]
    exact Finset.sum_congr rfl fun j _ => congrArg f (Fin.ext (by simp [Fin.ofNat, Nat.mod_eq_of_lt j.isLt]))
  rw [e2, Fin.sum_univ_eq_sum_range (fun j => f (Fin.ofNat 16 j)) (n.val + 1)]
  refine Finset.sum_subset (fun j hj => Finset.mem_range.mpr (by have := Finset.mem_range.mp hj; have := n.isLt; omega)) fun j hj hj' => hf _ ?_
  have h1 := Finset.mem_range.mp hj
  have h2 : ¬ j < n.val + 1 := fun h => hj' (Finset.mem_range.mpr h)
  rw [Fin.lt_def]; show n.val < j % 16; rw [Nat.mod_eq_of_lt h1]; omega

/-- The running maximum after `n` steps is the largest score of those steps. -/
theorem max_eq (mx m : ℕ → EReal) (h0 : m 0 = ⊥) (hs : ∀ τ, m (τ + 1) = max (m τ) (mx τ)) (n : ℕ) : m n = (Finset.range n).sup mx := by
  induction n with
  | zero => simpa using h0
  | succ n ih => rw [hs, ih, Finset.range_add_one, Finset.sup_insert, max_comm]

/-- The largest over the steps is the largest over all blocks, those after the query's at `⊥`. -/
theorem sup_steps (n : Fin 16) (b : ℕ → Fin 16) (hb : ∀ τ, b τ = Fin.ofNat 16 (if τ = 0 then n.val else min (τ - 1) (n.val - 1))) (f : Fin 16 → EReal)
    (hf : ∀ j, n < j → f j = ⊥) : (Finset.range (n.val + 1)).sup (fun τ => f (b τ)) = Finset.univ.sup f := by
  apply le_antisymm
  · exact Finset.sup_le fun τ _ => Finset.le_sup (f := f) (Finset.mem_univ (b τ))
  · refine Finset.sup_le fun j _ => ?_
    rcases lt_trichotomy j n with h | h | h
    · have e : b (j.val + 1) = j := by
        have h' : j.val < n.val := h
        rw [hb, if_neg (by omega), show min (j.val + 1 - 1) (n.val - 1) = j.val by omega]
        exact Fin.ext (Nat.mod_eq_of_lt j.isLt)
      rw [← e]
      exact Finset.le_sup (f := fun τ => f (b τ)) (Finset.mem_range.mpr (by have h' : j.val < n.val := h; omega))
    · have e : b 0 = j := by rw [hb, if_pos rfl, h]; exact Fin.ext (Nat.mod_eq_of_lt n.isLt)
      rw [← e]
      exact Finset.le_sup (f := fun τ => f (b τ)) (Finset.mem_range.mpr (by omega))
    · rw [hf j h]; exact bot_le

end Cert.Proof.Attn.Alg
end
-- ==== Proof.Read.lean ====
module
public import proofs.«01_k».proof.Proof.Run
public import proofs.«01_k».proof.Proof.Alg
public import Idealize.ShloMosaic.Lib.Pointwise
public import Idealize.ShloMosaic.Lib.WordCmp

/-!
  The kernel's operations over the extended reals, read at an index, and the recurrence over the steps solved.
-/

@[expose] public section
noncomputable section
namespace Cert.Proof.Attn
open Cert.KernelIdeal Cert.KernelIdeal.Gen
open Idealize.ShloMosaic Idealize.ShloMosaic.TcCoe Idealize.ShloMosaic.WordCmp

/-- The mask's constant is minus infinity. -/
theorem named_mask : Named.named (F := Ideal) (φ := .f32) κ "mask" 4048155338#32 = (⊥ : EReal) := rfl

/-- The word of minus infinity. -/
theorem negInf : Ideal.ofBits .f32 4286578688#32 = ⊥ := by simp [Ideal.ofBits, Ideal.ieee]

/-- A score is the product of key and query. -/
theorem scoresOf_at (k q : Vec Ideal S1x1x256x128 .bf16) (a b : Fin 256) :
    scoresOf k q (ix2 a b) = ∑ d : Fin 128, (k (ix4 0 0 a d) * q (ix4 0 0 b d) : EReal) := by
  pointwise [scoresOf]

/-- The own block's mask. -/
theorem causal_at (s : FVec Ideal S256x256 .f32) (a b : Fin 256) :
    causal s (ix2 a b) = if a ≤ b then s (ix2 a b) else (⊥ : EReal) := by
  pointwise [causal]
  rw [cmpi_sle_ofNat (by omega) (by omega), select_ofBool, named_mask]
  simp only [decide_eq_true_eq, Fin.le_def]

/-- The maximum of a query's column. -/
theorem putMx_at (s : FVec Ideal S256x256 .f32) (b : Fin 256) :
    putMx s (ix4 0 0 0 b) = Finset.univ.sup fun a : Fin 256 => (s (ix2 a b) : EReal) := by
  pointwise [putMx]
  rw [negInf]
  rfl

/-- The new maximum at a query. -/
theorem top_at (m : Vec Ideal S1x1x256 .f32) (mx : Vec Ideal S1x1x1x256 .f32) (b : Fin 256) :
    top m mx (ix2 0 b) = max (m (ix3 0 0 b) : EReal) (mx (ix4 0 0 0 b)) := by
  pointwise [top]

/-- The stored new maximum at a query. -/
theorem nextM_at (m : Vec Ideal S1x1x256 .f32) (mx : Vec Ideal S1x1x1x256 .f32) (b : Fin 256) :
    nextM m mx (ix3 0 0 b) = max (m (ix3 0 0 b) : EReal) (mx (ix4 0 0 0 b)) := by
  pointwise [nextM, top]

/-- The factor at a query. -/
theorem nextA_at (m : Vec Ideal S1x1x256 .f32) (mx : Vec Ideal S1x1x1x256 .f32) (b : Fin 256) :
    nextA m mx (ix4 0 0 0 b) = Ideal.exp2 ((m (ix3 0 0 b) : EReal) - max (m (ix3 0 0 b) : EReal) (mx (ix4 0 0 0 b))) := by
  pointwise [nextA, top]
  rfl

/-- The weight of a key at a query. -/
theorem nextP_at (s : Vec Ideal S1x1x256x256 .f32) (m : Vec Ideal S1x1x256 .f32) (mx : Vec Ideal S1x1x1x256 .f32) (a b : Fin 256) :
    nextP s m mx (ix4 0 0 a b) = Ideal.exp2 ((s (ix4 0 0 a b) : EReal) - max (m (ix3 0 0 b) : EReal) (mx (ix4 0 0 0 b))) := by
  pointwise [nextP, top]
  rfl

/-- The accumulator after a step, at a row and a query. -/
theorem nextAcc_at (acc : Vec Ideal S1x80x256 .f32) (a : Vec Ideal S1x1x1x256 .f32) (v : Vec Ideal S1x1x1x80x256 .bf16) (p : Vec Ideal S1x1x256x256 .bf16)
    (d : Fin 80) (b : Fin 256) :
    nextAcc acc a v p (ix3 0 d b) = (acc (ix3 0 d b) : EReal) * a (ix4 0 0 0 b) + ∑ k : Fin 256, (v (ix5 0 0 0 d k) * p (ix4 0 0 k b) : EReal) := by
  pointwise [nextAcc]

/-- The accumulator starts at zero. -/
theorem acc0_at (d : Fin 80) (b : Fin 256) : (acc0 (F := Ideal)) (ix3 0 d b) = (0 : EReal) := by
  pointwise [acc0]

/-- The maximum starts at minus infinity. -/
theorem m0_at (b : Fin 256) : (m0 (F := Ideal)) (ix3 0 0 b) = (⊥ : EReal) := by
  pointwise [m0]
  exact named_mask

/-- The scores as stored. -/
theorem putS_at (s : FVec Ideal S256x256 .f32) (a b : Fin 256) : putS s (ix4 0 0 a b) = s (ix2 a b) := by
  pointwise [putS]

/-- A head's quotient at a query and a value row below 64. -/
theorem colsOf_at (A : Vec Ideal S1x80x256 .f32) (q : Fin 256) (d : Fin 64) :
    colsOf A (ix2 q ⟨d.val, by omega⟩) = Ideal.div (A (ix3 0 ⟨d.val, by omega⟩ q)) (A (ix3 0 64 q)) := by
  pointwise [colsOf]
  exact dif_pos (by omega)

/-- Lanes below 64 are the first head's, the others the second's. -/
theorem pairOf_at (A B : Vec Ideal S1x80x256 .f32) (q : Fin 256) (l : Fin 128) :
    pairOf A B (ix3 0 q l) = if h : l.val < 64 then colsOf A (ix2 q l) else colsOf B (ix2 q ⟨l.val - 64, by omega⟩) := by
  pointwise [pairOf]
  refine (congrArg (fun c => Scalar.select c _ _) (cmpi_slt_ofNat (a := l.val) (b := 64) (by omega) (by omega))).trans ?_
  rw [select_ofBool]
  by_cases h : l.val < 64
  · simp only [h, decide_true, if_true, dif_pos]
  · simp only [h, decide_false, Bool.false_eq_true, if_false, dif_neg, not_false_eq_true]
    exact congrArg (fun z => colsOf B (ix2 q z)) (Fin.ext (show (l.val + 128 - 64) % 128 = l.val - 64 by omega))

/-! ## The recurrence read at a query -/

/-- Key `a`'s score of step `τ` for query `b`. -/
def sc (H : Head Ideal) (b : Fin 256) (τ : ℕ) (a : Fin 256) : EReal := scores H.q H.k τ (ix2 a b)

/-- The running maximum of query `b` is the largest score so far. -/
theorem m_at (H : Head Ideal) (b : Fin 256) (n : ℕ) :
    (H.m n (ix3 0 0 b) : EReal) = (Finset.range n).sup fun τ => Finset.univ.sup (sc H b τ) :=
  Alg.max_eq (fun τ => Finset.univ.sup (sc H b τ)) (fun τ => H.m τ (ix3 0 0 b)) (m0_at b)
    (fun τ => (nextM_at (H.m τ) (H.mx τ) b).trans (congrArg (max (H.m τ (ix3 0 0 b) : EReal)) (putMx_at _ b))) n

/-- One step of the running maximum. -/
theorem m_succ (H : Head Ideal) (b : Fin 256) (τ : ℕ) :
    (H.m (τ + 1) (ix3 0 0 b) : EReal) = max (H.m τ (ix3 0 0 b) : EReal) (H.mx τ (ix4 0 0 0 b)) := nextM_at (H.m τ) (H.mx τ) b

/-- One step of the accumulator's row `d` at query `b`. -/
theorem acc_succ (H : Head Ideal) (d : Fin 80) (b : Fin 256) (τ : ℕ) :
    (H.acc (τ + 1) (ix3 0 d b) : EReal) = H.acc τ (ix3 0 d b) * Ideal.exp2 ((H.m τ (ix3 0 0 b) : EReal) - H.m (τ + 1) (ix3 0 0 b))
      + ∑ a : Fin 256, (H.v τ (ix5 0 0 0 d a) : EReal) * Ideal.exp2 (sc H b τ a - H.m (τ + 1) (ix3 0 0 b)) := by
  have h1 : (H.a τ (ix4 0 0 0 b) : EReal) = _ := nextA_at (H.m τ) (H.mx τ) b
  have h2 : ∀ a, (H.p τ (ix4 0 0 a b) : EReal) = _ := fun a => nextP_at (H.s τ) (H.m τ) (H.mx τ) a b
  have h3 : ∀ a, (H.s τ (ix4 0 0 a b) : EReal) = sc H b τ a := fun a => putS_at _ a b
  have h4 : (H.acc (τ + 1) (ix3 0 d b) : EReal) = _ := nextAcc_at (H.acc τ) (H.a τ) (H.v τ) (H.p τ) d b
  rw [h4, h1, m_succ]
  simp only [h2, h3]

/-- The accumulator's row `d` at query `b` is the sum of the weighted values, each weight two to the score less the
    running maximum. -/
theorem acc_at (H : Head Ideal) (d : Fin 80) (b : Fin 256) (n : ℕ) :
    (H.acc n (ix3 0 d b) : EReal)
      = ∑ τ ∈ Finset.range n, ∑ a : Fin 256, (H.v τ (ix5 0 0 0 d a) : EReal) * Ideal.exp2 (sc H b τ a - H.m n (ix3 0 0 b)) :=
  Alg.acc_eq (sc H b) (fun τ a => H.v τ (ix5 0 0 0 d a)) (fun τ => H.m τ (ix3 0 0 b)) (fun τ => H.acc τ (ix3 0 d b))
    (fun τ => (le_max_left _ _).trans_eq (m_succ H b τ).symm)
    (fun τ a => by
      show sc H b τ a ≤ (H.m (τ + 1) (ix3 0 0 b) : EReal)
      rw [m_at]
      exact (Finset.le_sup (f := sc H b τ) (Finset.mem_univ a)).trans
        (Finset.le_sup (f := fun t => Finset.univ.sup (sc H b t)) (Finset.mem_range.mpr (Nat.lt_succ_self τ))))
    (acc0_at d b) (acc_succ H d b) n

/-- Over the blocks: where step `τ` reads block `blk n τ`, and the blocks after block `n` are masked out, the last accumulator is
    the sum over all blocks. -/
theorem acc_blocks (H : Head Ideal) (n : Fin 16) (d : Fin 80) (b : Fin 256) (S W : Fin 16 → Fin 256 → EReal)
    (hS : ∀ τ ≤ n.val, ∀ a, sc H b τ a = S (blk n.val τ) a) (hW : ∀ τ a, (H.v τ (ix5 0 0 0 d a) : EReal) = W (blk n.val τ) a)
    (hbot : ∀ j, n < j → ∀ a, S j a = ⊥) :
    (H.acc (n.val + 1) (ix3 0 d b) : EReal)
      = ∑ j, ∑ a, W j a * Ideal.exp2 (S j a - Finset.univ.sup fun j => Finset.univ.sup (S j)) := by
  have hm : (H.m (n.val + 1) (ix3 0 0 b) : EReal) = Finset.univ.sup fun j => Finset.univ.sup (S j) := by
    rw [m_at, ← Alg.sup_steps n (blk n.val) (fun _ => rfl) (fun j => Finset.univ.sup (S j)) fun j hj =>
      le_bot_iff.mp (Finset.sup_le fun a _ => (hbot j hj a).le)]
    exact Finset.sup_congr rfl fun τ hτ => Finset.sup_congr rfl fun a _ => hS τ (Nat.lt_succ_iff.mp (Finset.mem_range.mp hτ)) a
  rw [acc_at, hm, ← Alg.sum_steps n (blk n.val) (fun _ => rfl) (fun j => ∑ a, W j a * Ideal.exp2 (S j a - Finset.univ.sup fun j => Finset.univ.sup (S j)))
    fun j hj => Finset.sum_eq_zero fun a _ => by rw [hbot j hj, EReal.bot_sub]; simp]
  exact Finset.sum_congr rfl fun τ hτ => Finset.sum_congr rfl fun a _ => by
    rw [hW, hS τ (Nat.lt_succ_iff.mp (Finset.mem_range.mp hτ)) a]

/-! ## The output block read at an element -/

/-- An element of the output block is its head's quotient. -/
theorem outOf_at (n : ℕ) (X3 : Vec Ideal S1x8x256x128 .bf16) (X4 : Vec Ideal S1x8x4096x128 .bf16) (X5 : Vec Ideal S1x8x16x80x256 .bf16)
    (q : Fin 256) (j : Fin 512) :
    outOf n X3 X4 X5 (ix3 0 q j) = Ideal.div ((blockHead n X3 X4 X5 ⟨j.val / 64, by omega⟩).acc (n + 1) (ix3 0 ⟨j.val % 64, by omega⟩ q))
      ((blockHead n X3 X4 X5 ⟨j.val / 64, by omega⟩).acc (n + 1) (ix3 0 64 q)) := by
  have e : inPair (ix3 0 q j) = ix3 0 q ⟨j.val % 128, by omega⟩ := by
    funext a
    match a with
    | ⟨0, _⟩ => rfl
    | ⟨1, _⟩ => rfl
    | ⟨2, _⟩ => rfl
  have hp : (pairAt (ix3 0 q j)).val = j.val / 128 := rfl
  unfold outOf
  rw [e]
  refine (pairOf_at _ _ q ⟨j.val % 128, by omega⟩).trans ?_
  by_cases h : j.val % 128 < 64
  · rw [dif_pos h]
    have eh : headA (pairAt (ix3 0 q j)) = ⟨j.val / 64, by omega⟩ := Fin.ext (by show 2 * (pairAt (ix3 0 q j)).val = _; rw [hp]; show _ = j.val / 64; omega)
    rw [eh]
    have el : (⟨j.val % 128, by omega⟩ : Fin 128) = ⟨(⟨j.val % 64, by omega⟩ : Fin 64).val, by show j.val % 64 < 128; omega⟩ :=
      Fin.ext (by show j.val % 128 = j.val % 64; omega)
    rw [el]
    exact colsOf_at _ q ⟨j.val % 64, by omega⟩
  · rw [dif_neg h]
    have eh : headB (pairAt (ix3 0 q j)) = ⟨j.val / 64, by omega⟩ := Fin.ext (by show 2 * (pairAt (ix3 0 q j)).val + 1 = _; rw [hp]; show _ = j.val / 64; omega)
    rw [eh]
    have el : (⟨j.val % 128 - 64, by omega⟩ : Fin 128) = ⟨(⟨j.val % 64, by omega⟩ : Fin 64).val, by show j.val % 64 < 128; omega⟩ :=
      Fin.ext (by show j.val % 128 - 64 = j.val % 64; omega)
    refine Eq.trans (congrArg (fun z => colsOf _ (ix2 q z)) el) ?_
    exact colsOf_at _ q ⟨j.val % 64, by omega⟩

section
variable (n : ℕ) (X3 : Vec Ideal S1x8x256x128 .bf16) (X4 : Vec Ideal S1x8x4096x128 .bf16) (X5 : Vec Ideal S1x8x16x80x256 .bf16) (h : Fin 8)

/-- A head's query in its window. -/
theorem head_q (b : Fin 256) (d : Fin 128) : (blockHead n X3 X4 X5 h).q (ix4 0 0 b d) = X3 (ix4 0 h b d) := by
  refine congrArg X3 (funext fun a => Fin.ext ?_)
  fin_cases a <;> simp [Rect.unit, LoadRect.idx, ix4]
/-- A step's key in its window. -/
theorem head_k (τ : ℕ) (a : Fin 256) (d : Fin 128) :
    (blockHead n X3 X4 X5 h).k τ (ix4 0 0 a d) = X4 (ix4 0 h ⟨256 * (blk n τ).val + a.val, by omega⟩ d) := by
  refine congrArg X4 (funext fun a => Fin.ext ?_)
  fin_cases a <;> simp [Rect.unit, LoadRect.idx, ix4]
/-- A step's value in its window. -/
theorem head_v (τ : ℕ) (d : Fin 80) (a : Fin 256) :
    (blockHead n X3 X4 X5 h).v τ (ix5 0 0 0 d a) = X5 (ix5 0 h (blk n τ) d a) := by
  refine congrArg X5 (funext fun a => Fin.ext ?_)
  fin_cases a <;> simp [Rect.unit, LoadRect.idx, ix5]
end

/-- The scores of a head of the block, over the block's own query and keys. -/
theorem sc_head (n : Fin 16) (X3 : Vec Ideal S1x8x256x128 .bf16) (X4 : Vec Ideal S1x8x4096x128 .bf16) (X5 : Vec Ideal S1x8x16x80x256 .bf16) (h : Fin 8)
    (b a : Fin 256) (τ : ℕ) (hτ : τ ≤ n.val) : sc (blockHead n.val X3 X4 X5 h) b τ a
      = if 256 * (blk n.val τ).val + a.val ≤ 256 * n.val + b.val then
          ∑ d : Fin 128, (X4 (ix4 0 h ⟨256 * (blk n.val τ).val + a.val, by omega⟩ d) * X3 (ix4 0 h b d) : EReal) else (⊥ : EReal) := by
  have raw : ∀ τ', (scoresOf ((blockHead n.val X3 X4 X5 h).k τ') (blockHead n.val X3 X4 X5 h).q (ix2 a b) : EReal)
      = ∑ d : Fin 128, (X4 (ix4 0 h ⟨256 * (blk n.val τ').val + a.val, by omega⟩ d) * X3 (ix4 0 h b d) : EReal) := fun τ' =>
    (scoresOf_at _ _ a b).trans (Finset.sum_congr rfl fun d _ => by rw [head_q, head_k])
  cases τ with
  | zero =>
    have eb : (blk n.val 0).val = n.val := Nat.mod_eq_of_lt n.isLt
    refine (causal_at _ a b).trans ?_
    rw [raw 0]
    exact if_congr (by rw [eb, Fin.le_def]; omega) rfl rfl
  | succ τ =>
    have eb : (blk n.val (τ + 1)).val = τ := by
      show (if τ + 1 = 0 then n.val else min (τ + 1 - 1) (n.val - 1)) % 16 = τ
      rw [if_neg (by omega)]; omega
    refine (raw (τ + 1)).trans (if_pos ?_).symm
    omega

end Cert.Proof.Attn
end
-- ==== Proof.RefRead.lean ====
module
public import proofs.«01_k».proof.Proof.Gen.ReferenceIdeal.Run
public import Idealize.ShloMosaic.Lib.Pointwise
public import Idealize.ShloMosaic.Lib.WordCmp

/-!
  The reference's result read at an index: causal softmax attention in base two, over all 4096 keys.
-/

@[expose] public section
noncomputable section
namespace Cert.Proof.Ref
open Cert.ReferenceIdeal Cert.ReferenceIdeal.Gen
open Idealize.ShloMosaic Idealize.ShloMosaic.TcCoe Idealize.ShloMosaic.WordCmp

/-- The masked scores, keys before queries. -/
def scoreT (Q K : Vec Ideal S8x8x4096x128 .bf16) : FVec Ideal S8x8x4096x4096 .f32 :=
  select (broadcastInDim S8x8x4096x4096 ![0, 1, 2, 3] bcast_S1x1x4096x4096_S8x8x4096x4096_0_1_2_3
      (broadcastInDim S1x1x4096x4096 ![2, 3] bcast_S4096x4096_S1x1x4096x4096_2_3 (cmpi .sle (iotaInDim S4096x4096 32 0) (iotaInDim S4096x4096 32 1))))
    (Host.dotGeneral dot_S8x8x4096x128_S8x8x4096x128_S8x8x4096x4096_3_3_2_2_01_01 none (extf .f32 K bitsLt_bf16_f32 : FVec Ideal S8x8x4096x128 .f32)
      (extf .f32 Q bitsLt_bf16_f32 : FVec Ideal S8x8x4096x128 .f32))
    (broadcastInDim S8x8x4096x4096 ![] bcast_S_S8x8x4096x4096 (id (constant S_ .f32 0xFF800000#32)))

/-- The largest score of each query. -/
def maxT (s : FVec Ideal S8x8x4096x4096 .f32) : FVec Ideal S8x8x4096 .f32 :=
  Host.reduce FloatOps.maximumf s (constant S_ .f32 0xFF800000#32) reducesTo_S8x8x4096x4096_S8x8x4096_d2 h_S_

/-- The weights. -/
def powT (s : FVec Ideal S8x8x4096x4096 .f32) : FVec Ideal S8x8x4096x4096 .f32 :=
  Host.powf (broadcastInDim S8x8x4096x4096 ![] bcast_S_S8x8x4096x4096 (constant S_ .f32 0x40000000#32))
    (subf s (broadcastInDim S8x8x4096x4096 ![0, 1, 2, 3] bcast_S8x8x1x4096_S8x8x4096x4096_0_1_2_3
      (broadcastInDim S8x8x1x4096 ![0, 1, 3] bcast_S8x8x4096_S8x8x1x4096_0_1_3 (maxT s))))

/-- The values, keys before rows. -/
def valT (V : Vec Ideal S8x8x16x80x256 .bf16) : FVec Ideal S8x8x4096x80 .f32 :=
  shapeCast S8x8x4096x80 (transpose S8x8x16x256x80 [0, 1, 2, 4, 3] (extf .f32 V bitsLt_bf16_f32 : FVec Ideal S8x8x16x80x256 .f32)
    transposes_S8x8x16x80x256_S8x8x16x256x80_0_1_2_4_3 : FVec Ideal S8x8x16x256x80 .f32) shapeCasts_S8x8x16x256x80_S8x8x4096x80

/-- The weighted values. -/
def numT (p : FVec Ideal S8x8x4096x4096 .f32) (v : FVec Ideal S8x8x4096x80 .f32) : FVec Ideal S8x8x4096x64 .f32 :=
  Host.dotGeneral dot_S8x8x4096x4096_S8x8x4096x64_S8x8x4096x64_2_2_3_3_01_01 none p
    (extractStridedSlice S8x8x4096x64 ![0, 0, 0, 0] v slices_S8x8x4096x80_S8x8x4096x64_0_0_0_0 : FVec Ideal S8x8x4096x64 .f32)

/-- The weighted values of row 64. -/
def denT (p : FVec Ideal S8x8x4096x4096 .f32) (v : FVec Ideal S8x8x4096x80 .f32) : FVec Ideal S8x8x4096 .f32 :=
  Host.dotGeneral dot_S8x8x4096x4096_S8x8x4096_S8x8x4096_2_2_3_n_01_01 none p
    (shapeCast S8x8x4096 (extractStridedSlice S8x8x4096x1 ![0, 0, 0, 64] v slices_S8x8x4096x80_S8x8x4096x1_0_0_0_64 : FVec Ideal S8x8x4096x1 .f32)
      shapeCasts_S8x8x4096x1_S8x8x4096 : FVec Ideal S8x8x4096 .f32)

/-- The result from the two. -/
def outT (n : FVec Ideal S8x8x4096x64 .f32) (d : FVec Ideal S8x8x4096 .f32) : Vec Ideal S8x4096x512 .bf16 :=
  truncf .bf16 (shapeCast S8x4096x512 (transpose S8x4096x8x64 [0, 2, 1, 3] (Host.divf n
    (broadcastInDim S8x8x4096x64 ![0, 1, 2, 3] bcast_S8x8x4096x1_S8x8x4096x64_0_1_2_3
      (broadcastInDim S8x8x4096x1 ![0, 1, 2] bcast_S8x8x4096_S8x8x4096x1_0_1_2 d)) : FVec Ideal S8x8x4096x64 .f32)
    transposes_S8x8x4096x64_S8x4096x8x64_0_2_1_3 : FVec Ideal S8x4096x8x64 .f32) shapeCasts_S8x4096x8x64_S8x4096x512 : FVec Ideal S8x4096x512 .f32) bitsLt_bf16_f32

/-- The generated result is these operations in order. -/
theorem res_eq (m : (ℓ : Loc nD τ sig) → Buf (Elt Ideal) ℓ) (c : Dev nD) :
    Value.res_out0 m c = outT
      (numT (powT (scoreT (m ((c.tc : Thread nD τ).loc main_arg0)) (m ((c.tc : Thread nD τ).loc main_arg1)))) (valT (m ((c.tc : Thread nD τ).loc main_arg2))))
      (denT (powT (scoreT (m ((c.tc : Thread nD τ).loc main_arg0)) (m ((c.tc : Thread nD τ).loc main_arg1)))) (valT (m ((c.tc : Thread nD τ).loc main_arg2)))) := by
  unfold Value.res_out0 Value.res_main_v27 outT numT denT powT maxT scoreT valT
  rfl

/-- The word of minus infinity. -/
theorem negInf : Ideal.ofBits .f32 4286578688#32 = ⊥ := by simp [Ideal.ofBits, Ideal.ieee]

/-- The word of two. -/
theorem two : Ideal.ofBits .f32 1073741824#32 = ((2 : ℝ) : EReal) := by
  simp [Ideal.ofBits, Ideal.ieee, -EReal.coe_mul]; try norm_num

/-- A power of two is the base-two exponential. -/
theorem pow_two (x : EReal) : Ideal.pow ((2 : ℝ) : EReal) x = Ideal.exp2 x := by
  induction x with
  | bot =>
    show (if (2 : ℝ) < 0 then (⊥ : EReal) else if (1 : ℝ) < 2 then 0 else if (2 : ℝ) = 1 then 1 else ⊤) = 0
    norm_num
  | top =>
    show (if (2 : ℝ) < 0 then (⊥ : EReal) else if (1 : ℝ) < 2 then ⊤ else if (2 : ℝ) = 1 then 1 else 0) = ⊤
    norm_num
  | coe r => rfl

/-- A score: the product of the key with the query where the key does not come after it, else minus infinity. -/
theorem scoreT_at (Q K : Vec Ideal S8x8x4096x128 .bf16) (b h : Fin 8) (k q : Fin 4096) :
    scoreT Q K (ix4 b h k q) = if k ≤ q then ∑ d : Fin 128, (K (ix4 b h k d) * Q (ix4 b h q d) : EReal) else (⊥ : EReal) := by
  pointwise [scoreT]
  rw [cmpi_sle_ofNat (by omega) (by omega), select_ofBool]
  simp only [decide_eq_true_eq, Fin.le_def]
  exact if_congr Iff.rfl rfl negInf

/-- The largest score of a query. -/
theorem maxT_at (s : FVec Ideal S8x8x4096x4096 .f32) (b h : Fin 8) (q : Fin 4096) :
    maxT s (ix3 b h q) = Finset.univ.sup fun k : Fin 4096 => (s (ix4 b h k q) : EReal) := by
  pointwise [maxT]
  rw [negInf]
  rfl

/-- A weight: two to the score less the query's largest. -/
theorem powT_at (s : FVec Ideal S8x8x4096x4096 .f32) (b h : Fin 8) (k q : Fin 4096) :
    powT s (ix4 b h k q) = Ideal.exp2 ((s (ix4 b h k q) : EReal) - maxT s (ix3 b h q)) := by
  pointwise [powT]
  rw [two, pow_two]

/-- Key `256 j + a` is key `a` of block `j`. -/
theorem valT_at (V : Vec Ideal S8x8x16x80x256 .bf16) (b h : Fin 8) (j : Fin 16) (a : Fin 256) (d : Fin 80) (hk : 256 * j.val + a.val < 4096) :
    valT V (ix4 b h ⟨256 * j.val + a.val, hk⟩ d) = V (ix5 b h j d a) := by
  pointwise [valT]

/-- The weighted sum of a value row. -/
theorem numT_at (p : FVec Ideal S8x8x4096x4096 .f32) (v : FVec Ideal S8x8x4096x80 .f32) (b h : Fin 8) (q : Fin 4096) (d : Fin 64) :
    numT p v (ix4 b h q d) = ∑ k : Fin 4096, (p (ix4 b h k q) * v (ix4 b h k ⟨d.val, by omega⟩) : EReal) := by
  pointwise [numT]

/-- The weighted sum of row 64. -/
theorem denT_at (p : FVec Ideal S8x8x4096x4096 .f32) (v : FVec Ideal S8x8x4096x80 .f32) (b h : Fin 8) (q : Fin 4096) :
    denT p v (ix3 b h q) = ∑ k : Fin 4096, (p (ix4 b h k q) * v (ix4 b h k 64) : EReal) := by
  pointwise [denT]

/-- A result element: its head's quotient. -/
theorem outT_at (n : FVec Ideal S8x8x4096x64 .f32) (d : FVec Ideal S8x8x4096 .f32) (b : Fin 8) (q : Fin 4096) (j : Fin 512) :
    outT n d (ix3 b q j) = Ideal.div (n (ix4 b ⟨j.val / 64, by omega⟩ q ⟨j.val % 64, by omega⟩)) (d (ix3 b ⟨j.val / 64, by omega⟩ q)) := by
  pointwise [outT]

end Cert.Proof.Ref
end
-- ==== Proof.Value.lean ====
module
public import proofs.«01_k».proof.Proof.Read
public import proofs.«01_k».proof.Proof.RefRead
public import Idealize.ShloMosaic.Lib.Pipeline.ValueKit

/-!
  The array the kernel leaves is the reference's result: block by block, element by element.
-/

@[expose] public section
set_option maxRecDepth 16384
noncomputable section
namespace Cert.Proof.Attn
open Cert.KernelIdeal Cert.KernelIdeal.Gen
open Idealize.ShloMosaic Idealize.ShloMosaic.TcCoe Idealize.SL.Sem
open Idealize.ShloMosaic.Pipeline (Dat)

/-! ## All keys as blocks of keys -/

/-- A sum over all keys, block by block. -/
theorem sum_blocks (f : Fin 4096 → EReal) : ∑ k, f k = ∑ j : Fin 16, ∑ a : Fin 256, f ⟨256 * j.val + a.val, by omega⟩ := by
  rw [← Fintype.sum_prod_type' (f := fun (j : Fin 16) (a : Fin 256) => f ⟨256 * j.val + a.val, by omega⟩)]
  refine (Fintype.sum_equiv (finProdFinEquiv (m := 16) (n := 256)) _ _ fun p => congrArg f (Fin.ext ?_)).symm
  show 256 * p.1.val + p.2.val = p.2.val + 256 * p.1.val
  omega

/-- A largest over all keys, block by block. -/
theorem sup_blocks (f : Fin 4096 → EReal) :
    Finset.univ.sup f = Finset.univ.sup fun j : Fin 16 => Finset.univ.sup fun a : Fin 256 => f ⟨256 * j.val + a.val, by omega⟩ := by
  apply le_antisymm
  · refine Finset.sup_le fun k _ => ?_
    have e : k = ⟨256 * (⟨k.val / 256, by omega⟩ : Fin 16).val + (⟨k.val % 256, by omega⟩ : Fin 256).val, by
      show 256 * (k.val / 256) + k.val % 256 < 4096; omega⟩ := Fin.ext (by show k.val = 256 * (k.val / 256) + k.val % 256; omega)
    refine (congrArg f e).le.trans ?_
    exact (Finset.le_sup (f := fun a : Fin 256 => f ⟨256 * (⟨k.val / 256, by omega⟩ : Fin 16).val + a.val, by
        show 256 * (k.val / 256) + a.val < 4096; omega⟩) (Finset.mem_univ _)).trans
      (Finset.le_sup (f := fun j : Fin 16 => Finset.univ.sup fun a : Fin 256 => f ⟨256 * j.val + a.val, by omega⟩) (Finset.mem_univ _))
  · exact Finset.sup_le fun j _ => Finset.sup_le fun a _ => Finset.le_sup (Finset.mem_univ _)

/-! ## The reference over blocks of keys -/

section
variable (Q K : Vec Ideal S8x8x4096x128 .bf16) (V : Vec Ideal S8x8x16x80x256 .bf16)

/-- The reference's result from the kernel's arguments. -/
def refOut : Vec Ideal S8x4096x512 .bf16 :=
  Ref.outT (Ref.numT (Ref.powT (Ref.scoreT Q K)) (Ref.valT V)) (Ref.denT (Ref.powT (Ref.scoreT Q K)) (Ref.valT V))

/-- The score of key `a` of block `j` for a query. -/
def S (b h : Fin 8) (q : Fin 4096) (j : Fin 16) (a : Fin 256) : EReal :=
  if 256 * j.val + a.val ≤ q.val then ∑ d : Fin 128, (K (ix4 b h ⟨256 * j.val + a.val, by omega⟩ d) * Q (ix4 b h q d) : EReal) else ⊥

/-- The weighted values of row `d`. -/
def W (b h : Fin 8) (q : Fin 4096) (d : Fin 80) : EReal :=
  ∑ j : Fin 16, ∑ a : Fin 256, (V (ix5 b h j d a) : EReal) * Ideal.exp2 (S Q K b h q j a - Finset.univ.sup fun j => Finset.univ.sup (S Q K b h q j))

/-- The reference's score by block. -/
theorem score_block (b h : Fin 8) (q : Fin 4096) (j : Fin 16) (a : Fin 256) :
    (Ref.scoreT Q K (ix4 b h ⟨256 * j.val + a.val, by omega⟩ q) : EReal) = S Q K b h q j a := Ref.scoreT_at Q K b h _ q

/-- The reference's weight by block. -/
theorem pow_block (b h : Fin 8) (q : Fin 4096) (j : Fin 16) (a : Fin 256) :
    (Ref.powT (Ref.scoreT Q K) (ix4 b h ⟨256 * j.val + a.val, by omega⟩ q) : EReal)
      = Ideal.exp2 (S Q K b h q j a - Finset.univ.sup fun j => Finset.univ.sup (S Q K b h q j)) := by
  refine (Ref.powT_at _ b h _ q).trans ?_
  rw [score_block, Ref.maxT_at, sup_blocks]
  simp only [score_block]

/-- The reference's weighted sum of a value row. -/
theorem weighted (b h : Fin 8) (q : Fin 4096) (d : Fin 80) :
    ∑ k : Fin 4096, (Ref.powT (Ref.scoreT Q K) (ix4 b h k q) * Ref.valT V (ix4 b h k d) : EReal) = W Q K V b h q d := by
  rw [sum_blocks]
  refine Finset.sum_congr rfl fun j _ => Finset.sum_congr rfl fun a _ => ?_
  rw [pow_block, Ref.valT_at, mul_comm]

/-- The reference's result at an element. -/
theorem refOut_at (b : Fin 8) (q : Fin 4096) (j : Fin 512) :
    refOut Q K V (ix3 b q j) = Ideal.div (W Q K V b ⟨j.val / 64, by omega⟩ q ⟨j.val % 64, by omega⟩) (W Q K V b ⟨j.val / 64, by omega⟩ q 64) := by
  refine (Ref.outT_at _ _ b q j).trans ?_
  rw [← weighted, ← weighted]
  exact congrArg₂ Ideal.div (Ref.numT_at _ _ b ⟨j.val / 64, by omega⟩ q ⟨j.val % 64, by omega⟩) (Ref.denT_at _ _ b ⟨j.val / 64, by omega⟩ q)

/-- A head of query block `n` ends with the reference's weighted values. -/
theorem head_acc (b h : Fin 8) (n : Fin 16) (X3 : Vec Ideal S1x8x256x128 .bf16) (X4 : Vec Ideal S1x8x4096x128 .bf16) (X5 : Vec Ideal S1x8x16x80x256 .bf16)
    (e3 : ∀ (q : Fin 256) d, X3 (ix4 0 h q d) = Q (ix4 b h ⟨256 * n.val + q.val, by omega⟩ d)) (e4 : ∀ k d, X4 (ix4 0 h k d) = K (ix4 b h k d))
    (e5 : ∀ j d a, X5 (ix5 0 h j d a) = V (ix5 b h j d a)) (q : Fin 256) (d : Fin 80) :
    ((blockHead n.val X3 X4 X5 h).acc (n.val + 1) (ix3 0 d q) : EReal) = W Q K V b h ⟨256 * n.val + q.val, by omega⟩ d := by
  refine acc_blocks _ n d q (S Q K b h ⟨256 * n.val + q.val, by omega⟩) (fun j a => V (ix5 b h j d a)) (fun τ hτ a => ?_) (fun τ a => ?_) fun j hj a => ?_
  · rw [sc_head n X3 X4 X5 h q a τ hτ]
    simp only [e3, e4]
    rfl
  · exact (head_v n.val X3 X4 X5 h τ d a).trans (e5 _ _ _)
  · refine if_neg ?_
    show ¬ 256 * j.val + a.val ≤ 256 * n.val + q.val
    have : n.val < j.val := hj
    omega

end

/-! ## The array -/

variable (m : (ℓ : Loc nD τ sig) → Buf (Elt Ideal) ℓ)

/-- The windows' blocks: one batch entry, and of the queries and the result one block of 256 rows. -/
theorem idx : ∀ t : Fin cfg0.N, win0_0.index t = ![(grid0.coords t 0).val, 0, (grid0.coords t 2).val, 0]
    ∧ win0_1.index t = ![(grid0.coords t 0).val, 0, 0, 0] ∧ win0_2.index t = ![(grid0.coords t 0).val, 0, 0, 0, 0]
    ∧ win0_3.index t = ![(grid0.coords t 0).val, (grid0.coords t 2).val, 0] :=
  (by decide +kernel : ∀ t : Fin grid0.N, _)

/-- What the program of grid point `t` leaves at an element of its block is the reference's element there. -/
theorem point (c : Dev nD) (t : Fin cfg0.N) (q : Fin 256) (j : Fin 512) :
    outAt m c t (ix3 0 q j) = refOut (m ((c : Thread nD τ).loc main_arg0)) (m ((c : Thread nD τ).loc main_arg1)) (m ((c : Thread nD τ).loc main_arg2))
      (ix3 (⟨(grid0.coords t 0).val, (grid0.coords t 0).isLt⟩ : Fin 8)
        (⟨256 * (grid0.coords t 2).val + q.val, by have h : (grid0.coords t 2).val < 16 := (grid0.coords t 2).isLt; omega⟩ : Fin 4096) j) := by
  refine (outOf_at (grid0.coords t 2).val _ _ _ q j).trans ((refOut_at _ _ _ _ _ j).trans ?_).symm
  have hacc : ∀ (h : Fin 8) (d : Fin 80), _ := fun h d => head_acc (m ((c : Thread nD τ).loc main_arg0)) (m ((c : Thread nD τ).loc main_arg1))
    (m ((c : Thread nD τ).loc main_arg2)) (⟨(grid0.coords t 0).val, (grid0.coords t 0).isLt⟩ : Fin 8) h
    (⟨(grid0.coords t 2).val, (grid0.coords t 2).isLt⟩ : Fin 16) (iblk m c 0 t) (iblk m c 1 t) (iblk m c 2 t)
    (fun q d => by blk_ext [iblk, V, idx t]) (fun k d => by blk_ext [iblk, V, idx t]) (fun j d a => by blk_ext [iblk, V, idx t]) q d
  exact (congrArg₂ Ideal.div (hacc _ _) (hacc _ _)).symm

/-- The kernel's result array is the reference's. -/
theorem final (c : Dev nD) : (dats m 0 c).arrAt 3 cfg0.N
    = refOut (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  show outAt m c t y = _
  have ey : y = ix3 (0 : Fin 1) (y 1) (y 2) := by blk_ext [idx t]
  refine (congrArg (outAt m c t) ey).trans ((point m c t (y 1) (y 2)).trans (congrArg _ ?_))
  blk_ext [idx t]

end Cert.Proof.Attn
end
-- ==== Proof.Rows.lean ====
module
public import Idealize.ShloMosaic.Lib.Pointwise

/-!
  Rows of the layer's activations: their numbering, and the root-mean-square norm of one.
-/

@[expose] public section
noncomputable section
namespace Cert.Proof.Rows
open Idealize.ShloMosaic Idealize.ShloMosaic.TcCoe

/-- Position `s` of sequence `b`, among all positions. -/
abbrev tok (b : Fin 8) (s : Fin 4096) : Fin 32768 := ⟨b.val * 4096 + s.val, by omega⟩

/-- Entry `n` of a row divided by the root of the mean of its squares (and a small constant), times a gain. -/
def rms (x : Fin 1024 → EReal) (g : EReal) (n : Fin 1024) : EReal :=
  x n * Ideal.rsqrt (Ideal.div (∑ k : Fin 1024, x k * x k) (Ideal.ofBits .f32 1149239296#32) + Ideal.ofBits .f32 897988541#32) * g

end Cert.Proof.Rows
end
-- ==== Proof.FfnRef.lean ====
module
public import proofs.«01_k».proof.Proof.Gen.Reference2Ideal.Run
public import proofs.«01_k».proof.Proof.Rows

/-!
  The feed-forward reference's result read at an index: the gated up-projection, its first half convolved causally over three
  positions and put through gelu, and the down-projection.
-/

@[expose] public section
noncomputable section
namespace Cert.Proof.FfnRef
open Cert.Reference2Ideal Cert.Reference2Ideal.Gen
open Idealize.ShloMosaic Idealize.ShloMosaic.TcCoe
open Cert.Proof.Rows (tok)

/-- The up-projection. -/
def upT (H : Vec Ideal S32768x1024 .bf16) (W : FVec Ideal S1024x5632 .f32) : FVec Ideal S8x4096x5632 .f32 :=
  Host.dotGeneral dot_S8x4096x1024_S1024x5632_S8x4096x5632_2_0_01_1_n_n none
    (shapeCast S8x4096x1024 (extf .f32 H bitsLt_bf16_f32 : FVec Ideal S32768x1024 .f32) shapeCasts_S32768x1024_S8x4096x1024) W

/-- Its first half, with two rows of zeros before each sequence. -/
def padT (u : FVec Ideal S8x4096x5632 .f32) : FVec Ideal S8x4098x2816 .f32 :=
  pad S8x4098x2816 ![0, 2, 0] ![0, 0, 0] ![0, 0, 0] (extractStridedSlice S8x4096x2816 ![0, 0, 0] u slices_S8x4096x5632_S8x4096x2816_0_0_0 : FVec Ideal S8x4096x2816 .f32)
    (sitofp .f32 (constantI S_ 32 0#32) : FVec Ideal S_ .f32) pads_S8x4096x2816_S8x4098x2816_000_200_000 h_S_

/-- A row vector over all positions. -/
def rowT (r : FVec Ideal S2816 .f32) : FVec Ideal S8x4096x2816 .f32 :=
  broadcastInDim S8x4096x2816 ![0, 1, 2] bcast_S1x1x2816_S8x4096x2816_0_1_2 (broadcastInDim S1x1x2816 ![2] bcast_S2816_S1x1x2816_2 r)

/-- The convolution. -/
def convT (a : FVec Ideal S8x4098x2816 .f32) (C : FVec Ideal S3x2816 .f32) (B : FVec Ideal S2816 .f32) : FVec Ideal S8x4096x2816 .f32 :=
  addf (addf (addf
      (mulf (extractStridedSlice S8x4096x2816 ![0, 0, 0] a slices_S8x4098x2816_S8x4096x2816_0_0_0)
        (rowT (shapeCast S2816 (extractStridedSlice S1x2816 ![0, 0] C slices_S3x2816_S1x2816_0_0 : FVec Ideal S1x2816 .f32) shapeCasts_S1x2816_S2816)))
      (mulf (extractStridedSlice S8x4096x2816 ![0, 1, 0] a slices_S8x4098x2816_S8x4096x2816_0_1_0)
        (rowT (shapeCast S2816 (extractStridedSlice S1x2816 ![1, 0] C slices_S3x2816_S1x2816_1_0 : FVec Ideal S1x2816 .f32) shapeCasts_S1x2816_S2816))))
      (mulf (extractStridedSlice S8x4096x2816 ![0, 2, 0] a slices_S8x4098x2816_S8x4096x2816_0_2_0)
        (rowT (shapeCast S2816 (extractStridedSlice S1x2816 ![2, 0] C slices_S3x2816_S1x2816_2_0 : FVec Ideal S1x2816 .f32) shapeCasts_S1x2816_S2816))))
    (rowT B)

/-- The hidden layer: gelu of the convolution, times the second half of the up-projection. -/
def actT (a : FVec Ideal S8x4096x2816 .f32) (u : FVec Ideal S8x4096x5632 .f32) : FVec Ideal S8x4096x2816 .f32 :=
  mulf (mulf (mulf (broadcastInDim S8x4096x2816 ![] bcast_S_S8x4096x2816 (constant S_ .f32 0x3F000000#32)) a)
      (addf (broadcastInDim S8x4096x2816 ![] bcast_S_S8x4096x2816 (constant S_ .f32 0x3F800000#32))
        (Host.erf (Host.divf a (broadcastInDim S8x4096x2816 ![] bcast_S_S8x4096x2816 (id (Host.sqrt (constant S_ .f32 0x40000000#32))))))))
    (extractStridedSlice S8x4096x2816 ![0, 0, 2816] u slices_S8x4096x5632_S8x4096x2816_0_0_2816)

/-- The result. -/
def outT (X : FVec Ideal S32768x1024 .f32) (p : FVec Ideal S8x4096x2816 .f32) (D : FVec Ideal S2816x1024 .f32) : FVec Ideal S32768x1024 .f32 :=
  addf X (shapeCast S32768x1024 (Host.dotGeneral dot_S8x4096x2816_S2816x1024_S8x4096x1024_2_0_01_1_n_n none p D : FVec Ideal S8x4096x1024 .f32)
    shapeCasts_S8x4096x1024_S32768x1024)

/-- The reference's result as a function of its arguments. -/
def refOut (H : Vec Ideal S32768x1024 .bf16) (X : FVec Ideal S32768x1024 .f32) (W : FVec Ideal S1024x5632 .f32)
    (C : FVec Ideal S3x2816 .f32) (B : FVec Ideal S2816 .f32) (D : FVec Ideal S2816x1024 .f32) : FVec Ideal S32768x1024 .f32 :=
  outT X (actT (convT (padT (upT H W)) C B) (upT H W)) D

/-- The generated result is these operations in order. -/
theorem res_eq (m : (ℓ : Loc nD τ sig) → Buf (Elt Ideal) ℓ) (c : Dev nD) :
    Value.res_out0 m c = refOut (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) := by
  unfold Value.res_out0 Value.res_main_v42 refOut outT actT convT rowT padT upT
  rfl

/-- Column `f` of the up-projection, `δ` positions before `s`: zero before the sequence's start. -/
def pre (H : Vec Ideal S32768x1024 .bf16) (W : FVec Ideal S1024x5632 .f32) (b : Fin 8) (s : Fin 4096) (δ : ℕ) (f : Fin 5632) : EReal :=
  if δ ≤ s.val then ∑ d : Fin 1024, (H (ix2 (tok b (⟨s.val - δ, by omega⟩ : Fin 4096)) d) * W (ix2 d f) : EReal) else 0

/-- The first half's columns among all. -/
abbrev lo (f : Fin 2816) : Fin 5632 := ⟨f.val, by omega⟩

/-- The second half's columns among all. -/
abbrev hi (f : Fin 2816) : Fin 5632 := ⟨2816 + f.val, by omega⟩

/-- The convolution at a position. -/
def conv (H : Vec Ideal S32768x1024 .bf16) (W : FVec Ideal S1024x5632 .f32) (C : FVec Ideal S3x2816 .f32) (B : FVec Ideal S2816 .f32)
    (b : Fin 8) (s : Fin 4096) (f : Fin 2816) : EReal :=
  pre H W b s 0 (lo f) * C (ix2 2 f) + pre H W b s 1 (lo f) * C (ix2 1 f) + pre H W b s 2 (lo f) * C (ix2 0 f) + B (ix1 f)

/-- `gelu`: half of `x` times one plus the error function of `x / √2`. -/
def gelu (x : EReal) : EReal :=
  Ideal.ofBits .f32 1056964608#32 * x * (1 + Ideal.erf (x * (((Real.sqrt 2)⁻¹ : ℝ) : EReal)))

/-- The hidden layer at a position. -/
def hid (H : Vec Ideal S32768x1024 .bf16) (W : FVec Ideal S1024x5632 .f32) (C : FVec Ideal S3x2816 .f32) (B : FVec Ideal S2816 .f32)
    (b : Fin 8) (s : Fin 4096) (f : Fin 2816) : EReal :=
  gelu (conv H W C B b s f) * pre H W b s 0 (hi f)

/-- An element of the up-projection. -/
theorem upT_at (H : Vec Ideal S32768x1024 .bf16) (W : FVec Ideal S1024x5632 .f32) (b : Fin 8) (s : Fin 4096) (f : Fin 5632) :
    upT H W (ix3 b s f) = ∑ d : Fin 1024, (H (ix2 (tok b s) d) * W (ix2 d f) : EReal) := by
  pointwise [upT]

/-- The padded half: two rows of zeros, then the rows themselves. -/
theorem padT_at (u : FVec Ideal S8x4096x5632 .f32) (b : Fin 8) (s : Fin 4098) (f : Fin 2816) :
    padT u (ix3 b s f) = if h : 2 ≤ s.val then u (ix3 b (⟨s.val - 2, by omega⟩ : Fin 4096) (lo f)) else (0 : EReal) := by
  pointwise [padT]
  by_cases h : 2 ≤ s.val
  · rw [dif_pos ⟨h, by omega⟩, dif_pos h]
  · rw [dif_neg (fun h' => h h'.1), dif_neg h]
    show (((0#32 : BitVec 32).toInt : ℝ) : EReal) = 0
    simp

/-- The padded up-projection, `2 - δ` rows on. -/
theorem pad_up (H : Vec Ideal S32768x1024 .bf16) (W : FVec Ideal S1024x5632 .f32) (b : Fin 8) (s : Fin 4096) (f : Fin 2816)
    (δ k : ℕ) (hδ : k + δ = 2) (h : k + s.val < 4098) :
    padT (upT H W) (ix3 b (⟨k + s.val, h⟩ : Fin 4098) f) = pre H W b s δ (lo f) := by
  rw [padT_at, pre]
  by_cases h' : δ ≤ s.val
  · rw [dif_pos (by show 2 ≤ k + s.val; omega), if_pos h', upT_at]
    refine Finset.sum_congr rfl fun d _ => ?_
    have e : (⟨k + s.val - 2, by omega⟩ : Fin 4096) = ⟨s.val - δ, by omega⟩ := Fin.ext (by show k + s.val - 2 = s.val - δ; omega)
    exact congrArg (fun i => (H (ix2 (tok b i) d) * W (ix2 d (lo f)) : EReal)) e
  · rw [dif_neg (by show ¬ 2 ≤ k + s.val; omega), if_neg h']

/-- The convolution of padded rows. -/
theorem convT_at (a : FVec Ideal S8x4098x2816 .f32) (C : FVec Ideal S3x2816 .f32) (B : FVec Ideal S2816 .f32) (b : Fin 8) (s : Fin 4096) (f : Fin 2816) :
    convT a C B (ix3 b s f) = (a (ix3 b (⟨s.val, by omega⟩ : Fin 4098) f) * C (ix2 0 f)
      + a (ix3 b (⟨1 + s.val, by omega⟩ : Fin 4098) f) * C (ix2 1 f) + a (ix3 b (⟨2 + s.val, by omega⟩ : Fin 4098) f) * C (ix2 2 f) + B (ix1 f) : EReal) := by
  pointwise [convT, rowT]

/-- The reference's convolution at a position. -/
theorem conv_at (H : Vec Ideal S32768x1024 .bf16) (W : FVec Ideal S1024x5632 .f32) (C : FVec Ideal S3x2816 .f32) (B : FVec Ideal S2816 .f32)
    (b : Fin 8) (s : Fin 4096) (f : Fin 2816) : convT (padT (upT H W)) C B (ix3 b s f) = conv H W C B b s f := by
  have e2 := pad_up H W b s f 2 0 rfl (by omega)
  have e0 : (⟨0 + s.val, by omega⟩ : Fin 4098) = ⟨s.val, by omega⟩ := Fin.ext (Nat.zero_add _)
  rw [e0] at e2
  rw [convT_at, e2, pad_up H W b s f 1 1 rfl (by omega), pad_up H W b s f 0 2 rfl (by omega), conv]
  congr 1
  rw [add_comm (pre H W b s 2 (lo f) * _ : EReal), add_comm (_ + _ : EReal), ← add_assoc]

/-- The square root of two. -/
theorem root : (id (Host.sqrt (constant S_ FTy.f32 1073741824#32)) : FVec Ideal S_ .f32) ix0 = ((Real.sqrt 2 : ℝ) : EReal) := by
  show Ideal.sqrt (Ideal.ofBits .f32 1073741824#32) = _
  have h : Ideal.ofBits .f32 1073741824#32 = ((2 : ℝ) : EReal) := by
    simp [Ideal.ofBits, Ideal.ieee, -EReal.coe_mul]; try norm_num
  rw [h, Ideal.sqrt_coe, if_neg (by norm_num)]

/-- An element of the hidden layer. -/
theorem actT_at (a : FVec Ideal S8x4096x2816 .f32) (u : FVec Ideal S8x4096x5632 .f32) (b : Fin 8) (s : Fin 4096) (f : Fin 2816) :
    actT a u (ix3 b s f) = (gelu (a (ix3 b s f)) * u (ix3 b s (hi f)) : EReal) := by
  pointwise [actT]
  rw [root, Ideal.div_coe (by positivity), one_div, gelu]

/-- An element of the result. -/
theorem outT_at (X : FVec Ideal S32768x1024 .f32) (p : FVec Ideal S8x4096x2816 .f32) (D : FVec Ideal S2816x1024 .f32) (b : Fin 8) (s : Fin 4096) (n : Fin 1024) :
    outT X p D (ix2 (tok b s) n) = (X (ix2 (tok b s) n) + ∑ f : Fin 2816, p (ix3 b s f) * D (ix2 f n) : EReal) := by
  have hb : (b.val * 4096 + s.val) / 4096 = b.val := by omega
  have hs : (b.val * 4096 + s.val) % 4096 = s.val := by omega
  pointwise [outT]
  simp only [hb, hs]

/-- The reference's result at a position. -/
theorem refOut_at (H : Vec Ideal S32768x1024 .bf16) (X : FVec Ideal S32768x1024 .f32) (W : FVec Ideal S1024x5632 .f32)
    (C : FVec Ideal S3x2816 .f32) (B : FVec Ideal S2816 .f32) (D : FVec Ideal S2816x1024 .f32) (b : Fin 8) (s : Fin 4096) (n : Fin 1024) :
    refOut H X W C B D (ix2 (tok b s) n) = (X (ix2 (tok b s) n) + ∑ f : Fin 2816, hid H W C B b s f * D (ix2 f n) : EReal) := by
  rw [refOut, outT_at]
  refine congrArg _ (Finset.sum_congr rfl fun f _ => ?_)
  rw [actT_at, conv_at, upT_at, hid]
  rfl

end Cert.Proof.FfnRef
end
-- ==== Proof.FfnBlock.lean ====
module
public import proofs.«01_k».proof.Proof.Gen.Kernel2Ideal.Value
public import proofs.«01_k».proof.Proof.FfnRef
public import Idealize.ShloMosaic.Lib.Pointwise
public import Idealize.ShloMosaic.Lib.Pipeline.ValueKit
public import Idealize.ShloMosaic.Lib.WordCmp

/-!
  What the feed-forward kernel computes in one block of 512 positions: the four groups of hidden columns, each read at an index.
-/

@[expose] public section
set_option maxRecDepth 16384
noncomputable section
namespace Cert.Proof.Ffn
open Cert.Kernel2Ideal Cert.Kernel2Ideal.Gen
open Idealize.ShloMosaic Idealize.ShloMosaic.TcCoe Idealize.ShloMosaic.WordCmp
open Cert.Proof.FfnRef (gelu)

/-- The named constant. -/
theorem named_root : Named.named (F := Ideal) (φ := .f32) κ "half_sqrt" 0x3F3504F3#32 = (((Real.sqrt 2)⁻¹ : ℝ) : EReal) := rfl

/-- The test of the kernel for a sequence's first block. -/
theorem first_word : ∀ g : Fin 64, Scalar.cmpi CmpIPredicate.eq
    (Scalar.select
      (Scalar.andi
        (Scalar.xori
          (Scalar.cmpi CmpIPredicate.slt
            (Scalar.remsi (BitVec.ofNat 32 g.val) (Scalar.select (Scalar.cmpi CmpIPredicate.eq 8#32 0#32) 1#32 8#32)) 0#32)
          (Scalar.cmpi CmpIPredicate.slt (Scalar.select (Scalar.cmpi CmpIPredicate.eq 8#32 0#32) 1#32 8#32) 0#32))
        (Scalar.cmpi CmpIPredicate.ne
          (Scalar.remsi (BitVec.ofNat 32 g.val) (Scalar.select (Scalar.cmpi CmpIPredicate.eq 8#32 0#32) 1#32 8#32)) 0#32))
      (Scalar.addi
        (Scalar.remsi (BitVec.ofNat 32 g.val) (Scalar.select (Scalar.cmpi CmpIPredicate.eq 8#32 0#32) 1#32 8#32))
        (Scalar.select (Scalar.cmpi CmpIPredicate.eq 8#32 0#32) 1#32 8#32))
      (Scalar.remsi (BitVec.ofNat 32 g.val) (Scalar.select (Scalar.cmpi CmpIPredicate.eq 8#32 0#32) 1#32 8#32)))
    0#32 = BitVec.ofBool (decide (g.val % 8 = 0)) := by
  decide +kernel

/-- Row `a` of the block and the 16 rows before it, which are zero at a sequence's start. -/
def ext (g : Fin 64) (x0 : Vec Ideal S512x1024 .bf16) (x1 : Vec Ideal S16x1024 .bf16) (a : Fin 528) (d : Fin 1024) : EReal :=
  if h : a.val < 16 then (if g.val % 8 = 0 then 0 else x1 (ix2 (⟨a.val, h⟩ : Fin 16) d)) else x0 (ix2 (⟨a.val - 16, by omega⟩ : Fin 512) d)

/-- The kernel's rows are those. -/
theorem ext_at (i : grid0.Coords) (x0 : Vec Ideal S512x1024 .bf16) (x1 : Vec Ideal S16x1024 .bf16) (a : Fin 528) (d : Fin 1024) :
    k0_pay2 i x0 x1 (ix2 a d) = ext (i 0) x0 x1 a d := by
  pointwise [k0_pay2]
  unfold ext
  refine dite_congr rfl (fun h => ?_) (fun h => rfl)
  refine (congrArg (fun c => Scalar.select c (0 : EReal) _) (first_word (i 0))).trans ?_
  rw [select_ofBool]
  simp only [decide_eq_true_eq]

/-- A load from a matrix at an offset. -/
theorem ld_at {A B a b : ℕ} {e : EltTy} (x : Vec Ideal ⟨2, ![A, B]⟩ e) (o p : ℕ) (inb) (i : Fin a) (j : Fin b) (h : o + i.val < A) (h' : p + j.val < B) :
    View.ld x (Rect.unit (s := (⟨2, ![A, B]⟩ : Shape)) ![o, p] ![a, b] inb) (ix2 i j) = x (ix2 (⟨o + i.val, h⟩ : Fin A) (⟨p + j.val, h'⟩ : Fin B)) :=
  View.ld_unit_apply_of _ _ _ _ _ _ (fun k => by fin_cases k <;> rfl)

/-- The first group's sum. -/
theorem pay8_at (v16 : Vec Ideal S512x1024 .f32) (v19 : FVec Ideal S528x768 .f32) (v22 : FVec Ideal S512x768 .f32) (v29 : FVec Ideal S512x768 .f32) (v30 : Vec Ideal S1x768 .f32) (v34 : Vec Ideal S1x768 .f32) (v39 : Vec Ideal S1x768 .f32) (v43 : Vec Ideal S1x768 .f32) (v57 : Vec Ideal S768x1024 .bf16)
    (r : Fin 512) (n : Fin 1024) : k0_pay8 v16 v19 v22 v29 v30 v34 v39 v43 v57 (ix2 r n)
      = (v16 (ix2 r n) + ∑ k : Fin 768, gelu (v29 (ix2 r k) * v30 (ix2 0 k) + v19 (ix2 (⟨15 + r.val, by omega⟩ : Fin 528) k) * v34 (ix2 0 k)
          + v19 (ix2 (⟨14 + r.val, by omega⟩ : Fin 528) k) * v39 (ix2 0 k) + v43 (ix2 0 k)) * v22 (ix2 r k) * v57 (ix2 k n) : EReal) := by
  pointwise [k0_pay8]
  rfl

/-- The second group's sum. -/
theorem pay12_at (v25 : FVec Ideal S528x768 .f32) (v28 : FVec Ideal S512x768 .f32) (v60 : FVec Ideal S512x1024 .f32) (v70 : FVec Ideal S512x768 .f32) (v72 : Vec Ideal S1x768 .f32) (v77 : Vec Ideal S1x768 .f32) (v81 : Vec Ideal S1x768 .f32) (v95 : Vec Ideal S768x1024 .bf16)
    (r : Fin 512) (n : Fin 1024) : k0_pay12 v25 v28 v60 v70 v72 v77 v81 v95 (ix2 r n)
      = (v60 (ix2 r n) + ∑ k : Fin 768, gelu (v70 (ix2 r k) + v25 (ix2 (⟨15 + r.val, by omega⟩ : Fin 528) k) * v72 (ix2 0 k)
          + v25 (ix2 (⟨14 + r.val, by omega⟩ : Fin 528) k) * v77 (ix2 0 k) + v81 (ix2 0 k)) * v28 (ix2 r k) * v95 (ix2 k n) : EReal) := by
  pointwise [k0_pay12]
  rfl

/-- The third group's sum. -/
theorem pay17_at (v63 : FVec Ideal S528x768 .f32) (v66 : FVec Ideal S512x768 .f32) (v98 : FVec Ideal S512x1024 .f32) (v108 : FVec Ideal S512x768 .f32) (v109 : FVec Ideal S512x768 .f32) (v110 : Vec Ideal S1x768 .f32) (v115 : Vec Ideal S1x768 .f32) (v119 : Vec Ideal S1x768 .f32) (v133 : Vec Ideal S768x1024 .bf16)
    (r : Fin 512) (n : Fin 1024) : k0_pay17 v63 v66 v98 v108 v109 v110 v115 v119 v133 (ix2 r n)
      = (v98 (ix2 r n) + ∑ k : Fin 768, gelu (v108 (ix2 r k) + v109 (ix2 r k) * v110 (ix2 0 k)
          + v63 (ix2 (⟨14 + r.val, by omega⟩ : Fin 528) k) * v115 (ix2 0 k) + v119 (ix2 0 k)) * v66 (ix2 r k) * v133 (ix2 k n) : EReal) := by
  pointwise [k0_pay17]
  rfl

/-- The fourth group's sum. -/
theorem pay1_at (v104 : FVec Ideal S512x512 .f32) (v136 : FVec Ideal S512x1024 .f32) (v150 : FVec Ideal S512x512 .f32) (v151 : Vec Ideal S1x512 .f32) (v165 : Vec Ideal S512x1024 .bf16)
    (r : Fin 512) (n : Fin 1024) : k0_pay1 v104 v136 v150 v151 v165 (ix2 r n)
      = (v136 (ix2 r n) + ∑ k : Fin 512, gelu (v150 (ix2 r k) + v151 (ix2 0 k)) * v104 (ix2 r k) * v165 (ix2 k n) : EReal) := by
  pointwise [k0_pay1]
  rfl

/-- The up-projection of the extended rows, a group's first half (the first group). -/
theorem pay3_at (i : grid0.Coords) (x0 : Vec Ideal S512x1024 .bf16) (x1 : Vec Ideal S16x1024 .bf16) (w : Vec Ideal S1024x768 .bf16) (a : Fin 528) (k : Fin 768) :
    k0_pay3 i x0 x1 w (ix2 a k) = (∑ d : Fin 1024, ext (i 0) x0 x1 a d * w (ix2 d k) : EReal) := by
  pointwise [k0_pay3]
  simp only [ext_at]

/-- The same of the second group. -/
theorem pay5_at (i : grid0.Coords) (x0 : Vec Ideal S512x1024 .bf16) (x1 : Vec Ideal S16x1024 .bf16) (w : Vec Ideal S1024x768 .bf16) (a : Fin 528) (k : Fin 768) :
    k0_pay5 i x0 x1 w (ix2 a k) = (∑ d : Fin 1024, ext (i 0) x0 x1 a d * w (ix2 d k) : EReal) := by
  pointwise [k0_pay5]
  simp only [ext_at]

/-- The same of the third group. -/
theorem pay9_at (i : grid0.Coords) (x0 : Vec Ideal S512x1024 .bf16) (x1 : Vec Ideal S16x1024 .bf16) (w : Vec Ideal S1024x768 .bf16) (a : Fin 528) (k : Fin 768) :
    k0_pay9 (k0_pay2 i x0 x1) w (ix2 a k) = (∑ d : Fin 1024, ext (i 0) x0 x1 a d * w (ix2 d k) : EReal) := by
  pointwise [k0_pay9]
  simp only [ext_at]

/-- The same of the fourth group. -/
theorem pay13_at (i : grid0.Coords) (x0 : Vec Ideal S512x1024 .bf16) (x1 : Vec Ideal S16x1024 .bf16) (w : Vec Ideal S1024x512 .bf16) (a : Fin 528) (k : Fin 512) :
    k0_pay13 (k0_pay2 i x0 x1) w (ix2 a k) = (∑ d : Fin 1024, ext (i 0) x0 x1 a d * w (ix2 d k) : EReal) := by
  pointwise [k0_pay13]
  simp only [ext_at]

/-- The up-projection of the rows, a group's second half (the first group). -/
theorem pay4_at (x0 : Vec Ideal S512x1024 .bf16) (w : Vec Ideal S1024x768 .bf16) (r : Fin 512) (k : Fin 768) :
    k0_pay4 x0 w (ix2 r k) = (∑ d : Fin 1024, x0 (ix2 r d) * w (ix2 d k) : EReal) := by
  pointwise [k0_pay4]

/-- The same of the second group. -/
theorem pay6_at (x0 : Vec Ideal S512x1024 .bf16) (w : Vec Ideal S1024x768 .bf16) (r : Fin 512) (k : Fin 768) :
    k0_pay6 x0 w (ix2 r k) = (∑ d : Fin 1024, x0 (ix2 r d) * w (ix2 d k) : EReal) := by
  pointwise [k0_pay6]

/-- The same of the third group. -/
theorem pay10_at (x0 : Vec Ideal S512x1024 .bf16) (w : Vec Ideal S1024x768 .bf16) (r : Fin 512) (k : Fin 768) :
    k0_pay10 x0 w (ix2 r k) = (∑ d : Fin 1024, x0 (ix2 r d) * w (ix2 d k) : EReal) := by
  pointwise [k0_pay10]

/-- The same of the fourth group. -/
theorem pay14_at (x0 : Vec Ideal S512x1024 .bf16) (w : Vec Ideal S1024x512 .bf16) (r : Fin 512) (k : Fin 512) :
    k0_pay14 x0 w (ix2 r k) = (∑ d : Fin 1024, x0 (ix2 r d) * w (ix2 d k) : EReal) := by
  pointwise [k0_pay14]

/-- The first group's rows of the block. -/
theorem pay7_at (i : grid0.Coords) (x0 : Vec Ideal S512x1024 .bf16) (x1 : Vec Ideal S16x1024 .bf16) (w : Vec Ideal S1024x768 .bf16) (r : Fin 512) (k : Fin 768) :
    k0_pay7 i x0 x1 w (ix2 r k) = k0_pay3 i x0 x1 w (ix2 (⟨16 + r.val, by omega⟩ : Fin 528) k) := by
  pointwise [k0_pay7]

/-- The second group's first product of the convolution. -/
theorem pay11_at (u : FVec Ideal S528x768 .f32) (v : Vec Ideal S1x768 .f32) (r : Fin 512) (k : Fin 768) :
    k0_pay11 u v (ix2 r k) = (u (ix2 (⟨16 + r.val, by omega⟩ : Fin 528) k) * v (ix2 0 k) : EReal) := by
  pointwise [k0_pay11]

/-- The third group's. -/
theorem pay15_at (u : FVec Ideal S528x768 .f32) (v : Vec Ideal S1x768 .f32) (r : Fin 512) (k : Fin 768) :
    k0_pay15 u v (ix2 r k) = (u (ix2 (⟨16 + r.val, by omega⟩ : Fin 528) k) * v (ix2 0 k) : EReal) := by
  pointwise [k0_pay15]

/-- The third group's rows, one before. -/
theorem pay16_at (u : FVec Ideal S528x768 .f32) (r : Fin 512) (k : Fin 768) :
    k0_pay16 u (ix2 r k) = u (ix2 (⟨15 + r.val, by omega⟩ : Fin 528) k) := by
  pointwise [k0_pay16]

/-- The fourth group's convolution, without its bias. -/
theorem pay18_at (u : FVec Ideal S528x512 .f32) (v v' v'' : Vec Ideal S1x512 .f32) (r : Fin 512) (k : Fin 512) :
    k0_pay18 u v v' v'' (ix2 r k) = (u (ix2 (⟨16 + r.val, by omega⟩ : Fin 528) k) * v (ix2 0 k)
      + u (ix2 (⟨15 + r.val, by omega⟩ : Fin 528) k) * v' (ix2 0 k) + u (ix2 (⟨14 + r.val, by omega⟩ : Fin 528) k) * v'' (ix2 0 k) : EReal) := by
  pointwise [k0_pay18]

/-- A column of the up-projection of row `a`, from the blocks. -/
def col (g : Fin 64) (x0 : Vec Ideal S512x1024 .bf16) (x1 : Vec Ideal S16x1024 .bf16) (x3 : Vec Ideal S1024x5632 .bf16) (a : Fin 528) (f : Fin 5632) : EReal :=
  ∑ d : Fin 1024, ext g x0 x1 a d * x3 (ix2 d f)

/-- The hidden layer at row `r` and column `f`, from the blocks. -/
def hidB (g : Fin 64) (x0 : Vec Ideal S512x1024 .bf16) (x1 : Vec Ideal S16x1024 .bf16) (x3 : Vec Ideal S1024x5632 .bf16) (x4 : Vec Ideal S3x2816 .f32)
    (x5 : Vec Ideal S1x2816 .f32) (r : Fin 512) (f : Fin 2816) : EReal :=
  gelu (col g x0 x1 x3 ⟨16 + r.val, by omega⟩ ⟨f.val, by omega⟩ * x4 (ix2 2 f) + col g x0 x1 x3 ⟨15 + r.val, by omega⟩ ⟨f.val, by omega⟩ * x4 (ix2 1 f)
    + col g x0 x1 x3 ⟨14 + r.val, by omega⟩ ⟨f.val, by omega⟩ * x4 (ix2 0 f) + x5 (ix2 0 f))
  * ∑ d : Fin 1024, x0 (ix2 r d) * x3 (ix2 d (⟨2816 + f.val, by omega⟩ : Fin 5632))

/-- One summand of a group whose tiles are loaded at column `o`. -/
theorem group {K : ℕ} (o : ℕ) (hK : o + K ≤ 2816) (g : Fin 64) (x0 : Vec Ideal S512x1024 .bf16) (x1 : Vec Ideal S16x1024 .bf16) (x3 : Vec Ideal S1024x5632 .bf16)
    (x4 : Vec Ideal S3x2816 .f32) (x5 : Vec Ideal S1x2816 .f32) (x6 : Vec Ideal S2816x1024 .bf16) (r : Fin 512) (n : Fin 1024) (k : Fin K)
    (w w' : Fin 1024 → EReal) (c2 c1 c0 b y : EReal)
    (hw : ∀ d, w d = x3 (ix2 d (⟨o + k.val, by omega⟩ : Fin 5632))) (hw' : ∀ d, w' d = x3 (ix2 d (⟨2816 + (o + k.val), by omega⟩ : Fin 5632)))
    (h2 : c2 = x4 (ix2 2 (⟨o + k.val, by omega⟩ : Fin 2816))) (h1 : c1 = x4 (ix2 1 (⟨o + k.val, by omega⟩ : Fin 2816)))
    (h0 : c0 = x4 (ix2 0 (⟨o + k.val, by omega⟩ : Fin 2816))) (hb : b = x5 (ix2 0 (⟨o + k.val, by omega⟩ : Fin 2816)))
    (hy : y = x6 (ix2 (⟨o + k.val, by omega⟩ : Fin 2816) n)) :
    (gelu ((∑ d : Fin 1024, ext g x0 x1 (⟨16 + r.val, by omega⟩ : Fin 528) d * w d) * c2 + (∑ d : Fin 1024, ext g x0 x1 (⟨15 + r.val, by omega⟩ : Fin 528) d * w d) * c1
        + (∑ d : Fin 1024, ext g x0 x1 (⟨14 + r.val, by omega⟩ : Fin 528) d * w d) * c0 + b) * (∑ d : Fin 1024, x0 (ix2 r d) * w' d) * y : EReal)
      = hidB g x0 x1 x3 x4 x5 r ⟨o + k.val, by omega⟩ * x6 (ix2 (⟨o + k.val, by omega⟩ : Fin 2816) n) := by
  subst h2 h1 h0 hb hy
  simp only [hw, hw']
  rfl

/-- What the body leaves in the result's block. -/
theorem out_at (i : grid0.Coords) (x0 : Vec Ideal S512x1024 .bf16) (x1 : Vec Ideal S16x1024 .bf16) (x2 : Vec Ideal S512x1024 .f32) (x3 : Vec Ideal S1024x5632 .bf16)
    (x4 : Vec Ideal S3x2816 .f32) (x5 : Vec Ideal S1x2816 .f32) (x6 : Vec Ideal S2816x1024 .bf16) (r : Fin 512) (n : Fin 1024) :
    out0_7 i x0 x1 x2 x3 x4 x5 x6 (ix2 r n) = (x2 (ix2 r n)
      + ∑ k : Fin 768, hidB (i 0) x0 x1 x3 x4 x5 r ⟨0 + k.val, by omega⟩ * x6 (ix2 (⟨0 + k.val, by omega⟩ : Fin 2816) n)
      + ∑ k : Fin 768, hidB (i 0) x0 x1 x3 x4 x5 r ⟨768 + k.val, by omega⟩ * x6 (ix2 (⟨768 + k.val, by omega⟩ : Fin 2816) n)
      + ∑ k : Fin 768, hidB (i 0) x0 x1 x3 x4 x5 r ⟨1536 + k.val, by omega⟩ * x6 (ix2 (⟨1536 + k.val, by omega⟩ : Fin 2816) n)
      + ∑ k : Fin 512, hidB (i 0) x0 x1 x3 x4 x5 r ⟨2304 + k.val, by omega⟩ * x6 (ix2 (⟨2304 + k.val, by omega⟩ : Fin 2816) n) : EReal) := by
  frame_out
  unfold k0_pay21 k0_pay20 k0_pay19
  have hz : (![0, 0] : Fin 2 → ℕ) = fun _ => 0 := by funext a; fin_cases a <;> rfl
  rw [View.ld_unit_zero (h := hz), View.ld_unit_zero (h := hz)]
  rw [pay1_at, pay17_at, pay12_at, pay8_at]
  simp only [pay3_at, pay4_at, pay5_at, pay6_at, pay7_at, pay9_at, pay10_at, pay11_at, pay13_at, pay14_at, pay15_at, pay16_at, pay18_at]
  refine congrArg₂ (· + ·) (congrArg₂ (· + ·) (congrArg₂ (· + ·) (congrArg₂ (· + ·) rfl ?_) ?_) ?_) ?_
  · refine Finset.sum_congr rfl fun k _ => group 0 (by norm_num) (i 0) x0 x1 x3 x4 x5 x6 r n k _ _ _ _ _ _ _ (fun d => ?_) (fun d => ?_) ?_ ?_ ?_ ?_ ?_
    all_goals exact View.ld_unit_apply_of _ _ _ _ _ _ (fun a => by fin_cases a <;> simp <;> omega)
  · refine Finset.sum_congr rfl fun k _ => group 768 (by norm_num) (i 0) x0 x1 x3 x4 x5 x6 r n k _ _ _ _ _ _ _ (fun d => ?_) (fun d => ?_) ?_ ?_ ?_ ?_ ?_
    all_goals exact View.ld_unit_apply_of _ _ _ _ _ _ (fun a => by fin_cases a <;> simp <;> omega)
  · refine Finset.sum_congr rfl fun k _ => group 1536 (by norm_num) (i 0) x0 x1 x3 x4 x5 x6 r n k _ _ _ _ _ _ _ (fun d => ?_) (fun d => ?_) ?_ ?_ ?_ ?_ ?_
    all_goals exact View.ld_unit_apply_of _ _ _ _ _ _ (fun a => by fin_cases a <;> simp <;> omega)
  · refine Finset.sum_congr rfl fun k _ => group 2304 (by norm_num) (i 0) x0 x1 x3 x4 x5 x6 r n k _ _ _ _ _ _ _ (fun d => ?_) (fun d => ?_) ?_ ?_ ?_ ?_ ?_
    all_goals exact View.ld_unit_apply_of _ _ _ _ _ _ (fun a => by fin_cases a <;> simp <;> omega)

/-- The windows' blocks: of the rows 512 and the 16 before them, the weights whole. -/
theorem idx : ∀ t : Fin cfg0.N, win0_0.index t = ![t.val, 0] ∧ win0_1.index t = ![32 * t.val - 1, 0] ∧ win0_2.index t = ![t.val, 0]
   ∧ win0_3.index t = ![0, 0] ∧ win0_4.index t = ![0, 0] ∧ win0_5.index t = ![0, 0] ∧ win0_6.index t = ![0, 0] ∧ win0_7.index t = ![t.val, 0]
   ∧ (grid0.coords t 0).val = t.val :=
  (by decide +kernel : ∀ t : Fin grid0.N, _)

end Cert.Proof.Ffn
end
-- ==== Proof.FfnValue.lean ====
module
public import proofs.«01_k».proof.Proof.FfnBlock

/-!
  The feed-forward layer's array is the reference's result: a block's rows are rows of one sequence, and the rows before the
  block are that sequence's rows or, at its start, zeros.
-/

@[expose] public section
set_option maxRecDepth 16384
noncomputable section
namespace Cert.Proof.Ffn
open Cert.Kernel2Ideal Cert.Kernel2Ideal.Gen
open Idealize.ShloMosaic Idealize.ShloMosaic.TcCoe Idealize.SL.Sem
open Idealize.ShloMosaic.Pipeline (Dat)
open Cert.Proof.Rows (tok)
open Cert.Proof.FfnRef (pre hid lo hi refOut)

/-- A sum over all hidden columns, group by group. -/
theorem sum_groups (f : Fin 2816 → EReal) : ∑ k, f k = ∑ k : Fin 768, f ⟨0 + k.val, by omega⟩ + ∑ k : Fin 768, f ⟨768 + k.val, by omega⟩
    + ∑ k : Fin 768, f ⟨1536 + k.val, by omega⟩ + ∑ k : Fin 512, f ⟨2304 + k.val, by omega⟩ := by
  rw [Fin.sum_univ_add (a := 2304) (b := 512) f, Fin.sum_univ_add (a := 1536) (b := 768), Fin.sum_univ_add (a := 768) (b := 768)]
  refine congrArg₂ (· + ·) (congrArg₂ (· + ·) (congrArg₂ (· + ·) ?_ ?_) ?_) ?_ <;> refine Finset.sum_congr rfl fun k _ => congrArg f (Fin.ext ?_)
  · exact (Nat.zero_add _).symm
  all_goals rfl

section
variable (g : Fin 64) (x0 : Vec Ideal S512x1024 .bf16) (x1 : Vec Ideal S16x1024 .bf16) (x3 : Vec Ideal S1024x5632 .bf16)
  (H : Vec Ideal S32768x1024 .bf16) (W : Vec Ideal S1024x5632 .f32)
  (e0 : ∀ (r : Fin 512) (d : Fin 1024), (x0 (ix2 r d) : EReal) = H (ix2 (⟨512 * g.val + r.val, by omega⟩ : Fin 32768) d))
  (e1 : ∀ (a : Fin 16) (d : Fin 1024), g.val ≠ 0 → (x1 (ix2 a d) : EReal) = H (ix2 (⟨512 * g.val - 16 + a.val, by omega⟩ : Fin 32768) d))
  (e3 : ∀ (d : Fin 1024) (f : Fin 5632), (x3 (ix2 d f) : EReal) = W (ix2 d f))

include e0 e1 e3 in
/-- The up-projection of the extended rows is that of the sequence's rows. -/
theorem col_eq (r : Fin 512) (f : Fin 5632) (δ : ℕ) (hδ : δ ≤ 2) (a : Fin 528) (ha : a.val + δ = 16 + r.val) :
    col g x0 x1 x3 a f = pre H W (⟨g.val / 8, by omega⟩ : Fin 8) (⟨512 * (g.val % 8) + r.val, by omega⟩ : Fin 4096) δ f := by
  unfold col pre
  by_cases h : δ ≤ 512 * (g.val % 8) + r.val
  · rw [if_pos h]
    refine Finset.sum_congr rfl fun d _ => ?_
    rw [e3]
    refine congrArg (fun v : EReal => v * (W (ix2 d f) : EReal)) ?_
    unfold ext
    by_cases h' : a.val < 16
    · rw [dif_pos h', if_neg (by omega), e1 _ _ (by omega)]
      exact congrArg (fun i => (H (ix2 i d) : EReal)) (Fin.ext (by
        show 512 * g.val - 16 + a.val = g.val / 8 * 4096 + (512 * (g.val % 8) + r.val - δ); omega))
    · rw [dif_neg h', e0]
      exact congrArg (fun i => (H (ix2 i d) : EReal)) (Fin.ext (by
        show 512 * g.val + (a.val - 16) = g.val / 8 * 4096 + (512 * (g.val % 8) + r.val - δ); omega))
  · rw [if_neg h]
    refine Finset.sum_eq_zero fun d _ => ?_
    unfold ext
    rw [dif_pos (by omega), if_pos (by omega), zero_mul]

variable (x4 : Vec Ideal S3x2816 .f32) (x5 : Vec Ideal S1x2816 .f32) (C : Vec Ideal S3x2816 .f32) (B : Vec Ideal S2816 .f32)
  (e4 : ∀ (j : Fin 3) (f : Fin 2816), (x4 (ix2 j f) : EReal) = C (ix2 j f)) (e5 : ∀ f : Fin 2816, (x5 (ix2 0 f) : EReal) = B (ix1 f))

include e0 e1 e3 e4 e5 in
/-- The hidden layer of a block is the reference's. -/
theorem hid_eq (r : Fin 512) (f : Fin 2816) :
    hidB g x0 x1 x3 x4 x5 r f = hid H W C B (⟨g.val / 8, by omega⟩ : Fin 8) (⟨512 * (g.val % 8) + r.val, by omega⟩ : Fin 4096) f := by
  have e : (∑ d : Fin 1024, x0 (ix2 r d) * x3 (ix2 d (⟨2816 + f.val, by omega⟩ : Fin 5632)) : EReal)
      = col g x0 x1 x3 ⟨16 + r.val, by omega⟩ (hi f) := by
    unfold col ext
    refine Finset.sum_congr rfl fun d _ => ?_
    rw [dif_neg (by show ¬ 16 + r.val < 16; omega)]
    exact congrArg (fun i => (x0 (ix2 i d) * x3 (ix2 d (hi f)) : EReal)) (Fin.ext (by show r.val = 16 + r.val - 16; omega))
  unfold hidB hid FfnRef.conv
  rw [e, e4, e4, e4, e5, col_eq g x0 x1 x3 H W e0 e1 e3 r _ 0 (by omega) _ rfl, col_eq g x0 x1 x3 H W e0 e1 e3 r _ 1 (by omega) _ (by show 15 + r.val + 1 = _; omega),
    col_eq g x0 x1 x3 H W e0 e1 e3 r _ 2 (by omega) _ (by show 14 + r.val + 2 = _; omega), col_eq g x0 x1 x3 H W e0 e1 e3 r _ 0 (by omega) _ rfl]

end

/-! ## The array -/

variable (m : (ℓ : Loc nD τ sig) → Buf (Elt Ideal) ℓ)

/-- The reference's result from the kernel's arguments. -/
abbrev ref (c : Dev nD) : Vec Ideal S32768x1024 .f32 :=
  refOut (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- Window 3 holds the up-projection's weights. -/
theorem block3 (c : Dev nD) (t : Fin cfg0.N) (d : Fin 1024) (f : Fin 5632) :
    ((iblk m c 3 t : Vec Ideal S1024x5632 .bf16) (ix2 d f) : EReal) = (m ((c : Thread nD τ).loc main_arg2) : Vec Ideal S1024x5632 .f32) (ix2 d f) := by
  blk_point [iblk, V, idx t]

/-- Window 5 holds the convolution's bias. -/
theorem block5 (c : Dev nD) (t : Fin cfg0.N) (f : Fin 2816) :
    ((iblk m c 5 t : Vec Ideal S1x2816 .f32) (ix2 0 f) : EReal) = (m ((c : Thread nD τ).loc main_arg4) : Vec Ideal S2816 .f32) (ix1 f) := by
  blk_point [iblk, V, idx t]

/-- Window 6 holds the down-projection's weights. -/
theorem block6 (c : Dev nD) (t : Fin cfg0.N) (f : Fin 2816) (n : Fin 1024) :
    ((iblk m c 6 t : Vec Ideal S2816x1024 .bf16) (ix2 f n) : EReal) = (m ((c : Thread nD τ).loc main_arg5) : Vec Ideal S2816x1024 .f32) (ix2 f n) := by
  blk_point [iblk, V, idx t]

/-- What the program of grid point `t` leaves at an element of its block is the reference's element there. -/
theorem point (c : Dev nD) (t : Fin cfg0.N) (r : Fin 512) (n : Fin 1024) :
    out0_7 (grid0.coords t) (iblk m c 0 t) (iblk m c 1 t) (iblk m c 2 t) (iblk m c 3 t) (iblk m c 4 t) (iblk m c 5 t) (iblk m c 6 t) (ix2 r n)
      = ref m c (ix2 (⟨512 * t.val + r.val, by have := t.isLt; have : cfg0.N = 64 := by decide +kernel
                                               omega⟩ : Fin 32768) n) := by
  have hN : t.val < 64 := lt_of_lt_of_eq t.isLt (by decide +kernel)
  have eg : (grid0.coords t 0 : Fin 64).val = t.val := (idx t).2.2.2.2.2.2.2.2
  have et : (⟨512 * t.val + r.val, by omega⟩ : Fin 32768)
      = tok (⟨(grid0.coords t 0 : Fin 64).val / 8, by omega⟩ : Fin 8) (⟨512 * ((grid0.coords t 0 : Fin 64).val % 8) + r.val, by omega⟩ : Fin 4096) :=
    Fin.ext (by show 512 * t.val + r.val = _ / 8 * 4096 + (512 * (_ % 8) + r.val); rw [eg]; omega)
  have hh := hid_eq (grid0.coords t 0 : Fin 64) (iblk m c 0 t) (iblk m c 1 t) (iblk m c 3 t) (m ((c : Thread nD τ).loc main_arg0)) (m ((c : Thread nD τ).loc main_arg2))
    (fun r d => by blk_ext [iblk, V, idx t]) (fun a d h => by blk_ext [iblk, V, idx t]) (block3 m c t) (iblk m c 4 t) (iblk m c 5 t)
    (m ((c : Thread nD τ).loc main_arg3)) (m ((c : Thread nD τ).loc main_arg4)) (fun j f => by blk_ext [iblk, V, idx t]) (block5 m c t) r
  rw [out_at, et]
  refine Eq.trans ?_ (FfnRef.refOut_at _ _ _ _ _ _ _ _ n).symm
  rw [sum_groups]
  simp only [hh, block6]
  have ex : ((iblk m c 2 t : Vec Ideal S512x1024 .f32) (ix2 r n) : EReal)
      = (m ((c : Thread nD τ).loc main_arg1) : Vec Ideal S32768x1024 .f32) (ix2 (⟨512 * t.val + r.val, by omega⟩ : Fin 32768) n) := by
    blk_ext [iblk, V, idx t]
  rw [et] at ex
  refine (congrArg (fun v : EReal => v + _ + _ + _ + _) ex).trans ?_
  simp only [add_assoc]

/-- The kernel's result array is the reference's. -/
theorem final (c : Dev nD) : (dats m 0 c).arrAt 7 cfg0.N = ref m c := by
  refine (dats m 0 c).arrAt_eq_of_covers 7 _ (by decide +kernel) fun t _ y => ?_
  blk_simp
  rw [after0_7]
  have ey : y = ix2 (y 0) (y 1) := by blk_ext [idx t]
  refine (congrArg _ ey).trans ((point m c t (y 0) (y 1)).trans (congrArg _ ?_))
  blk_ext [idx t]

end Cert.Proof.Ffn
end
-- ==== Proof.FfnClaims.lean ====
module

public import proofs.«01_k».proof.Defs
public import proofs.«01_k».proof.Proof.Gen.Kernel2.Frame
public import proofs.«01_k».proof.Proof.Gen.Reference2Ideal.Run
public import proofs.«01_k».proof.Proof.FfnValue
public import Idealize.ShloMosaic.Adequacy
public import Idealize.ShloMosaic.Init

/-!
  The claims about the feed-forward layer: the frames of its three programs, its named constant, and the equality of the results.
-/

@[expose] public section
noncomputable section
namespace Cert.Proof
open Idealize.ShloMosaic Idealize.ShloMosaic.TcCoe Idealize.SL.Sem

/-- The kernel as printed runs, keeps its arguments and ends with every counter at zero. -/
theorem frame_kernel2 : Cert.quiescent_Kernel2 := fun m ρ _ => Cert.Kernel2.Gen.frame m ρ

/-- So does the idealized kernel. -/
theorem frame_kernel2Ideal : Cert.quiescent_Kernel2Ideal := fun m ρ _ => Cert.Kernel2Ideal.Gen.frame m ρ

/-- So does the reference, which has no semaphore. -/
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The constant of `gelu` is named, and stands for the inverse of the square root of two. -/
theorem preserves2 : Cert.preserves_Kernel2_Kernel2Ideal :=
  IdealRules.named_const.statement Cert.Kernel2Ideal.κ "half_sqrt" .f32 0x3F3504F3#32 (((Real.sqrt 2)⁻¹ : ℝ) : EReal) rfl

/-- The idealized kernel and the idealized reference, from equal arguments, end with equal results and unchanged arguments. -/
theorem algebraic2 : Cert.algebraic_Kernel2Ideal_Reference2Ideal := fun m g m' g' _ hagree =>
  ⟨fun c => Ffn.ref m c,
    (θ_run Cert.Kernel2Ideal.defs _ _).mono (fun _ h c => ⟨(h c).1.trans (Ffn.final m c), (h c).2⟩)
      (Cert.Kernel2Ideal.Value.run_blocks (F := Ideal) m g),
    (θ_run Cert.Reference2Ideal.defs _ _).mono (fun _ h c => ⟨(h c).1.trans ((FfnRef.res_eq m' c).trans (by
        rw [(hagree c).1, (hagree c).2.1, (hagree c).2.2.1, (hagree c).2.2.2.1, (hagree c).2.2.2.2.1, (hagree c).2.2.2.2.2])), (h c).2⟩)
      (Cert.Reference2Ideal.Value.run (F := Ideal) m' g')⟩

end Cert.Proof
end
-- ==== Proof.MergeBlock.lean ====
module
public import proofs.«01_k».proof.Proof.Gen.Kernel3Ideal.Value
public import proofs.«01_k».proof.Proof.Rows
public import Idealize.ShloMosaic.Lib.Pipeline.ValueKit

/-!
  What the merge kernel computes in one block of 512 positions, read at an index: each half of the block on its own.
-/

@[expose] public section
set_option maxRecDepth 16384
noncomputable section
namespace Cert.Proof.Merge
open Cert.Kernel3Ideal Cert.Kernel3Ideal.Gen
open Idealize.ShloMosaic Idealize.ShloMosaic.TcCoe
open Cert.Proof.Rows (rms)

/-- The gated sum of a half's rows. -/
theorem pay4_at (y : Vec Ideal S256x512 .bf16) (a : Vec Ideal S512x1024 .bf16) (y' : Vec Ideal S256x512 .bf16) (a' : Vec Ideal S512x1024 .bf16)
    (g : Vec Ideal S256x2048 .bf16) (r : Fin 256) (d : Fin 1024) : k0_pay4 y a y' a' g (ix2 r d)
      = (g (ix2 r (⟨d.val, by omega⟩ : Fin 2048)) * (∑ c : Fin 512, y (ix2 r c) * a (ix2 c d))
        + g (ix2 r (⟨1024 + d.val, by omega⟩ : Fin 2048)) * (∑ c : Fin 512, y' (ix2 r c) * a' (ix2 c d)) : EReal) := by
  pointwise [k0_pay4]

/-- The first half's rows. -/
theorem pay7_at (u : FVec Ideal S256x1024 .bf16) (x : FVec Ideal S256x1024 .f32) (w : FVec Ideal S1024x1024 .bf16) (r : Fin 256) (n : Fin 1024) :
    k0_pay7 u x w (constant S256x1024 .f32 0x00000000#32) (ix2 r n) = (x (ix2 r n) + ∑ d : Fin 1024, u (ix2 r d) * w (ix2 d n) : EReal) := by
  pointwise [k0_pay7]

/-- Their norm. -/
theorem pay8_at (u : FVec Ideal S256x1024 .bf16) (x : FVec Ideal S256x1024 .f32) (w : FVec Ideal S1024x1024 .bf16) (z : FVec Ideal S256x1024 .f32)
    (g : Vec Ideal S1x1024 .f32) (r : Fin 256) (n : Fin 1024) :
    k0_pay8 u x w z g (ix2 r n) = rms (fun k => k0_pay7 u x w z (ix2 r k)) (g (ix2 0 n)) n := by
  pointwise [k0_pay8]
  rfl

/-- The second half's rows. -/
theorem pay9_at (u v : FVec Ideal S256x1024 .f32) (g : Vec Ideal S256x2048 .bf16) (x : Vec Ideal S256x1024 .f32) (w : Vec Ideal S1024x1024 .bf16)
    (r : Fin 256) (n : Fin 1024) : k0_pay9 u v g x w (ix2 r n)
      = (x (ix2 r n) + ∑ d : Fin 1024, (g (ix2 r (⟨d.val, by omega⟩ : Fin 2048)) * u (ix2 r d)
        + g (ix2 r (⟨1024 + d.val, by omega⟩ : Fin 2048)) * v (ix2 r d)) * w (ix2 d n) : EReal) := by
  pointwise [k0_pay9]

/-- Their sums of squares. -/
theorem pay10_at (u v : FVec Ideal S256x1024 .f32) (g : Vec Ideal S256x2048 .bf16) (x : Vec Ideal S256x1024 .f32) (w : Vec Ideal S1024x1024 .bf16)
    (r : Fin 256) : k0_pay10 u v g x w (ix2 r (0 : Fin 1))
      = (∑ k : Fin 1024, k0_pay9 u v g x w (ix2 r k) * k0_pay9 u v g x w (ix2 r k) : EReal) := by
  pointwise [k0_pay10]

/-- Their norm. -/
theorem pay1_at (x : FVec Ideal S256x1024 .f32) (q : FVec Ideal S256x1 .f32) (g : Vec Ideal S1x1024 .f32) (r : Fin 256) (n : Fin 1024)
    (h : q (ix2 r (0 : Fin 1)) = (∑ k : Fin 1024, x (ix2 r k) * x (ix2 r k) : EReal)) :
    k0_pay1 x q (Scalar.ofBits .f32 0x44800000#32) g (ix2 r n) = rms (fun k => x (ix2 r k)) (g (ix2 0 n)) n := by
  pointwise [k0_pay1]
  rw [h]
  rfl

/-- The second half's products. -/
theorem pay2_at (y : Vec Ideal S256x512 .bf16) (a : Vec Ideal S512x1024 .bf16) (r : Fin 256) (d : Fin 1024) :
    k0_pay2 y a (ix2 r d) = (∑ c : Fin 512, y (ix2 r c) * a (ix2 c d) : EReal) := by
  pointwise [k0_pay2]

/-- The same of the other branch. -/
theorem pay3_at (y : Vec Ideal S256x512 .bf16) (a : Vec Ideal S512x1024 .bf16) (r : Fin 256) (d : Fin 1024) :
    k0_pay3 y a (ix2 r d) = (∑ c : Fin 512, y (ix2 r c) * a (ix2 c d) : EReal) := by
  pointwise [k0_pay3]

section
variable (x0 : Vec Ideal S512x1024 .f32) (x1 x2 : Vec Ideal S512x512 .bf16) (x3 : Vec Ideal S512x2048 .bf16) (x4 x5 : Vec Ideal S512x1024 .bf16)
  (x6 : Vec Ideal S1024x1024 .bf16) (x7 : Vec Ideal S1x1024 .f32)

/-- A row of the new residual, from the blocks. -/
def rowB (r : Fin 512) (n : Fin 1024) : EReal :=
  x0 (ix2 r n) + ∑ d : Fin 1024, (x3 (ix2 r (⟨d.val, by omega⟩ : Fin 2048)) * (∑ c : Fin 512, x1 (ix2 r c) * x4 (ix2 c d) : EReal)
    + x3 (ix2 r (⟨1024 + d.val, by omega⟩ : Fin 2048)) * (∑ c : Fin 512, x2 (ix2 r c) * x5 (ix2 c d) : EReal)) * x6 (ix2 d n)

/-- A row of a half, whose tiles are loaded at row `o`. -/
theorem half (o : ℕ) (ho : o + 256 ≤ 512) (r : Fin 256) (n : Fin 1024) (x : EReal) (g g' : Fin 1024 → EReal) (y y' : Fin 512 → EReal)
    (hx : x = x0 (ix2 (⟨o + r.val, by omega⟩ : Fin 512) n)) (hg : ∀ d : Fin 1024, g d = x3 (ix2 (⟨o + r.val, by omega⟩ : Fin 512) (⟨d.val, by omega⟩ : Fin 2048)))
    (hg' : ∀ d : Fin 1024, g' d = x3 (ix2 (⟨o + r.val, by omega⟩ : Fin 512) (⟨1024 + d.val, by omega⟩ : Fin 2048)))
    (hy : ∀ c, y c = x1 (ix2 (⟨o + r.val, by omega⟩ : Fin 512) c)) (hy' : ∀ c, y' c = x2 (ix2 (⟨o + r.val, by omega⟩ : Fin 512) c)) :
    (x + ∑ d : Fin 1024, (g d * (∑ c : Fin 512, y c * x4 (ix2 c d)) + g' d * (∑ c : Fin 512, y' c * x5 (ix2 c d))) * x6 (ix2 d n) : EReal)
      = rowB x0 x1 x2 x3 x4 x5 x6 ⟨o + r.val, by omega⟩ n := by
  simp only [hx, hg, hg', hy, hy']
  rfl

/-- The first half's rows. -/
theorem lo_at (r : Fin 256) (n : Fin 1024) :
    k0_pay7 (k0_pay14 x0 x1 x2 x3 x4 x5 x6 x7) (k0_pay15 x0 x1 x2 x3 x4 x5 x6 x7) (k0_pay16 x0 x1 x2 x3 x4 x5 x6 x7) (k0_pay11 x0 x1 x2 x3 x4 x5 x6 x7) (ix2 r n)
      = rowB x0 x1 x2 x3 x4 x5 x6 ⟨0 + r.val, by omega⟩ n := by
  have hz : (![0, 0] : Fin 2 → ℕ) = fun _ => 0 := by funext a; fin_cases a <;> rfl
  have h16 : k0_pay16 x0 x1 x2 x3 x4 x5 x6 x7 = x6 := by
    unfold k0_pay16
    rw [View.ld_unit_zero (h := hz)]
    exact funext fun i => by pointwise [k0_pay6]
  have h15 (i) : k0_pay15 x0 x1 x2 x3 x4 x5 x6 x7 i = View.ld x0 r0_4 i := by
    unfold k0_pay15
    pointwise [k0_pay5]
  refine (pay7_at _ _ _ r n).trans ?_
  rw [h16, h15]
  unfold k0_pay14
  rw [View.ld_unit_zero (h := hz), View.ld_unit_zero (h := hz)]
  simp only [pay4_at]
  refine half x0 x1 x2 x3 x4 x5 x6 0 (by norm_num) r n _ _ _ _ _ ?_ (fun d => ?_) (fun d => ?_) (fun c => ?_) (fun c => ?_)
  all_goals exact View.ld_unit_apply_of _ _ _ _ _ _ (fun a => by fin_cases a <;> simp)

/-- The second half's rows. -/
theorem hi_at (r : Fin 256) (n : Fin 1024) :
    k0_pay9 (k0_pay12 x0 x1 x2 x3 x4 x5 x6 x7) (k0_pay13 x0 x1 x2 x3 x4 x5 x6 x7) (View.ld x3 r0_7) (View.ld x0 r0_8) (View.ld x6 r0_5) (ix2 r n)
      = rowB x0 x1 x2 x3 x4 x5 x6 ⟨256 + r.val, by omega⟩ n := by
  have hz : (![0, 0] : Fin 2 → ℕ) = fun _ => 0 := by funext a; fin_cases a <;> rfl
  unfold k0_pay12 k0_pay13
  rw [View.ld_unit_zero (h := hz), View.ld_unit_zero (h := hz), View.ld_unit_zero (h := hz), pay9_at]
  simp only [pay2_at, pay3_at]
  refine half x0 x1 x2 x3 x4 x5 x6 256 (by norm_num) r n _ _ _ _ _ ?_ (fun d => ?_) (fun d => ?_) (fun c => ?_) (fun c => ?_)
  all_goals exact View.ld_unit_apply_of _ _ _ _ _ _ (fun a => by fin_cases a <;> simp)

/-- The rows of the first half in the block. -/
theorem emb_lo (r : Fin 256) (n : Fin 1024) : r0_4.emb (ix2 r n) 0 = (⟨0 + r.val, by omega⟩ : Fin 512) ∧ r0_4.emb (ix2 r n) 1 = n :=
  ⟨Fin.ext (by show 0 + 1 * r.val = 0 + r.val; omega), Fin.ext (by show 0 + 1 * n.val = n.val; omega)⟩

/-- The rows of the second half in the block. -/
theorem emb_hi (r : Fin 256) (n : Fin 1024) : r0_8.emb (ix2 r n) 0 = (⟨256 + r.val, by omega⟩ : Fin 512) ∧ r0_8.emb (ix2 r n) 1 = n :=
  ⟨Fin.ext (by show 256 + 1 * r.val = 256 + r.val; omega), Fin.ext (by show 0 + 1 * n.val = n.val; omega)⟩

/-- An index of a half is a row and a column. -/
theorem half_idx (i : S256x1024.Idx) : ∃ (r : Fin 256) (n : Fin 1024), i = ix2 r n := ⟨i 0, i 1, by funext a; fin_cases a <;> rfl⟩

/-- What the body leaves in the residual's block. -/
theorem out8_at (y : S512x1024.Idx) : out0_8 x0 x1 x2 x3 x4 x5 x6 x7 y = rowB x0 x1 x2 x3 x4 x5 x6 (y 0) (y 1) := by
  unfold out0_8
  refine View.canon_apply_of_pieces (Val := Elt Ideal) (fun y => rowB x0 x1 x2 x3 x4 x5 x6 (y 0) (y 1)) _ ?_ y (cover0_8 _ _ y)
  intro p hp i
  simp only [List.mem_cons, List.not_mem_nil, or_false] at hp
  rcases hp with rfl | rfl
  · obtain ⟨r, n, rfl⟩ := half_idx i
    refine ((hi_at x0 x1 x2 x3 x4 x5 x6 x7 r n).trans ?_)
    show rowB x0 x1 x2 x3 x4 x5 x6 _ _ = rowB x0 x1 x2 x3 x4 x5 x6 (r0_8.emb (ix2 r n) 0) (r0_8.emb (ix2 r n) 1)
    rw [(emb_hi r n).1, (emb_hi r n).2]
  · obtain ⟨r, n, rfl⟩ := half_idx i
    refine ((lo_at x0 x1 x2 x3 x4 x5 x6 x7 r n).trans ?_)
    show rowB x0 x1 x2 x3 x4 x5 x6 _ _ = rowB x0 x1 x2 x3 x4 x5 x6 (r0_4.emb (ix2 r n) 0) (r0_4.emb (ix2 r n) 1)
    rw [(emb_lo r n).1, (emb_lo r n).2]

/-- What the body leaves in the norm's block. -/
theorem out9_at (y : S512x1024.Idx) :
    out0_9 x0 x1 x2 x3 x4 x5 x6 x7 y = rms (rowB x0 x1 x2 x3 x4 x5 x6 (y 0)) (x7 (ix2 0 (y 1))) (y 1) := by
  unfold out0_9
  refine View.canon_apply_of_pieces (Val := Elt Ideal) (fun y => rms (rowB x0 x1 x2 x3 x4 x5 x6 (y 0)) (x7 (ix2 0 (y 1))) (y 1)) _ ?_ y (cover0_9 _ _ y)
  have hz : (![0, 0] : Fin 2 → ℕ) = fun _ => 0 := by funext a; fin_cases a <;> rfl
  have e7 : View.ld x7 r0_6 = x7 := by rw [View.ld_unit_zero (h := hz)]
  intro p hp i
  simp only [List.mem_cons, List.not_mem_nil, or_false] at hp
  rcases hp with rfl | rfl
  · obtain ⟨r, n, rfl⟩ := half_idx i
    refine ((pay1_at _ _ _ r n (pay10_at _ _ _ _ _ r)).trans ?_)
    show rms _ _ _ = rms (rowB x0 x1 x2 x3 x4 x5 x6 (r0_8.emb (ix2 r n) 0)) (x7 (ix2 0 (r0_8.emb (ix2 r n) 1))) (r0_8.emb (ix2 r n) 1)
    rw [(emb_hi r n).1, (emb_hi r n).2, e7]
    exact congrArg (fun f => rms f (x7 (ix2 0 n)) n) (funext fun k => hi_at x0 x1 x2 x3 x4 x5 x6 x7 r k)
  · obtain ⟨r, n, rfl⟩ := half_idx i
    refine ((pay8_at _ _ _ _ _ r n).trans ?_)
    show rms _ _ _ = rms (rowB x0 x1 x2 x3 x4 x5 x6 (r0_4.emb (ix2 r n) 0)) (x7 (ix2 0 (r0_4.emb (ix2 r n) 1))) (r0_4.emb (ix2 r n) 1)
    rw [(emb_lo r n).1, (emb_lo r n).2, e7]
    exact congrArg (fun f => rms f (x7 (ix2 0 n)) n) (funext fun k => lo_at x0 x1 x2 x3 x4 x5 x6 x7 r k)

end

/-- The windows' blocks: of the rows 512, the weights whole. -/
theorem idx : ∀ t : Fin cfg0.N, win0_0.index t = ![t.val, 0] ∧ win0_1.index t = ![t.val, 0] ∧ win0_2.index t = ![t.val, 0]
   ∧ win0_3.index t = ![t.val, 0] ∧ win0_4.index t = ![0, 0] ∧ win0_5.index t = ![0, 0] ∧ win0_6.index t = ![0, 0] ∧ win0_7.index t = ![0, 0]
   ∧ win0_8.index t = ![t.val, 0] ∧ win0_9.index t = ![t.val, 0] :=
  (by decide +kernel : ∀ t : Fin grid0.N, _)

end Cert.Proof.Merge
end
-- ==== Proof.MergeRef.lean ====
module
public import proofs.«01_k».proof.Proof.Gen.Reference3Ideal.Run
public import proofs.«01_k».proof.Proof.Rows

/-!
  The merge's reference read at an index: the two branches' products with their weights, gated and added, the output projection
  added to the residual, and the norm of the sum.
-/

@[expose] public section
noncomputable section
namespace Cert.Proof.MergeRef
open Cert.Reference3Ideal Cert.Reference3Ideal.Gen
open Idealize.ShloMosaic Idealize.ShloMosaic.TcCoe
open Cert.Proof.Rows (tok rms)

/-- A branch's product with its weights. -/
def branchT (Y : Vec Ideal S8x4096x512 .bf16) (A : FVec Ideal S512x1024 .f32) : FVec Ideal S8x4096x1024 .f32 :=
  Host.dotGeneral dot_S8x4096x512_S512x1024_S8x4096x1024_2_0_01_1_n_n none (extf .f32 Y bitsLt_bf16_f32 : FVec Ideal S8x4096x512 .f32) A

/-- The gates by sequence. -/
def gateT (G : Vec Ideal S32768x2048 .bf16) : FVec Ideal S8x4096x2048 .f32 :=
  shapeCast S8x4096x2048 (extf .f32 G bitsLt_bf16_f32 : FVec Ideal S32768x2048 .f32) shapeCasts_S32768x2048_S8x4096x2048

/-- The gated sum of the branches. -/
def mixT (g : FVec Ideal S8x4096x2048 .f32) (u v : FVec Ideal S8x4096x1024 .f32) : FVec Ideal S8x4096x1024 .f32 :=
  addf (mulf (extractStridedSlice S8x4096x1024 ![0, 0, 0] g slices_S8x4096x2048_S8x4096x1024_0_0_0) u)
    (mulf (extractStridedSlice S8x4096x1024 ![0, 0, 1024] g slices_S8x4096x2048_S8x4096x1024_0_0_1024) v)

/-- The residual and the output projection. -/
def sumT (X mix : FVec Ideal S8x4096x1024 .f32) (O : FVec Ideal S1024x1024 .f32) : FVec Ideal S8x4096x1024 .f32 :=
  addf X (Host.dotGeneral dot_S8x4096x1024_S1024x1024_S8x4096x1024_2_0_01_1_n_n none mix O)

/-- The norm of every row. -/
def normT (x : FVec Ideal S8x4096x1024 .f32) (g : FVec Ideal S1024 .f32) : FVec Ideal S8x4096x1024 .f32 :=
  mulf (mulf x (broadcastInDim S8x4096x1024 ![0, 1, 2] bcast_S8x4096x1_S8x4096x1024_0_1_2
      (Host.rsqrt (addf (Host.divf (broadcastInDim S8x4096x1 ![0, 1] bcast_S8x4096_S8x4096x1_0_1
          (Host.reduceAdd (mulf x x) (constant S_ .f32 0x00000000#32) reducesTo_S8x4096x1024_S8x4096_d2 h_S_))
        (broadcastInDim S8x4096x1 ![] bcast_S_S8x4096x1 (constant S_ .f32 0x44800000#32)))
        (broadcastInDim S8x4096x1 ![] bcast_S_S8x4096x1 (constant S_ .f32 0x358637BD#32))) : FVec Ideal S8x4096x1 .f32)))
    (broadcastInDim S8x4096x1024 ![0, 1, 2] bcast_S1x1x1024_S8x4096x1024_0_1_2 (broadcastInDim S1x1x1024 ![2] bcast_S1024_S1x1x1024_2 g))

section
variable (X : FVec Ideal S8x4096x1024 .f32) (Ya Yb : Vec Ideal S8x4096x512 .bf16) (G : Vec Ideal S32768x2048 .bf16)
  (A B : FVec Ideal S512x1024 .f32) (O : FVec Ideal S1024x1024 .f32) (g : FVec Ideal S1024 .f32)

/-- All rows after the merge. -/
def x1T : FVec Ideal S8x4096x1024 .f32 := sumT X (mixT (gateT G) (branchT Ya A) (branchT Yb B)) O

/-- The reference's first result, the new residual. -/
def out1 : FVec Ideal S32768x1024 .f32 := shapeCast S32768x1024 (x1T X Ya Yb G A B O) shapeCasts_S8x4096x1024_S32768x1024

/-- The reference's second result, its norm. -/
def out2 : FVec Ideal S32768x1024 .bf16 :=
  truncf .bf16 (shapeCast S32768x1024 (normT (x1T X Ya Yb G A B O) g) shapeCasts_S8x4096x1024_S32768x1024 : FVec Ideal S32768x1024 .f32) bitsLt_bf16_f32

/-- The gated sum at a position. -/
def mix (b : Fin 8) (s : Fin 4096) (d : Fin 1024) : EReal :=
  G (ix2 (tok b s) (⟨d.val, by omega⟩ : Fin 2048)) * (∑ c : Fin 512, Ya (ix3 b s c) * A (ix2 c d) : EReal)
    + G (ix2 (tok b s) (⟨1024 + d.val, by omega⟩ : Fin 2048)) * (∑ c : Fin 512, Yb (ix3 b s c) * B (ix2 c d) : EReal)

/-- The new residual at a position. -/
def row (b : Fin 8) (s : Fin 4096) (n : Fin 1024) : EReal := X (ix3 b s n) + ∑ d : Fin 1024, mix Ya Yb G A B b s d * O (ix2 d n)

/-- Its elements. -/
theorem x1T_at (b : Fin 8) (s : Fin 4096) (n : Fin 1024) : x1T X Ya Yb G A B O (ix3 b s n) = row X Ya Yb G A B O b s n := by
  pointwise [x1T, sumT, mixT, gateT, branchT]
  rfl

/-- The norm's elements. -/
theorem normT_at (x : FVec Ideal S8x4096x1024 .f32) (b : Fin 8) (s : Fin 4096) (n : Fin 1024) :
    normT x g (ix3 b s n) = rms (fun k => x (ix3 b s k)) (g (ix1 n)) n := by
  pointwise [normT]
  rfl

/-- The first result at a position. -/
theorem out1_at (b : Fin 8) (s : Fin 4096) (n : Fin 1024) : out1 X Ya Yb G A B O (ix2 (tok b s) n) = row X Ya Yb G A B O b s n := by
  have hb : (b.val * 4096 + s.val) / 4096 = b.val := by omega
  have hs : (b.val * 4096 + s.val) % 4096 = s.val := by omega
  rw [← x1T_at]
  pointwise [out1]
  simp only [hb, hs]

/-- The second result at a position. -/
theorem out2_at (b : Fin 8) (s : Fin 4096) (n : Fin 1024) :
    out2 X Ya Yb G A B O g (ix2 (tok b s) n) = rms (row X Ya Yb G A B O b s) (g (ix1 n)) n := by
  have hb : (b.val * 4096 + s.val) / 4096 = b.val := by omega
  have hs : (b.val * 4096 + s.val) % 4096 = s.val := by omega
  have e := normT_at g (x1T X Ya Yb G A B O) b s n
  simp only [x1T_at] at e
  refine Eq.trans ?_ e
  pointwise [out2]
  simp only [hb, hs]

end

end Cert.Proof.MergeRef
end
-- ==== Proof.MergeValue.lean ====
module
public import proofs.«01_k».proof.Proof.MergeBlock
public import proofs.«01_k».proof.Proof.MergeRef

/-!
  The merge's two arrays are the reference's results: a block's rows are rows of one sequence.
-/

@[expose] public section
set_option maxRecDepth 16384
noncomputable section
namespace Cert.Proof.Merge
open Cert.Kernel3Ideal Cert.Kernel3Ideal.Gen
open Idealize.ShloMosaic Idealize.ShloMosaic.TcCoe Idealize.SL.Sem
open Idealize.ShloMosaic.Pipeline (Dat)
open Cert.Proof.Rows (tok rms)
open Cert.Proof.MergeRef (row out1 out2)

variable (m : (ℓ : Loc nD τ sig) → Buf (Elt Ideal) ℓ)

/-- The reference's first result from the kernel's arguments. -/
abbrev ref1 (c : Dev nD) : Vec Ideal S32768x1024 .f32 :=
  out1 (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

/-- The reference's second result from the kernel's arguments. -/
abbrev ref2 (c : Dev nD) : Vec Ideal S32768x1024 .bf16 :=
  out2 (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7))

/-- The grid's points. -/
theorem point_lt (t : Fin cfg0.N) : t.val < 64 := lt_of_lt_of_eq t.isLt (by decide +kernel)

/-- The sequence of a block. -/
abbrev seq (t : Fin cfg0.N) : Fin 8 := ⟨t.val / 8, by have := point_lt t; omega⟩

/-- The position in its sequence of a block's row. -/
abbrev pos (t : Fin cfg0.N) (r : Fin 512) : Fin 4096 := ⟨512 * (t.val % 8) + r.val, by omega⟩

/-- Window 0 holds the residual's rows. -/
theorem block0 (c : Dev nD) (t : Fin cfg0.N) (r : Fin 512) (n : Fin 1024) :
    ((iblk m c 0 t : Vec Ideal S512x1024 .f32) (ix2 r n) : EReal) = (m ((c : Thread nD τ).loc main_arg0) : Vec Ideal S8x4096x1024 .f32) (ix3 (seq t) (pos t r) n) := by
  blk_point [iblk, V, idx t]

/-- Window 1 holds the first branch's rows. -/
theorem block1 (c : Dev nD) (t : Fin cfg0.N) (r : Fin 512) (n : Fin 512) :
    ((iblk m c 1 t : Vec Ideal S512x512 .bf16) (ix2 r n) : EReal) = (m ((c : Thread nD τ).loc main_arg1) : Vec Ideal S8x4096x512 .bf16) (ix3 (seq t) (pos t r) n) := by
  blk_point [iblk, V, idx t]

/-- Window 2 holds the second branch's rows. -/
theorem block2 (c : Dev nD) (t : Fin cfg0.N) (r : Fin 512) (n : Fin 512) :
    ((iblk m c 2 t : Vec Ideal S512x512 .bf16) (ix2 r n) : EReal) = (m ((c : Thread nD τ).loc main_arg2) : Vec Ideal S8x4096x512 .bf16) (ix3 (seq t) (pos t r) n) := by
  blk_point [iblk, V, idx t]

/-- Window 3 holds the gates' rows. -/
theorem block3 (c : Dev nD) (t : Fin cfg0.N) (r : Fin 512) (n : Fin 2048) :
    ((iblk m c 3 t : Vec Ideal S512x2048 .bf16) (ix2 r n) : EReal) = (m ((c : Thread nD τ).loc main_arg3) : Vec Ideal S32768x2048 .bf16) (ix2 (tok (seq t) (pos t r)) n) := by
  blk_ext [iblk, V, idx t]

/-- Window 4 holds the first branch's weights. -/
theorem block4 (c : Dev nD) (t : Fin cfg0.N) (d : Fin 512) (n : Fin 1024) :
    ((iblk m c 4 t : Vec Ideal S512x1024 .bf16) (ix2 d n) : EReal) = (m ((c : Thread nD τ).loc main_arg4) : Vec Ideal S512x1024 .f32) (ix2 d n) := by
  blk_point [iblk, V, idx t]

/-- Window 5 holds the second branch's weights. -/
theorem block5 (c : Dev nD) (t : Fin cfg0.N) (d : Fin 512) (n : Fin 1024) :
    ((iblk m c 5 t : Vec Ideal S512x1024 .bf16) (ix2 d n) : EReal) = (m ((c : Thread nD τ).loc main_arg5) : Vec Ideal S512x1024 .f32) (ix2 d n) := by
  blk_point [iblk, V, idx t]

/-- Window 6 holds the output projection. -/
theorem block6 (c : Dev nD) (t : Fin cfg0.N) (d : Fin 1024) (n : Fin 1024) :
    ((iblk m c 6 t : Vec Ideal S1024x1024 .bf16) (ix2 d n) : EReal) = (m ((c : Thread nD τ).loc main_arg6) : Vec Ideal S1024x1024 .f32) (ix2 d n) := by
  blk_point [iblk, V, idx t]

/-- Window 7 holds the norm's gains. -/
theorem block7 (c : Dev nD) (t : Fin cfg0.N) (n : Fin 1024) :
    ((iblk m c 7 t : Vec Ideal S1x1024 .f32) (ix2 0 n) : EReal) = (m ((c : Thread nD τ).loc main_arg7) : Vec Ideal S1024 .f32) (ix1 n) := by
  blk_point [iblk, V, idx t]

/-- A block's row is the reference's. -/
theorem row_eq (c : Dev nD) (t : Fin cfg0.N) (r : Fin 512) (n : Fin 1024) :
    rowB (iblk m c 0 t) (iblk m c 1 t) (iblk m c 2 t) (iblk m c 3 t) (iblk m c 4 t) (iblk m c 5 t) (iblk m c 6 t) r n
      = row (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
      (seq t) (pos t r) n := by
  unfold rowB row MergeRef.mix
  simp only [block0, block1, block2, block3, block4, block5, block6]

/-- A block's row in the array. -/
abbrev rowAt (t : Fin cfg0.N) (r : Fin 512) : Fin 32768 := ⟨512 * t.val + r.val, by have := point_lt t; omega⟩

/-- It is a row of one sequence. -/
theorem place (t : Fin cfg0.N) (r : Fin 512) : rowAt t r = tok (seq t) (pos t r) :=
  Fin.ext (by show 512 * t.val + r.val = t.val / 8 * 4096 + (512 * (t.val % 8) + r.val); omega)

/-- The first array is the reference's first result. -/
theorem final1 (c : Dev nD) : (dats m 0 c).arrAt 8 cfg0.N = ref1 m c := by
  refine (dats m 0 c).arrAt_eq_of_covers 8 _ (by decide +kernel) fun t _ y => ?_
  blk_simp
  rw [after0_8]
  have e : ref1 m c (ix2 (rowAt t (y 0)) (y 1 : Fin 1024)) = _ :=
    (congrArg (fun i => ref1 m c (ix2 i (y 1 : Fin 1024))) (place t (y 0))).trans (MergeRef.out1_at _ _ _ _ _ _ _ (seq t) (pos t (y 0)) (y 1))
  refine (out8_at _ _ _ _ _ _ _ _ y).trans ((row_eq m c t (y 0) (y 1)).trans (e.symm.trans (congrArg _ ?_)))
  blk_ext [idx t]

/-- The second array is the reference's second result. -/
theorem final2 (c : Dev nD) : (dats m 0 c).arrAt 9 cfg0.N = ref2 m c := by
  refine (dats m 0 c).arrAt_eq_of_covers 9 _ (by decide +kernel) fun t _ y => ?_
  blk_simp
  rw [after0_9]
  have e : ref2 m c (ix2 (rowAt t (y 0)) (y 1 : Fin 1024)) = _ :=
    (congrArg (fun i => ref2 m c (ix2 i (y 1 : Fin 1024))) (place t (y 0))).trans (MergeRef.out2_at _ _ _ _ _ _ _ _ (seq t) (pos t (y 0)) (y 1))
  refine (out9_at _ _ _ _ _ _ _ _ y).trans (Eq.trans ?_ (e.symm.trans (congrArg _ ?_)))
  · rw [block7 m c t (y 1)]
    exact congrArg (fun f => rms f _ (y 1)) (funext fun k => row_eq m c t (y 0) k)
  · blk_ext [idx t]

end Cert.Proof.Merge
end
-- ==== Proof.MergeClaims.lean ====
module

public import proofs.«01_k».proof.Defs
public import proofs.«01_k».proof.Proof.Gen.Kernel3.Frame
public import proofs.«01_k».proof.Proof.Gen.Reference3Ideal.Run
public import proofs.«01_k».proof.Proof.MergeValue
public import Idealize.ShloMosaic.Adequacy
public import Idealize.ShloMosaic.Init

/-!
  The claims about the merge: the frames of its three programs, and the equality of both results.
-/

@[expose] public section
noncomputable section
namespace Cert.Proof
open Idealize.ShloMosaic Idealize.ShloMosaic.TcCoe Idealize.SL.Sem

/-- The kernel as printed runs, keeps its arguments and ends with every counter at zero. -/
theorem frame_kernel3 : Cert.quiescent_Kernel3 := fun m ρ _ => Cert.Kernel3.Gen.frame m ρ

/-- So does the idealized kernel. -/
theorem frame_kernel3Ideal : Cert.quiescent_Kernel3Ideal := fun m ρ _ => Cert.Kernel3Ideal.Gen.frame m ρ

/-- So does the reference, which has no semaphore. -/
theorem frame_reference3 : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

/-- Nothing is replaced. -/
theorem preserves3 : Cert.preserves_Kernel3_Kernel3Ideal := trivial

/-- The idealized kernel and the idealized reference, from equal arguments, end with equal results and unchanged arguments. -/
theorem algebraic3 : Cert.algebraic_Kernel3Ideal_Reference3Ideal := fun m g m' g' _ hagree =>
  ⟨fun c => Merge.ref1 m c, fun c => Merge.ref2 m c,
    (θ_run Cert.Kernel3Ideal.defs _ _).mono (fun _ h c => ⟨(h c).1.trans (Merge.final1 m c), (h c).2.1.trans (Merge.final2 m c), (h c).2.2⟩)
      (Cert.Kernel3Ideal.Value.run_blocks (F := Ideal) m g),
    (θ_run Cert.Reference3Ideal.defs _ _).mono (fun _ h c => by
        obtain ⟨h0, h1, h2, h3, h4, h5, h6, h7⟩ := hagree c
        refine ⟨(h c).1.trans ?_, (h c).2.1.trans ?_, (h c).2.2⟩
        · rw [h0, h1, h2, h3, h4, h5, h6]
          rfl
        · rw [h0, h1, h2, h3, h4, h5, h6, h7]
          rfl)
      (Cert.Reference3Ideal.Value.run (F := Ideal) m' g')⟩

end Cert.Proof
end
-- ==== Proof.InprojBlock.lean ====
module
public import proofs.«01_k».proof.Proof.Gen.Kernel4Ideal.Value
public import proofs.«01_k».proof.Proof.Rows
public import Idealize.ShloMosaic.Lib.Pipeline.ValueKit

/-!
  What the input projection's kernel computes in one block of 512 positions, read at an index: each half of the block on its own.
-/

@[expose] public section
set_option maxRecDepth 16384
noncomputable section
namespace Cert.Proof.Inproj
open Cert.Kernel4Ideal Cert.Kernel4Ideal.Gen
open Idealize.ShloMosaic Idealize.ShloMosaic.TcCoe
open Cert.Proof.Rows (rms)

/-- The sigmoid as the kernel writes it. -/
def sigm (z : EReal) : EReal := Ideal.div 1 (1 + Ideal.exp (0 - z))

/-- The norm of the first half's rows. -/
theorem pay3_at (v : Vec Ideal S256x1024 .f32) (g : Vec Ideal S1x1024 .f32) (r : Fin 256) (d : Fin 1024) :
    k0_pay3 v g (ix2 r d) = rms (fun k => v (ix2 r k)) (g (ix2 0 d)) d := by
  pointwise [k0_pay3]
  rfl

/-- The norm of the second half's rows. -/
theorem pay9_at (v : Vec Ideal S256x1024 .f32) (g : Vec Ideal S1x1024 .f32) (r : Fin 256) (d : Fin 1024) :
    k0_pay9 v g (ix2 r d) = rms (fun k => v (ix2 r k)) (g (ix2 0 d)) d := by
  pointwise [k0_pay9]
  rfl

/-- The first half's products, the first group. -/
theorem pay4_at (v : Vec Ideal S256x1024 .f32) (g : Vec Ideal S1x1024 .f32) (w : Vec Ideal S1024x1536 .bf16) (r : Fin 256) (n : Fin 1536) :
    k0_pay4 v g w (ix2 r n) = (∑ d : Fin 1024, rms (fun k => v (ix2 r k)) (g (ix2 0 d)) d * w (ix2 d n) : EReal) := by
  simp only [← pay3_at]
  pointwise [k0_pay4]

/-- The first half's products, the second group. -/
theorem pay5_at (v : Vec Ideal S256x1024 .f32) (g : Vec Ideal S1x1024 .f32) (w : Vec Ideal S1024x512 .bf16) (r : Fin 256) (n : Fin 512) :
    k0_pay5 v g w (ix2 r n) = (∑ d : Fin 1024, rms (fun k => v (ix2 r k)) (g (ix2 0 d)) d * w (ix2 d n) : EReal) := by
  simp only [← pay3_at]
  pointwise [k0_pay5]

/-- The first half's products, the third group. -/
theorem pay6_at (v : Vec Ideal S256x1024 .f32) (g : Vec Ideal S1x1024 .f32) (w : Vec Ideal S1024x1536 .bf16) (r : Fin 256) (n : Fin 1536) :
    k0_pay6 v g w (ix2 r n) = (∑ d : Fin 1024, rms (fun k => v (ix2 r k)) (g (ix2 0 d)) d * w (ix2 d n) : EReal) := by
  simp only [← pay3_at]
  pointwise [k0_pay6]

/-- The second half's products, the first group. -/
theorem pay10_at (v : Vec Ideal S256x1024 .f32) (g : Vec Ideal S1x1024 .f32) (w : Vec Ideal S1024x1536 .bf16) (r : Fin 256) (n : Fin 1536) :
    k0_pay10 v g w (ix2 r n) = (∑ d : Fin 1024, rms (fun k => v (ix2 r k)) (g (ix2 0 d)) d * w (ix2 d n) : EReal) := by
  simp only [← pay9_at]
  pointwise [k0_pay10]

/-- The second half's products, the second group. -/
theorem pay11_at (v : Vec Ideal S256x1024 .f32) (g : Vec Ideal S1x1024 .f32) (w : Vec Ideal S1024x512 .bf16) (r : Fin 256) (n : Fin 512) :
    k0_pay11 v g w (ix2 r n) = (∑ d : Fin 1024, rms (fun k => v (ix2 r k)) (g (ix2 0 d)) d * w (ix2 d n) : EReal) := by
  simp only [← pay9_at]
  pointwise [k0_pay11]

/-- The second half's products, the third group. -/
theorem pay1_at (u : FVec Ideal S256x1024 .bf16) (w : Vec Ideal S1024x1536 .bf16) (r : Fin 256) (n : Fin 1536) :
    k0_pay1 u w (ix2 r n) = (∑ d : Fin 1024, u (ix2 r d) * w (ix2 d n) : EReal) := by
  pointwise [k0_pay1]

/-- The second half's gates. -/
theorem pay2_at (u : FVec Ideal S256x1024 .bf16) (w : Vec Ideal S1024x2048 .bf16) (r : Fin 256) (n : Fin 2048) :
    k0_pay2 u w (ix2 r n) = sigm (∑ d : Fin 1024, u (ix2 r d) * w (ix2 d n) : EReal) := by
  pointwise [k0_pay2]
  rfl

/-- The first half's gates. -/
theorem pay8_at (u : FVec Ideal S256x1024 .bf16) (w : Vec Ideal S1024x2048 .bf16) (r : Fin 256) (n : Fin 2048) :
    k0_pay8 u (k0_pay7 w) (constant S256x2048 .f32 0x00000000#32) (ix2 r n) = sigm (∑ d : Fin 1024, u (ix2 r d) * w (ix2 d n) : EReal) := by
  pointwise [k0_pay8, k0_pay7]
  rfl

section
variable (x0 : Vec Ideal S512x1024 .f32) (x1 : Vec Ideal S1x1024 .f32) (x2 : Vec Ideal S1024x1536 .bf16) (x3 : Vec Ideal S1024x512 .bf16)
  (x4 : Vec Ideal S1024x1536 .bf16) (x5 : Vec Ideal S1024x2048 .bf16)

/-- A normalised row, from the blocks. -/
def hB (r : Fin 512) (d : Fin 1024) : EReal := rms (fun k => x0 (ix2 r k)) (x1 (ix2 0 d)) d

/-- The first half's. -/
theorem lo_at (r : Fin 256) (d : Fin 1024) : rms (fun k => View.ld x0 r0_0 (ix2 r k)) (x1 (ix2 0 d)) d = hB x0 x1 ⟨0 + r.val, by omega⟩ d :=
  congrArg (fun f : Fin 1024 → EReal => rms f (x1 (ix2 0 d)) d) (funext fun k => View.ld_unit_apply_of _ _ _ _ _ _ (fun a => by fin_cases a <;> simp))

/-- The second half's. -/
theorem hi_at (r : Fin 256) (d : Fin 1024) : rms (fun k => View.ld x0 r0_8 (ix2 r k)) (x1 (ix2 0 d)) d = hB x0 x1 ⟨256 + r.val, by omega⟩ d :=
  congrArg (fun f : Fin 1024 → EReal => rms f (x1 (ix2 0 d)) d) (funext fun k => View.ld_unit_apply_of _ _ _ _ _ _ (fun a => by fin_cases a <;> simp))

/-- The first half's rows in a block of 1536 columns. -/
theorem emb_3 (r : Fin 256) (n : Fin 1536) : r0_3.emb (ix2 r n) 0 = (⟨0 + r.val, by omega⟩ : Fin 512) ∧ r0_3.emb (ix2 r n) 1 = n :=
  ⟨Fin.ext (by show 0 + 1 * r.val = 0 + r.val; omega), Fin.ext (by show 0 + 1 * n.val = n.val; omega)⟩

/-- The second half's rows in a block of 1536 columns. -/
theorem emb_9 (r : Fin 256) (n : Fin 1536) : r0_9.emb (ix2 r n) 0 = (⟨256 + r.val, by omega⟩ : Fin 512) ∧ r0_9.emb (ix2 r n) 1 = n :=
  ⟨Fin.ext (by show 256 + 1 * r.val = 256 + r.val; omega), Fin.ext (by show 0 + 1 * n.val = n.val; omega)⟩

/-- The first half's rows in a block of 512 columns. -/
theorem emb_5 (r : Fin 256) (n : Fin 512) : r0_5.emb (ix2 r n) 0 = (⟨0 + r.val, by omega⟩ : Fin 512) ∧ r0_5.emb (ix2 r n) 1 = n :=
  ⟨Fin.ext (by show 0 + 1 * r.val = 0 + r.val; omega), Fin.ext (by show 0 + 1 * n.val = n.val; omega)⟩

/-- The second half's rows in a block of 512 columns. -/
theorem emb_10 (r : Fin 256) (n : Fin 512) : r0_10.emb (ix2 r n) 0 = (⟨256 + r.val, by omega⟩ : Fin 512) ∧ r0_10.emb (ix2 r n) 1 = n :=
  ⟨Fin.ext (by show 256 + 1 * r.val = 256 + r.val; omega), Fin.ext (by show 0 + 1 * n.val = n.val; omega)⟩

/-- The first half's rows in a block of 2048 columns. -/
theorem emb_7 (r : Fin 256) (n : Fin 2048) : r0_7.emb (ix2 r n) 0 = (⟨0 + r.val, by omega⟩ : Fin 512) ∧ r0_7.emb (ix2 r n) 1 = n :=
  ⟨Fin.ext (by show 0 + 1 * r.val = 0 + r.val; omega), Fin.ext (by show 0 + 1 * n.val = n.val; omega)⟩

/-- The second half's rows in a block of 2048 columns. -/
theorem emb_11 (r : Fin 256) (n : Fin 2048) : r0_11.emb (ix2 r n) 0 = (⟨256 + r.val, by omega⟩ : Fin 512) ∧ r0_11.emb (ix2 r n) 1 = n :=
  ⟨Fin.ext (by show 256 + 1 * r.val = 256 + r.val; omega), Fin.ext (by show 0 + 1 * n.val = n.val; omega)⟩

/-- An index of a half is a row and a column. -/
theorem half_idx {N : ℕ} (i : (⟨2, ![256, N]⟩ : Shape).Idx) : ∃ (r : Fin 256) (n : Fin N), i = ix2 r n := ⟨i 0, i 1, by funext a; fin_cases a <;> rfl⟩

/-- What the body leaves in the first result's block. -/
theorem out6_at (y : S512x1536.Idx) : out0_6 x0 x1 x2 x3 x4 x5 y = (∑ d : Fin 1024, hB x0 x1 (y 0) d * x2 (ix2 d (y 1)) : EReal) := by
  unfold out0_6
  refine View.canon_apply_of_pieces (Val := Elt Ideal) (fun y => (∑ d : Fin 1024, hB x0 x1 (y 0) d * x2 (ix2 d (y 1)) : EReal)) _ ?_ y (cover0_6 _ _ y)
  have hz : (![0, 0] : Fin 2 → ℕ) = fun _ => 0 := by funext a; fin_cases a <;> rfl
  have e1 : View.ld x1 r0_1 = x1 := by rw [View.ld_unit_zero (h := hz)]
  have ew : View.ld x2 r0_2 = x2 := by rw [View.ld_unit_zero (h := hz)]
  intro p hp i
  simp only [List.mem_cons, List.not_mem_nil, or_false] at hp
  rcases hp with rfl | rfl
  · obtain ⟨r, n, rfl⟩ := half_idx i
    refine (pay10_at _ _ _ r n).trans ?_
    show _ = (∑ d : Fin 1024, hB x0 x1 (r0_9.emb (ix2 r n) 0) d * x2 (ix2 d (r0_9.emb (ix2 r n) 1)) : EReal)
    rw [(emb_9 r n).1, (emb_9 r n).2]
    simp only [e1, hi_at]
    rw [ew]
  · obtain ⟨r, n, rfl⟩ := half_idx i
    refine (pay4_at _ _ _ r n).trans ?_
    show _ = (∑ d : Fin 1024, hB x0 x1 (r0_3.emb (ix2 r n) 0) d * x2 (ix2 d (r0_3.emb (ix2 r n) 1)) : EReal)
    rw [(emb_3 r n).1, (emb_3 r n).2]
    simp only [e1, lo_at]
    rw [ew]

/-- What the body leaves in the second result's block. -/
theorem out7_at (y : S512x512.Idx) : out0_7 x0 x1 x2 x3 x4 x5 y = (∑ d : Fin 1024, hB x0 x1 (y 0) d * x3 (ix2 d (y 1)) : EReal) := by
  unfold out0_7
  refine View.canon_apply_of_pieces (Val := Elt Ideal) (fun y => (∑ d : Fin 1024, hB x0 x1 (y 0) d * x3 (ix2 d (y 1)) : EReal)) _ ?_ y (cover0_7 _ _ y)
  have hz : (![0, 0] : Fin 2 → ℕ) = fun _ => 0 := by funext a; fin_cases a <;> rfl
  have e1 : View.ld x1 r0_1 = x1 := by rw [View.ld_unit_zero (h := hz)]
  have ew : View.ld x3 r0_4 = x3 := by rw [View.ld_unit_zero (h := hz)]
  intro p hp i
  simp only [List.mem_cons, List.not_mem_nil, or_false] at hp
  rcases hp with rfl | rfl
  · obtain ⟨r, n, rfl⟩ := half_idx i
    refine (pay11_at _ _ _ r n).trans ?_
    show _ = (∑ d : Fin 1024, hB x0 x1 (r0_10.emb (ix2 r n) 0) d * x3 (ix2 d (r0_10.emb (ix2 r n) 1)) : EReal)
    rw [(emb_10 r n).1, (emb_10 r n).2]
    simp only [e1, hi_at]
    rw [ew]
  · obtain ⟨r, n, rfl⟩ := half_idx i
    refine (pay5_at _ _ _ r n).trans ?_
    show _ = (∑ d : Fin 1024, hB x0 x1 (r0_5.emb (ix2 r n) 0) d * x3 (ix2 d (r0_5.emb (ix2 r n) 1)) : EReal)
    rw [(emb_5 r n).1, (emb_5 r n).2]
    simp only [e1, lo_at]
    rw [ew]

/-- What the body leaves in the third result's block. -/
theorem out8_at (y : S512x1536.Idx) : out0_8 x0 x1 x2 x3 x4 x5 y = (∑ d : Fin 1024, hB x0 x1 (y 0) d * x4 (ix2 d (y 1)) : EReal) := by
  unfold out0_8
  refine View.canon_apply_of_pieces (Val := Elt Ideal) (fun y => (∑ d : Fin 1024, hB x0 x1 (y 0) d * x4 (ix2 d (y 1)) : EReal)) _ ?_ y (cover0_8 _ _ y)
  have hz : (![0, 0] : Fin 2 → ℕ) = fun _ => 0 := by funext a; fin_cases a <;> rfl
  have e1 : View.ld x1 r0_1 = x1 := by rw [View.ld_unit_zero (h := hz)]
  have ew : View.ld x4 r0_2 = x4 := by rw [View.ld_unit_zero (h := hz)]
  intro p hp i
  simp only [List.mem_cons, List.not_mem_nil, or_false] at hp
  rcases hp with rfl | rfl
  · obtain ⟨r, n, rfl⟩ := half_idx i
    refine (pay1_at _ _ r n).trans ?_
    show _ = (∑ d : Fin 1024, hB x0 x1 (r0_9.emb (ix2 r n) 0) d * x4 (ix2 d (r0_9.emb (ix2 r n) 1)) : EReal)
    rw [(emb_9 r n).1, (emb_9 r n).2]
    unfold k0_pay12
    simp only [pay9_at, e1, hi_at]
    rw [ew]
  · obtain ⟨r, n, rfl⟩ := half_idx i
    refine (pay6_at _ _ _ r n).trans ?_
    show _ = (∑ d : Fin 1024, hB x0 x1 (r0_3.emb (ix2 r n) 0) d * x4 (ix2 d (r0_3.emb (ix2 r n) 1)) : EReal)
    rw [(emb_3 r n).1, (emb_3 r n).2]
    simp only [e1, lo_at]
    rw [ew]

/-- What the body leaves in the fourth result's block. -/
theorem out9_at (y : S512x2048.Idx) : out0_9 x0 x1 x2 x3 x4 x5 y = sigm (∑ d : Fin 1024, hB x0 x1 (y 0) d * x5 (ix2 d (y 1)) : EReal) := by
  unfold out0_9
  refine View.canon_apply_of_pieces (Val := Elt Ideal) (fun y => sigm (∑ d : Fin 1024, hB x0 x1 (y 0) d * x5 (ix2 d (y 1)) : EReal)) _ ?_ y (cover0_9 _ _ y)
  have hz : (![0, 0] : Fin 2 → ℕ) = fun _ => 0 := by funext a; fin_cases a <;> rfl
  have e1 : View.ld x1 r0_1 = x1 := by rw [View.ld_unit_zero (h := hz)]
  have ew : View.ld x5 r0_6 = x5 := by rw [View.ld_unit_zero (h := hz)]
  intro p hp i
  simp only [List.mem_cons, List.not_mem_nil, or_false] at hp
  rcases hp with rfl | rfl
  · obtain ⟨r, n, rfl⟩ := half_idx i
    refine (pay2_at _ _ r n).trans ?_
    show _ = sigm (∑ d : Fin 1024, hB x0 x1 (r0_11.emb (ix2 r n) 0) d * x5 (ix2 d (r0_11.emb (ix2 r n) 1)) : EReal)
    rw [(emb_11 r n).1, (emb_11 r n).2]
    unfold k0_pay12
    simp only [pay9_at, e1, hi_at]
    rw [ew]
  · obtain ⟨r, n, rfl⟩ := half_idx i
    refine (pay8_at _ _ r n).trans ?_
    show _ = sigm (∑ d : Fin 1024, hB x0 x1 (r0_7.emb (ix2 r n) 0) d * x5 (ix2 d (r0_7.emb (ix2 r n) 1)) : EReal)
    rw [(emb_7 r n).1, (emb_7 r n).2]
    simp only [pay3_at, e1, lo_at]
    rw [ew]

end

/-- The windows' blocks: of the rows 512, the weights whole. -/
theorem idx : ∀ t : Fin cfg0.N, win0_0.index t = ![t.val, 0] ∧ win0_1.index t = ![0, 0] ∧ win0_2.index t = ![0, 0] ∧ win0_3.index t = ![0, 0]
   ∧ win0_4.index t = ![0, 0] ∧ win0_5.index t = ![0, 0] ∧ win0_6.index t = ![t.val, 0] ∧ win0_7.index t = ![t.val, 0]
   ∧ win0_8.index t = ![t.val, 0] ∧ win0_9.index t = ![t.val, 0] :=
  (by decide +kernel : ∀ t : Fin grid0.N, _)

end Cert.Proof.Inproj
end
-- ==== Proof.InprojRef.lean ====
module
public import proofs.«01_k».proof.Proof.Gen.Reference4Ideal.Run
public import proofs.«01_k».proof.Proof.Rows

/-!
  The input projection's reference read at an index: the norm of every row, its product with the weights, and the four groups of
  columns, of which the second is set out with zeros between its parts and the last goes through a sigmoid.
-/

@[expose] public section
noncomputable section
namespace Cert.Proof.InprojRef
open Cert.Reference4Ideal Cert.Reference4Ideal.Gen
open Idealize.ShloMosaic Idealize.ShloMosaic.TcCoe
open Cert.Proof.Rows (tok rms)

/-- The norm of every row. -/
def normT (x : FVec Ideal S8x4096x1024 .f32) (g : FVec Ideal S1024 .f32) : FVec Ideal S8x4096x1024 .f32 :=
  mulf (mulf x (broadcastInDim S8x4096x1024 ![0, 1, 2] bcast_S8x4096x1_S8x4096x1024_0_1_2
      (Host.rsqrt (addf (Host.divf (broadcastInDim S8x4096x1 ![0, 1] bcast_S8x4096_S8x4096x1_0_1
          (Host.reduceAdd (mulf x x) (constant S_ .f32 0x00000000#32) reducesTo_S8x4096x1024_S8x4096_d2 h_S_))
        (broadcastInDim S8x4096x1 ![] bcast_S_S8x4096x1 (constant S_ .f32 0x44800000#32)))
        (broadcastInDim S8x4096x1 ![] bcast_S_S8x4096x1 (constant S_ .f32 0x358637BD#32))) : FVec Ideal S8x4096x1 .f32)))
    (broadcastInDim S8x4096x1024 ![0, 1, 2] bcast_S1x1x1024_S8x4096x1024_0_1_2 (broadcastInDim S1x1x1024 ![2] bcast_S1024_S1x1x1024_2 g))

/-- All columns of the projection. -/
def projT (h : FVec Ideal S8x4096x1024 .f32) (W : FVec Ideal S1024x5408 .f32) : FVec Ideal S32768x5408 .f32 :=
  shapeCast S32768x5408 (Host.dotGeneral dot_S8x4096x1024_S1024x5408_S8x4096x5408_2_0_01_1_n_n none h W : FVec Ideal S8x4096x5408 .f32) shapeCasts_S8x4096x5408_S32768x5408

/-- Sixty-four columns set out over 128. -/
def wideT (a : FVec Ideal S32768x64 .f32) : FVec Ideal S32768x128 .f32 :=
  pad S32768x128 ![0, 0] ![0, 64] ![0, 0] a (sitofp .f32 (constantI S_ 32 0#32) : FVec Ideal S_ .f32) pads_S32768x64_S32768x128_000_0640 h_S_

/-- The second group, set out. -/
def loraT (p : FVec Ideal S32768x5408 .f32) : FVec Ideal S32768x512 .f32 :=
  concatenate S32768x512 1 [⟨S32768x128, wideT (extractStridedSlice S32768x64 ![0, 1536] p slices_S32768x5408_S32768x64_0_1536)⟩,
    ⟨S32768x128, wideT (extractStridedSlice S32768x64 ![0, 1600] p slices_S32768x5408_S32768x64_0_1600)⟩,
    ⟨S32768x256, pad S32768x256 ![0, 0] ![0, 96] ![0, 0] (extractStridedSlice S32768x160 ![0, 1664] p slices_S32768x5408_S32768x160_0_1664 : FVec Ideal S32768x160 .f32)
      (sitofp .f32 (constantI S_ 32 0#32) : FVec Ideal S_ .f32) pads_S32768x160_S32768x256_000_0960 h_S_⟩]
    concatenates_S32768x128_S32768x128_S32768x256_S32768x512_d1

/-- The gates. -/
def gateT (p : FVec Ideal S32768x5408 .f32) : FVec Ideal S32768x2048 .bf16 :=
  truncf .bf16 (Host.divf (broadcastInDim S32768x2048 ![] bcast_S_S32768x2048 (constant S_ .f32 0x3F800000#32))
    (addf (broadcastInDim S32768x2048 ![] bcast_S_S32768x2048 (constant S_ .f32 0x3F800000#32))
      (Host.exp (Host.negf (extractStridedSlice S32768x2048 ![0, 3360] p slices_S32768x5408_S32768x2048_0_3360 : FVec Ideal S32768x2048 .f32)))) : FVec Ideal S32768x2048 .f32)
    bitsLt_bf16_f32

section
variable (x : FVec Ideal S8x4096x1024 .f32) (g : FVec Ideal S1024 .f32) (W : FVec Ideal S1024x5408 .f32)

/-- The reference's first result. -/
def out1 : FVec Ideal S32768x1536 .f32 := extractStridedSlice S32768x1536 ![0, 0] (projT (normT x g) W) slices_S32768x5408_S32768x1536_0_0

/-- The reference's second result. -/
def out2 : FVec Ideal S32768x512 .f32 := loraT (projT (normT x g) W)

/-- The reference's third result. -/
def out3 : FVec Ideal S32768x1536 .f32 := extractStridedSlice S32768x1536 ![0, 1824] (projT (normT x g) W) slices_S32768x5408_S32768x1536_0_1824

/-- The reference's fourth result. -/
def out4 : FVec Ideal S32768x2048 .bf16 := gateT (projT (normT x g) W)

/-- A column of the projection at a position. -/
def proj (b : Fin 8) (s : Fin 4096) (f : Fin 5408) : EReal := ∑ d : Fin 1024, rms (fun k => x (ix3 b s k)) (g (ix1 d)) d * W (ix2 d f)

/-- The norm's elements. -/
theorem normT_at (b : Fin 8) (s : Fin 4096) (n : Fin 1024) : normT x g (ix3 b s n) = rms (fun k => x (ix3 b s k)) (g (ix1 n)) n := by
  pointwise [normT]
  rfl

/-- The projection's elements. -/
theorem projT_at (b : Fin 8) (s : Fin 4096) (f : Fin 5408) : projT (normT x g) W (ix2 (tok b s) f) = proj x g W b s f := by
  have hb : (b.val * 4096 + s.val) / 4096 = b.val := by omega
  have hs : (b.val * 4096 + s.val) % 4096 = s.val := by omega
  unfold proj
  simp only [← normT_at]
  pointwise [projT]
  simp only [hb, hs]

/-- The second group's columns set out: 64, 64 zeros, 64, 64 zeros, 160 and 96 zeros. -/
def spread (f : Fin 5408 → EReal) (n : Fin 512) : EReal :=
  if n.val < 64 then f ⟨1536 + n.val, by omega⟩ else if n.val < 128 then 0 else if n.val < 192 then f ⟨1472 + n.val, by omega⟩ else if n.val < 256 then 0
  else if n.val < 416 then f ⟨1408 + n.val, by omega⟩ else 0

/-- The first result at a position. -/
theorem out1_at (b : Fin 8) (s : Fin 4096) (n : Fin 1536) : out1 x g W (ix2 (tok b s) n) = proj x g W b s ⟨n.val, by omega⟩ := by
  rw [← projT_at]
  pointwise [out1]

/-- The third result at a position. -/
theorem out3_at (b : Fin 8) (s : Fin 4096) (n : Fin 1536) : out3 x g W (ix2 (tok b s) n) = proj x g W b s ⟨1824 + n.val, by omega⟩ := by
  rw [← projT_at]
  pointwise [out3]

/-- The fourth result at a position. -/
theorem out4_at (b : Fin 8) (s : Fin 4096) (n : Fin 2048) : out4 x g W (ix2 (tok b s) n)
    = Ideal.div 1 (1 + Ideal.exp (0 - proj x g W b s ⟨3360 + n.val, by omega⟩)) := by
  rw [← projT_at]
  pointwise [out4, gateT]
  rw [zero_sub]

/-- The padding is zero. -/
theorem pad_zero : (FloatOps.sitofp (F := Ideal) FTy.f32 0#32 : EReal) = 0 := by
  show (((0#32 : BitVec 32).toInt : ℝ) : EReal) = 0
  simp

/-- Set-out columns. -/
theorem wideT_at (a : FVec Ideal S32768x64 .f32) (r : Fin 32768) (n : Fin 128) :
    wideT a (ix2 r n) = if h : n.val < 64 then a (ix2 r (⟨n.val, h⟩ : Fin 64)) else (0 : EReal) := by
  pointwise [wideT]
  rw [pad_zero]

/-- A sum of products over set-out columns is the sums set out. -/
theorem sum_spread (h : Fin 1024 → EReal) (f : Fin 1024 → Fin 5408 → EReal) (n : Fin 512) :
    ∑ d : Fin 1024, h d * spread (f d) n = spread (fun c => ∑ d : Fin 1024, h d * f d c) n := by
  unfold spread
  split_ifs <;> first | rfl | exact Finset.sum_eq_zero fun d _ => mul_zero _

/-- The set-out group's elements. -/
theorem loraT_at (p : FVec Ideal S32768x5408 .f32) (r : Fin 32768) (n : Fin 512) : loraT p (ix2 r n) = spread (fun f => p (ix2 r f)) n := by
  have e (o : ℕ) (h : S32768x5408.Slices ![0, o] S32768x64) (k : Fin 128) (hk : o + k.val < 5408) : wideT (extractStridedSlice S32768x64 ![0, o] p h) (ix2 r k)
      = if k.val < 64 then p (ix2 r (⟨o + k.val, hk⟩ : Fin 5408)) else (0 : EReal) := by
    rw [wideT_at]
    by_cases hk' : k.val < 64
    · rw [dif_pos hk', if_pos hk']
      pointwise []
    · rw [dif_neg hk', if_neg hk']
  have hx (i j : Fin 5408) (h : i.val = j.val) : p (ix2 r i) = p (ix2 r j) := by rw [Fin.ext h]
  pointwise [loraT]
  rw [pad_zero]
  unfold spread
  have hn := n.isLt
  by_cases h1 : n.val < 128
  · refine (dif_pos h1).trans ((e 1536 _ _ (by show 1536 + n.val < _; omega)).trans ?_)
    by_cases h2 : n.val < 64
    · simp only [h2, ↓reduceIte]
    · simp only [h1, h2, ↓reduceIte]
  · have h64 : ¬ n.val < 64 := by omega
    refine (dif_neg h1).trans ?_
    simp only [h1, h64, ↓reduceIte]
    by_cases h2 : n.val - 128 < 128
    · have h256 : n.val < 256 := by omega
      refine (dif_pos h2).trans ((e 1600 _ _ (by show 1600 + (n.val - 128) < _; omega)).trans ?_)
      by_cases h3 : n.val < 192
      · have h' : n.val - 128 < 64 := by omega
        simp only [h3, h', ↓reduceIte]
        exact hx _ _ (by show 1600 + (n.val - 128) = 1472 + n.val; omega)
      · have h' : ¬ n.val - 128 < 64 := by omega
        simp only [h3, h', h256, ↓reduceIte]
    · have h192 : ¬ n.val < 192 := by omega
      have h256 : ¬ n.val < 256 := by omega
      refine (dif_neg h2).trans ?_
      simp only [h192, h256, ↓reduceIte]
      by_cases h3 : n.val < 416
      · have h' : n.val - 128 - 128 < 160 := by omega
        refine (dif_pos h').trans ?_
        simp only [h3, ↓reduceIte]
        exact hx _ _ (by show 1664 + (n.val - 128 - 128) = 1408 + n.val; omega)
      · have h' : ¬ n.val - 128 - 128 < 160 := by omega
        refine (dif_neg h').trans ?_
        simp only [h3, ↓reduceIte]

/-- The second result at a position. -/
theorem out2_at (b : Fin 8) (s : Fin 4096) (n : Fin 512) : out2 x g W (ix2 (tok b s) n) = spread (proj x g W b s) n := by
  refine (loraT_at _ _ n).trans ?_
  simp only [projT_at]

end

end Cert.Proof.InprojRef
end
-- ==== Proof.InprojEntry.lean ====
module
public import proofs.«01_k».proof.Proof.Gen.Kernel4Ideal.Value
public import proofs.«01_k».proof.Proof.InprojRef

/-!
  The padded weights the input projection's kernel is given: the host's operations before it, read at an index.
-/

@[expose] public section
set_option maxRecDepth 16384
noncomputable section
namespace Cert.Proof.Inproj
open Cert.Kernel4Ideal Cert.Kernel4Ideal.Gen
open Idealize.ShloMosaic Idealize.ShloMosaic.TcCoe Idealize.SL.Sem
open Cert.Proof.InprojRef (spread)

/-- The second group's columns of the weights. -/
def groupT (W : FVec Ideal S1024x5408 .f32) : FVec Ideal S1024x288 .f32 := extractStridedSlice S1024x288 ![0, 1536] W slices_S1024x5408_S1024x288_0_1536

/-- They are set out over 512 columns. -/
def setT (a0 a1 a2 a3 : FVec Ideal S1024x64 .f32) (a4 : FVec Ideal S1024x160 .f32) (a5 : FVec Ideal S1024x96 .f32) : FVec Ideal S1024x512 .f32 :=
  concatenate S1024x512 1 [⟨S1024x64, a0⟩, ⟨S1024x64, a1⟩, ⟨S1024x64, a2⟩, ⟨S1024x64, a3⟩, ⟨S1024x160, a4⟩, ⟨S1024x96, a5⟩]
    concatenates_S1024x64_S1024x64_S1024x64_S1024x64_S1024x160_S1024x96_S1024x512_d1

/-- The padded weights. -/
def paddedT (W : FVec Ideal S1024x5408 .f32) : FVec Ideal S1024x512 .f32 :=
  setT (extractStridedSlice S1024x64 ![0, 0] (groupT W) slices_S1024x288_S1024x64_0_0)
    (broadcastInDim S1024x64 ![] bcast_S_S1024x64 (constant S_ .f32 0x00000000#32))
    (extractStridedSlice S1024x64 ![0, 64] (groupT W) slices_S1024x288_S1024x64_0_64)
    (broadcastInDim S1024x64 ![] bcast_S_S1024x64 (constant S_ .f32 0x00000000#32))
    (extractStridedSlice S1024x160 ![0, 128] (groupT W) slices_S1024x288_S1024x160_0_128)
    (broadcastInDim S1024x96 ![] bcast_S_S1024x96 (constant S_ .f32 0x00000000#32))

/-- A slice of the second group, at an index. -/
theorem slice_at (W : FVec Ideal S1024x5408 .f32) (o : ℕ) (h : S1024x288.Slices ![0, o] S1024x64) (d : Fin 1024) (k : Fin 64) (hk : 1536 + (o + k.val) < 5408) :
    extractStridedSlice S1024x64 ![0, o] (groupT W) h (ix2 d k) = W (ix2 d (⟨1536 + (o + k.val), hk⟩ : Fin 5408)) := by
  pointwise [groupT]

/-- The last part of the second group, at an index. -/
theorem tail_at (W : FVec Ideal S1024x5408 .f32) (d : Fin 1024) (k : Fin 160) :
    extractStridedSlice S1024x160 ![0, 128] (groupT W) slices_S1024x288_S1024x160_0_128 (ix2 d k) = W (ix2 d (⟨1664 + k.val, by omega⟩ : Fin 5408)) := by
  pointwise [groupT]
  exact congrArg (fun i => W (ix2 d i)) (Fin.ext (by show 1536 + (128 + k.val) = 1664 + k.val; omega))

/-- The parts' places among the 512 columns. -/
theorem setT_at (a0 a1 a2 a3 : FVec Ideal S1024x64 .f32) (a4 : FVec Ideal S1024x160 .f32) (a5 : FVec Ideal S1024x96 .f32) (d : Fin 1024) (n : Fin 512) :
    setT a0 a1 a2 a3 a4 a5 (ix2 d n)
      = if h0 : n.val < 64 then a0 (ix2 d (⟨n.val, h0⟩ : Fin 64)) else if h1 : n.val - 64 < 64 then a1 (ix2 d (⟨n.val - 64, h1⟩ : Fin 64))
        else if h2 : n.val - 64 - 64 < 64 then a2 (ix2 d (⟨n.val - 64 - 64, h2⟩ : Fin 64))
        else if h3 : n.val - 64 - 64 - 64 < 64 then a3 (ix2 d (⟨n.val - 64 - 64 - 64, h3⟩ : Fin 64))
        else if h4 : n.val - 64 - 64 - 64 - 64 < 160 then a4 (ix2 d (⟨n.val - 64 - 64 - 64 - 64, h4⟩ : Fin 160))
        else a5 (ix2 d (⟨n.val - 64 - 64 - 64 - 64 - 160, by omega⟩ : Fin 96)) := by
  pointwise [setT]

/-- The padded weights' elements. -/
theorem paddedT_at (W : FVec Ideal S1024x5408 .f32) (d : Fin 1024) (n : Fin 512) : paddedT W (ix2 d n) = spread (fun f => W (ix2 d f)) n := by
  have hx (i j : Fin 5408) (h : i.val = j.val) : W (ix2 d i) = W (ix2 d j) := by rw [Fin.ext h]
  have hz (k : Fin 64) : (broadcastInDim S1024x64 ![] bcast_S_S1024x64 (constant S_ .f32 0x00000000#32) : FVec Ideal S1024x64 .f32) (ix2 d k) = (0 : EReal) := by pointwise []
  have hz' (k : Fin 96) : (broadcastInDim S1024x96 ![] bcast_S_S1024x96 (constant S_ .f32 0x00000000#32) : FVec Ideal S1024x96 .f32) (ix2 d k) = (0 : EReal) := by pointwise []
  refine (setT_at _ _ _ _ _ _ d n).trans ?_
  unfold spread
  by_cases h0 : n.val < 64
  · refine (dif_pos h0).trans ((slice_at W 0 _ d _ (by omega)).trans ?_)
    simp only [h0, ↓reduceIte]
    exact hx _ _ (by show 1536 + (0 + n.val) = 1536 + n.val; omega)
  refine (dif_neg h0).trans ?_
  simp only [h0, ↓reduceIte]
  by_cases h1 : n.val < 128
  · refine (dif_pos (show n.val - 64 < 64 by omega)).trans ((hz _).trans ?_)
    simp only [h1, ↓reduceIte]
  refine (dif_neg (show ¬ n.val - 64 < 64 by omega)).trans ?_
  simp only [h1, ↓reduceIte]
  by_cases h2 : n.val < 192
  · refine (dif_pos (show n.val - 64 - 64 < 64 by omega)).trans ((slice_at W 64 _ d _ (by show 1536 + (64 + (n.val - 64 - 64)) < 5408; omega)).trans ?_)
    simp only [h2, ↓reduceIte]
    exact hx _ _ (by show 1536 + (64 + (n.val - 64 - 64)) = 1472 + n.val; omega)
  refine (dif_neg (show ¬ n.val - 64 - 64 < 64 by omega)).trans ?_
  simp only [h2, ↓reduceIte]
  by_cases h3 : n.val < 256
  · refine (dif_pos (show n.val - 64 - 64 - 64 < 64 by omega)).trans ((hz _).trans ?_)
    simp only [h3, ↓reduceIte]
  refine (dif_neg (show ¬ n.val - 64 - 64 - 64 < 64 by omega)).trans ?_
  simp only [h3, ↓reduceIte]
  by_cases h4 : n.val < 416
  · refine (dif_pos (show n.val - 64 - 64 - 64 - 64 < 160 by omega)).trans ((tail_at W d _).trans ?_)
    simp only [h4, ↓reduceIte]
    exact hx _ _ (by show 1664 + (n.val - 64 - 64 - 64 - 64) = 1408 + n.val; omega)
  refine (dif_neg (show ¬ n.val - 64 - 64 - 64 - 64 < 160 by omega)).trans ((hz' _).trans ?_)
  simp only [h4, ↓reduceIte]

variable (m : (ℓ : Loc nD τ sig) → Buf (Elt Ideal) ℓ)

/-- The array of window 3 when the kernel starts. -/
theorem entry8 (c : Dev nD) : V m c main_v8 = (truncf .bf16 (paddedT (m ((c : Thread nD τ).loc main_arg2))) bitsLt_bf16_f32 : FVec Ideal S1024x512 .bf16) := by
  rfl

end Cert.Proof.Inproj
end
-- ==== Proof.InprojValue.lean ====
module
public import proofs.«01_k».proof.Proof.InprojBlock
public import proofs.«01_k».proof.Proof.InprojEntry

/-!
  The input projection's four arrays are the reference's results: a block's rows are rows of one sequence, and the padded weights
  give padded columns.
-/

@[expose] public section
set_option maxRecDepth 16384
noncomputable section
namespace Cert.Proof.Inproj
open Cert.Kernel4Ideal Cert.Kernel4Ideal.Gen
open Idealize.ShloMosaic Idealize.ShloMosaic.TcCoe Idealize.SL.Sem
open Idealize.ShloMosaic.Pipeline (Dat)
open Cert.Proof.Rows (tok rms)
open Cert.Proof.InprojRef (proj spread out1 out2 out3 out4)

variable (m : (ℓ : Loc nD τ sig) → Buf (Elt Ideal) ℓ)

/-- The grid's points. -/
theorem point_lt (t : Fin cfg0.N) : t.val < 64 := lt_of_lt_of_eq t.isLt (by decide +kernel)

/-- The sequence of a block. -/
abbrev seq (t : Fin cfg0.N) : Fin 8 := ⟨t.val / 8, by have := point_lt t; omega⟩

/-- The position in its sequence of a block's row. -/
abbrev pos (t : Fin cfg0.N) (r : Fin 512) : Fin 4096 := ⟨512 * (t.val % 8) + r.val, by omega⟩

/-- A block's row in the array. -/
abbrev rowAt (t : Fin cfg0.N) (r : Fin 512) : Fin 32768 := ⟨512 * t.val + r.val, by have := point_lt t; omega⟩

/-- It is a row of one sequence. -/
theorem place (t : Fin cfg0.N) (r : Fin 512) : rowAt t r = tok (seq t) (pos t r) :=
  Fin.ext (by show 512 * t.val + r.val = t.val / 8 * 4096 + (512 * (t.val % 8) + r.val); omega)

/-- The argument holding the rows. -/
abbrev argX (c : Dev nD) : Vec Ideal S8x4096x1024 .f32 := m ((c : Thread nD τ).loc main_arg0)

/-- The argument holding the gains. -/
abbrev argG (c : Dev nD) : Vec Ideal S1024 .f32 := m ((c : Thread nD τ).loc main_arg1)

/-- The argument holding the weights. -/
abbrev argW (c : Dev nD) : Vec Ideal S1024x5408 .f32 := m ((c : Thread nD τ).loc main_arg2)

/-- Window 0 holds the rows. -/
theorem block0 (c : Dev nD) (t : Fin cfg0.N) (r : Fin 512) (n : Fin 1024) :
    ((iblk m c 0 t : Vec Ideal S512x1024 .f32) (ix2 r n) : EReal) = argX m c (ix3 (seq t) (pos t r) n) := by
  blk_point [iblk, V, idx t]

/-- Window 1 holds the gains. -/
theorem block1 (c : Dev nD) (t : Fin cfg0.N) (n : Fin 1024) : ((iblk m c 1 t : Vec Ideal S1x1024 .f32) (ix2 0 n) : EReal) = argG m c (ix1 n) := by
  blk_point [iblk, V, idx t]

/-- Window 2 holds the first group's weights. -/
theorem block2 (c : Dev nD) (t : Fin cfg0.N) (d : Fin 1024) (n : Fin 1536) :
    ((iblk m c 2 t : Vec Ideal S1024x1536 .bf16) (ix2 d n) : EReal) = argW m c (ix2 d (⟨n.val, by omega⟩ : Fin 5408)) := by
  blk_point [iblk, V, idx t]

/-- Window 4 holds the third group's weights. -/
theorem block4 (c : Dev nD) (t : Fin cfg0.N) (d : Fin 1024) (n : Fin 1536) :
    ((iblk m c 4 t : Vec Ideal S1024x1536 .bf16) (ix2 d n) : EReal) = argW m c (ix2 d (⟨1824 + n.val, by omega⟩ : Fin 5408)) := by
  blk_point [iblk, V, idx t]

/-- Window 5 holds the fourth group's weights. -/
theorem block5 (c : Dev nD) (t : Fin cfg0.N) (d : Fin 1024) (n : Fin 2048) :
    ((iblk m c 5 t : Vec Ideal S1024x2048 .bf16) (ix2 d n) : EReal) = argW m c (ix2 d (⟨3360 + n.val, by omega⟩ : Fin 5408)) := by
  blk_point [iblk, V, idx t]

/-- Window 3 holds the second group's weights, set out. -/
theorem block3 (c : Dev nD) (t : Fin cfg0.N) (d : Fin 1024) (n : Fin 512) :
    ((iblk m c 3 t : Vec Ideal S1024x512 .bf16) (ix2 d n) : EReal) = spread (fun f => argW m c (ix2 d f)) n := by
  have e : (iblk m c 3 t : Vec Ideal S1024x512 .bf16) (ix2 d n) = (V m c main_v8 : Vec Ideal S1024x512 .bf16) (ix2 d n) := by
    blk_ext [iblk, idx t]
  rw [e, entry8]
  exact paddedT_at _ d n

/-- A block's normalised row is the reference's. -/
theorem h_eq (c : Dev nD) (t : Fin cfg0.N) (r : Fin 512) (d : Fin 1024) :
    hB (iblk m c 0 t) (iblk m c 1 t) r d = rms (fun k => argX m c (ix3 (seq t) (pos t r) k)) (argG m c (ix1 d)) d := by
  unfold hB
  simp only [block0, block1]

/-- The first array is the reference's first result. -/
theorem final1 (c : Dev nD) : (dats m 0 c).arrAt 6 cfg0.N = out1 (argX m c) (argG m c) (argW m c) := by
  refine (dats m 0 c).arrAt_eq_of_covers 6 _ (by decide +kernel) fun t _ y => ?_
  blk_simp
  rw [after0_6]
  have e : out1 (argX m c) (argG m c) (argW m c) (ix2 (rowAt t (y 0)) (y 1 : Fin 1536)) = _ :=
    (congrArg (fun i => out1 (argX m c) (argG m c) (argW m c) (ix2 i (y 1 : Fin 1536))) (place t (y 0))).trans (InprojRef.out1_at _ _ _ (seq t) (pos t (y 0)) (y 1))
  refine (out6_at _ _ _ _ _ _ y).trans (Eq.trans ?_ (e.symm.trans (congrArg _ ?_)))
  · exact Finset.sum_congr rfl fun d _ => congrArg₂ (fun u v : EReal => u * v) (h_eq m c t (y 0) d) (block2 m c t d (y 1))
  · blk_ext [idx t]

/-- The second array is the reference's second result. -/
theorem final2 (c : Dev nD) : (dats m 0 c).arrAt 7 cfg0.N = out2 (argX m c) (argG m c) (argW m c) := by
  refine (dats m 0 c).arrAt_eq_of_covers 7 _ (by decide +kernel) fun t _ y => ?_
  blk_simp
  rw [after0_7]
  have e : out2 (argX m c) (argG m c) (argW m c) (ix2 (rowAt t (y 0)) (y 1 : Fin 512)) = _ :=
    (congrArg (fun i => out2 (argX m c) (argG m c) (argW m c) (ix2 i (y 1 : Fin 512))) (place t (y 0))).trans (InprojRef.out2_at _ _ _ (seq t) (pos t (y 0)) (y 1))
  refine (out7_at _ _ _ _ _ _ y).trans (Eq.trans ?_ (e.symm.trans (congrArg _ ?_)))
  · exact (Finset.sum_congr rfl fun d _ => congrArg₂ (fun u v : EReal => u * v) (h_eq m c t (y 0) d) (block3 m c t d (y 1))).trans (InprojRef.sum_spread _ _ _)
  · blk_ext [idx t]

/-- The third array is the reference's third result. -/
theorem final3 (c : Dev nD) : (dats m 0 c).arrAt 8 cfg0.N = out3 (argX m c) (argG m c) (argW m c) := by
  refine (dats m 0 c).arrAt_eq_of_covers 8 _ (by decide +kernel) fun t _ y => ?_
  blk_simp
  rw [after0_8]
  have e : out3 (argX m c) (argG m c) (argW m c) (ix2 (rowAt t (y 0)) (y 1 : Fin 1536)) = _ :=
    (congrArg (fun i => out3 (argX m c) (argG m c) (argW m c) (ix2 i (y 1 : Fin 1536))) (place t (y 0))).trans (InprojRef.out3_at _ _ _ (seq t) (pos t (y 0)) (y 1))
  refine (out8_at _ _ _ _ _ _ y).trans (Eq.trans ?_ (e.symm.trans (congrArg _ ?_)))
  · exact Finset.sum_congr rfl fun d _ => congrArg₂ (fun u v : EReal => u * v) (h_eq m c t (y 0) d) (block4 m c t d (y 1))
  · blk_ext [idx t]

/-- The fourth array is the reference's fourth result. -/
theorem final4 (c : Dev nD) : (dats m 0 c).arrAt 9 cfg0.N = out4 (argX m c) (argG m c) (argW m c) := by
  refine (dats m 0 c).arrAt_eq_of_covers 9 _ (by decide +kernel) fun t _ y => ?_
  blk_simp
  rw [after0_9]
  have e : out4 (argX m c) (argG m c) (argW m c) (ix2 (rowAt t (y 0)) (y 1 : Fin 2048)) = _ :=
    (congrArg (fun i => out4 (argX m c) (argG m c) (argW m c) (ix2 i (y 1 : Fin 2048))) (place t (y 0))).trans (InprojRef.out4_at _ _ _ (seq t) (pos t (y 0)) (y 1))
  refine (out9_at _ _ _ _ _ _ y).trans (Eq.trans ?_ (e.symm.trans (congrArg _ ?_)))
  · exact congrArg sigm (Finset.sum_congr rfl fun d _ => congrArg₂ (fun u v : EReal => u * v) (h_eq m c t (y 0) d) (block5 m c t d (y 1)))
  · blk_ext [idx t]

end Cert.Proof.Inproj
end
-- ==== Proof.InprojClaims.lean ====
module

public import proofs.«01_k».proof.Defs
public import proofs.«01_k».proof.Proof.Gen.Kernel4.Frame
public import proofs.«01_k».proof.Proof.Gen.Reference4Ideal.Run
public import proofs.«01_k».proof.Proof.InprojValue
public import Idealize.ShloMosaic.Adequacy
public import Idealize.ShloMosaic.Init

/-!
  The claims about the input projection: the frames of its three programs, and the equality of its four results.
-/

@[expose] public section
noncomputable section
namespace Cert.Proof
open Idealize.ShloMosaic Idealize.ShloMosaic.TcCoe Idealize.SL.Sem

/-- The kernel as printed runs, keeps its arguments and ends with every counter at zero. -/
theorem frame_kernel4 : Cert.quiescent_Kernel4 := fun m ρ _ => Cert.Kernel4.Gen.frame m ρ

/-- So does the idealized kernel. -/
theorem frame_kernel4Ideal : Cert.quiescent_Kernel4Ideal := fun m ρ _ => Cert.Kernel4Ideal.Gen.frame m ρ

/-- So does the reference, which has no semaphore. -/
theorem frame_reference4 : Cert.quiescent_Reference4Ideal := fun m ρ _ =>
  (θ_run Cert.Reference4Ideal.defs _ _).mono (fun r h => ⟨fun c => (h c).2.2.2.2, sem_eq_zero_of_no_sems (by decide) r.2⟩)
    (Cert.Reference4Ideal.Value.run (F := Ideal) m ρ)

/-- Nothing is replaced. -/
theorem preserves4 : Cert.preserves_Kernel4_Kernel4Ideal := trivial

/-- The idealized kernel and the idealized reference, from equal arguments, end with equal results and unchanged arguments. -/
theorem algebraic4 : Cert.algebraic_Kernel4Ideal_Reference4Ideal := fun m g m' g' _ hagree =>
  ⟨fun c => InprojRef.out1 (Inproj.argX m c) (Inproj.argG m c) (Inproj.argW m c), fun c => InprojRef.out2 (Inproj.argX m c) (Inproj.argG m c) (Inproj.argW m c),
    fun c => InprojRef.out3 (Inproj.argX m c) (Inproj.argG m c) (Inproj.argW m c), fun c => InprojRef.out4 (Inproj.argX m c) (Inproj.argG m c) (Inproj.argW m c),
    (θ_run Cert.Kernel4Ideal.defs _ _).mono (fun _ h c => ⟨(h c).1.trans (Inproj.final1 m c), (h c).2.1.trans (Inproj.final2 m c),
        (h c).2.2.1.trans (Inproj.final3 m c), (h c).2.2.2.1.trans (Inproj.final4 m c), (h c).2.2.2.2⟩)
      (Cert.Kernel4Ideal.Value.run_blocks (F := Ideal) m g),
    (θ_run Cert.Reference4Ideal.defs _ _).mono (fun _ h c => by
        obtain ⟨h0, h1, h2⟩ := hagree c
        refine ⟨(h c).1.trans ?_, (h c).2.1.trans ?_, (h c).2.2.1.trans ?_, (h c).2.2.2.1.trans ?_, (h c).2.2.2.2⟩ <;> rw [h0, h1, h2] <;> rfl)
      (Cert.Reference4Ideal.Value.run (F := Ideal) m' g')⟩

end Cert.Proof
end
-- ==== Proof.lean ====
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Frames
public import proofs.«01_k».proof.Proof.Value
public import proofs.«01_k».proof.Proof.Gen.Reference2Ideal.Run
public import proofs.«01_k».proof.Proof.Gen.Kernel2Ideal.Value
public import proofs.«01_k».proof.Proof.FfnClaims
public import proofs.«01_k».proof.Proof.Gen.Reference3Ideal.Run
public import proofs.«01_k».proof.Proof.Gen.Kernel3Ideal.Value
public import proofs.«01_k».proof.Proof.MergeClaims
public import proofs.«01_k».proof.Proof.Gen.Reference4Ideal.Run
public import proofs.«01_k».proof.Proof.Gen.Kernel4Ideal.Value
public import proofs.«01_k».proof.Proof.InprojClaims
public import Idealize.ShloMosaic.Adequacy
public import Idealize.ShloMosaic.Init

/-!
  The certificate of four calls, the attention, the feed-forward layer, the merge and the input projection: of each, the frames of
  the three programs, what its idealization changes, and the equality of the idealized kernel's results with the idealized
  reference's.
-/

@[expose] public section
noncomputable section
namespace Cert.Proof
open Idealize.ShloMosaic Idealize.ShloMosaic.TcCoe Idealize.SL.Sem

/-- The idealized kernel and the idealized reference, from equal arguments, end with equal results and unchanged arguments. -/
theorem algebraic : Cert.algebraic_KernelIdeal_ReferenceIdeal := fun m g m' g' _ hagree =>
  ⟨fun c => Attn.refOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    (θ_run Cert.KernelIdeal.defs _ _).mono (fun _ h c => ⟨((h.1 c).1 3).trans (Attn.final m c), Attn.args_kept h.1 c⟩)
      (Attn.run_main (F := Ideal) m g),
    (θ_run Cert.ReferenceIdeal.defs _ _).mono (fun _ h c => ⟨(h c).1.trans ((Ref.res_eq m' c).trans (by
        rw [(hagree c).1, (hagree c).2.1, (hagree c).2.2]; rfl)), (h c).2⟩)
      (Cert.ReferenceIdeal.Value.run (F := Ideal) m' g')⟩

/-- Every claim of the certificate. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    frame_kernel, frame_kernelIdeal, frame_reference, frame_kernel2, frame_kernel2Ideal, frame_reference2,
    frame_kernel3, frame_kernel3Ideal, frame_reference3, frame_kernel4, frame_kernel4Ideal, frame_reference4,
    preserves, algebraic, preserves2, algebraic2, preserves3, algebraic3, preserves4, algebraic4⟩

end Cert.Proof
end
